-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys_KernelIdeal [hPre_finite_queries_and_keys_KernelIdeal : Cert.Pre_finite_queries_and_keys_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys_ReferenceIdeal [hPre_finite_queries_and_keys_ReferenceIdeal : Cert.Pre_finite_queries_and_keys_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_and_keys_KernelIdeal [hKernelIdeal : Cert.KernelIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_and_keys_ReferenceIdeal [hReferenceIdeal : Cert.ReferenceIdeal.Facts] [hPre_finite_queries_and_keys_ReferenceIdeal : Cert.Pre_finite_queries_and_keys_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_queries_and_keys_KernelIdeal [hKernelIdeal : Cert.KernelIdeal.Facts] [hReferenceIdeal : Cert.ReferenceIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![2048, 8, 128]⟩ ⟨3, ![8192, 8, 128]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2048, 8, 128]⟩ ⟨3, ![8192, 8, 128]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_queries_and_keys_KernelIdeal : Cert.Pre_finite_queries_and_keys_KernelIdeal.Facts) (hPre_finite_queries_and_keys_ReferenceIdeal : Cert.Pre_finite_queries_and_keys_ReferenceIdeal.Facts),
    quiescent_Kernel (hKernel := hKernel)
    ∧ quiescent_KernelIdeal (hKernelIdeal := hKernelIdeal)
    ∧ quiescent_KernelIdeal_pre_finite_queries_and_keys_KernelIdeal (hKernelIdeal := hKernelIdeal) (hPre_finite_queries_and_keys_KernelIdeal := hPre_finite_queries_and_keys_KernelIdeal)
    ∧ quiescent_ReferenceIdeal (hReferenceIdeal := hReferenceIdeal)
    ∧ quiescent_ReferenceIdeal_pre_finite_queries_and_keys_ReferenceIdeal (hReferenceIdeal := hReferenceIdeal) (hPre_finite_queries_and_keys_ReferenceIdeal := hPre_finite_queries_and_keys_ReferenceIdeal)
    ∧ preserves_Kernel_KernelIdeal
    ∧ algebraic_KernelIdeal_ReferenceIdeal_pre_finite_queries_and_keys_KernelIdeal (hKernelIdeal := hKernelIdeal) (hReferenceIdeal := hReferenceIdeal) (hPre_finite_queries_and_keys_KernelIdeal := hPre_finite_queries_and_keys_KernelIdeal)
-- ==== Pre_finite_queries_and_keys_KernelIdeal.lean ====
abbrev S512x1024 : Shape := ⟨2, ![512, 1024]⟩
abbrev S1024x1024 : Shape := ⟨2, ![1024, 1024]⟩
abbrev S2048x8x128 : Shape := ⟨3, ![2048, 8, 128]⟩
abbrev S_ : Shape := ⟨0, ![]⟩

class Facts : Prop where
  bcast_S_S512x1024 : S_.BroadcastsInDim S512x1024 (![] : Fin 0 → Fin S512x1024.rank)
  bcast_S_S1024x1024 : S_.BroadcastsInDim S1024x1024 (![] : Fin 0 → Fin S1024x1024.rank)
  bcast_S_S2048x8x128 : S_.BroadcastsInDim S2048x8x128 (![] : Fin 0 → Fin S2048x8x128.rank)

variable [Facts]

def fn {F : FTy → Type} [FloatOps F] (main_arg0 : FVec F S512x1024 .f32) (main_arg1 : FVec F S1024x1024 .f32) (main_arg2 : FVec F S2048x8x128 .f32) (main_arg3 : FVec F S2048x8x128 .f32) (main_arg4 : FVec F S1024x1024 .f32) : IVec S512x1024 1 × IVec S1024x1024 1 × IVec S2048x8x128 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S2048x8x128 .f32 := Host.absf main_arg2
  let main_cst_1 : FVec F S_ .f32 := constant S_ .f32 0x7F800000#32
  let main_v7 : FVec F S2048x8x128 .f32 := broadcastInDim S2048x8x128 ![] bcast_S_S2048x8x128 main_cst_1
  let main_v8 : IVec S2048x8x128 1 := cmpf .olt main_v6 main_v7
  (main_v2, main_v5, main_v8)
-- ==== Pre_finite_queries_and_keys_ReferenceIdeal.lean ====
abbrev S512x1024 : Shape := ⟨2, ![512, 1024]⟩
abbrev S1024x1024 : Shape := ⟨2, ![1024, 1024]⟩
abbrev S8192x8x128 : Shape := ⟨3, ![8192, 8, 128]⟩
abbrev S_ : Shape := ⟨0, ![]⟩

class Facts : Prop where
  bcast_S_S512x1024 : S_.BroadcastsInDim S512x1024 (![] : Fin 0 → Fin S512x1024.rank)
  bcast_S_S1024x1024 : S_.BroadcastsInDim S1024x1024 (![] : Fin 0 → Fin S1024x1024.rank)
  bcast_S_S8192x8x128 : S_.BroadcastsInDim S8192x8x128 (![] : Fin 0 → Fin S8192x8x128.rank)

variable [Facts]

def fn {F : FTy → Type} [FloatOps F] (main_arg0 : FVec F S512x1024 .f32) (main_arg1 : FVec F S1024x1024 .f32) (main_arg2 : FVec F S8192x8x128 .f32) (main_arg3 : FVec F S8192x8x128 .f32) (main_arg4 : FVec F S1024x1024 .f32) : IVec S512x1024 1 × IVec S1024x1024 1 × IVec S8192x8x128 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S8192x8x128 .f32 := Host.absf main_arg2
  let main_cst_1 : FVec F S_ .f32 := constant S_ .f32 0x7F800000#32
  let main_v7 : FVec F S8192x8x128 .f32 := broadcastInDim S8192x8x128 ![] bcast_S_S8192x8x128 main_cst_1
  let main_v8 : IVec S8192x8x128 1 := cmpf .olt main_v6 main_v7
  (main_v2, main_v5, main_v8)
-- ==== Kernel.lean ====
abbrev S512x1024 : Shape := ⟨2, ![512, 1024]⟩
abbrev S1024x1024 : Shape := ⟨2, ![1024, 1024]⟩
abbrev S2048x8x128 : Shape := ⟨3, ![2048, 8, 128]⟩
abbrev S512x8 : Shape := ⟨2, ![512, 8]⟩
abbrev S3x128x1024 : Shape := ⟨3, ![3, 128, 1024]⟩
abbrev S3x128x16 : Shape := ⟨3, ![3, 128, 16]⟩
abbrev S3 : Shape := ⟨1, ![3]⟩
abbrev S_ : Shape := ⟨0, ![]⟩
abbrev S8x1024 : Shape := ⟨2, ![8, 1024]⟩
abbrev S128x1024 : Shape := ⟨2, ![128, 1024]⟩
abbrev S128x128 : Shape := ⟨2, ![128, 128]⟩
abbrev S128x1 : Shape := ⟨2, ![128, 1]⟩
abbrev S1024x1x128 : Shape := ⟨3, ![1024, 1, 128]⟩
abbrev S1024x128 : Shape := ⟨2, ![1024, 128]⟩
abbrev S128 : Shape := ⟨1, ![128]⟩
abbrev S128x8 : Shape := ⟨2, ![128, 8]⟩
abbrev S1x128x8 : Shape := ⟨3, ![1, 128, 8]⟩
abbrev S1 : Shape := ⟨1, ![1]⟩
abbrev S1x128x1024 : Shape := ⟨3, ![1, 128, 1024]⟩
abbrev S1x128x16 : Shape := ⟨3, ![1, 128, 16]⟩
abbrev S128x16 : Shape := ⟨2, ![128, 16]⟩

abbrev nBuf : Space → Nat
  | .hbm => 6
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S2048x8x128, .f32⟩
  | .hbm, ⟨3, _⟩ => ⟨S2048x8x128, .f32⟩
  | .hbm, ⟨4, _⟩ => ⟨S1024x1024, .f32⟩
  | .hbm, ⟨5, _⟩ => ⟨S512x1024, .f32⟩
  | .local _ .vmem, ⟨0, _⟩ => ⟨S512x1024, .f32⟩
  | .local _ .vmem, ⟨1, _⟩ => ⟨S1024x1024, .f32⟩
  | .local _ .vmem, ⟨2, _⟩ => ⟨S1024x1024, .f32⟩
  | .local _ .vmem, ⟨3, _⟩ => ⟨S2048x8x128, .f32⟩
  | .local _ .vmem, ⟨4, _⟩ => ⟨S2048x8x128, .f32⟩
  | .local _ .vmem, ⟨5, _⟩ => ⟨S512x1024, .f32⟩
  | .local _ .vmem, ⟨6, _⟩ => ⟨S512x1024, .f32⟩
  | .local _ .vmem, ⟨7, _⟩ => ⟨S512x8, .f32⟩
  | .local _ .vmem, ⟨8, _⟩ => ⟨S512x8, .f32⟩
  | .local _ .vmem, ⟨9, _⟩ => ⟨S3x128x1024, .f32⟩
  | .local _ .vmem, ⟨10, _⟩ => ⟨S3x128x16, .f32⟩
  | .local _ .vmem, ⟨11, _⟩ => ⟨S3x128x16, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v50 : Index := Scalar.indexCast v49
  let c0_22 : Index := 0#32
  ![v50.toNat, 0]
@[reducible] def k0_t1_loop : Scf.Loop 32 :=
  let c0_i32_28 : BitVec 32 := 0#32
  let c2_i32_29 : BitVec 32 := 2#32
  let v59 : BitVec 32 := Scalar.addi c0_i32_28 c2_i32_29
  let c1_i32_30 : BitVec 32 := 1#32
  ⟨c0_i32_28, v59, c1_i32_30⟩
def k0_off2 (k0_t1 : Fin k0_t1_loop.trips) : Fin 3 → Nat :=
  let c0_i32_28 : BitVec 32 := 0#32
  let c1_i32_30 : BitVec 32 := 1#32
  let arg18 : BitVec 32 := Scf.iv c0_i32_28 c1_i32_30 k0_t1
  let c1024_i32 : BitVec 32 := 1024#32
  let v866 : BitVec 32 := Scalar.muli arg18 c1024_i32
  let v867 : Index := Scalar.indexCast v866
  let c0_609 : Index := 0#32
  let c0_610 : Index := 0#32
  ![v867.toNat, 0, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v888 : Index := Scalar.indexCast v49
  let c0_617 : Index := 0#32
  ![v888.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v61 : Index := Scalar.indexCast v49
  let c0_32 : Index := 0#32
  ![v61.toNat, 0]
@[reducible] def k0_t2_loop : Scf.Loop 32 :=
  let c0_i32_36 : BitVec 32 := 0#32
  let c2_i32_37 : BitVec 32 := 2#32
  let v72 : BitVec 32 := Scalar.addi c0_i32_36 c2_i32_37
  let c1_i32_38 : BitVec 32 := 1#32
  ⟨c0_i32_36, v72, c1_i32_38⟩
def k0_off5 (k0_t2 : Fin k0_t2_loop.trips) : Fin 3 → Nat :=
  let c0_i32_36 : BitVec 32 := 0#32
  let c1_i32_38 : BitVec 32 := 1#32
  let arg18 : BitVec 32 := Scf.iv c0_i32_36 c1_i32_38 k0_t2
  let c1024_i32 : BitVec 32 := 1024#32
  let v866 : BitVec 32 := Scalar.muli arg18 c1024_i32
  let v867 : Index := Scalar.indexCast v866
  let c1_609 : Index := 1#32
  let c0_610 : Index := 0#32
  ![v867.toNat, 1, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v888 : Index := Scalar.indexCast v49
  let c128 : Index := 128#32
  ![v888.toNat, 128]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v74 : Index := Scalar.indexCast v49
  let c1 : Index := 1#32
  ![v74.toNat, 1]
@[reducible] def k0_t3_loop : Scf.Loop 32 :=
  let c0_i32_43 : BitVec 32 := 0#32
  let c2_i32_44 : BitVec 32 := 2#32
  let v85 : BitVec 32 := Scalar.addi c0_i32_43 c2_i32_44
  let c1_i32_45 : BitVec 32 := 1#32
  ⟨c0_i32_43, v85, c1_i32_45⟩
def k0_off8 (k0_t3 : Fin k0_t3_loop.trips) : Fin 3 → Nat :=
  let c0_i32_43 : BitVec 32 := 0#32
  let c1_i32_45 : BitVec 32 := 1#32
  let arg18 : BitVec 32 := Scf.iv c0_i32_43 c1_i32_45 k0_t3
  let c1024_i32 : BitVec 32 := 1024#32
  let v866 : BitVec 32 := Scalar.muli arg18 c1024_i32
  let v867 : Index := Scalar.indexCast v866
  let c2_609 : Index := 2#32
  let c0_610 : Index := 0#32
  ![v867.toNat, 2, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v888 : Index := Scalar.indexCast v49
  let c256 : Index := 256#32
  ![v888.toNat, 256]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v87 : Index := Scalar.indexCast v49
  let c2 : Index := 2#32
  ![v87.toNat, 2]
@[reducible] def k0_t4_loop : Scf.Loop 32 :=
  let c0_i32_50 : BitVec 32 := 0#32
  let c2_i32_51 : BitVec 32 := 2#32
  let v98 : BitVec 32 := Scalar.addi c0_i32_50 c2_i32_51
  let c1_i32_52 : BitVec 32 := 1#32
  ⟨c0_i32_50, v98, c1_i32_52⟩
def k0_off11 (k0_t4 : Fin k0_t4_loop.trips) : Fin 3 → Nat :=
  let c0_i32_50 : BitVec 32 := 0#32
  let c1_i32_52 : BitVec 32 := 1#32
  let arg18 : BitVec 32 := Scf.iv c0_i32_50 c1_i32_52 k0_t4
  let c1024_i32 : BitVec 32 := 1024#32
  let v866 : BitVec 32 := Scalar.muli arg18 c1024_i32
  let v867 : Index := Scalar.indexCast v866
  let c3_609 : Index := 3#32
  let c0_610 : Index := 0#32
  ![v867.toNat, 3, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v888 : Index := Scalar.indexCast v49
  let c384 : Index := 384#32
  ![v888.toNat, 384]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v100 : Index := Scalar.indexCast v49
  let c3 : Index := 3#32
  ![v100.toNat, 3]
@[reducible] def k0_t5_loop : Scf.Loop 32 :=
  let c0_i32_57 : BitVec 32 := 0#32
  let c2_i32_58 : BitVec 32 := 2#32
  let v111 : BitVec 32 := Scalar.addi c0_i32_57 c2_i32_58
  let c1_i32_59 : BitVec 32 := 1#32
  ⟨c0_i32_57, v111, c1_i32_59⟩
def k0_off14 (k0_t5 : Fin k0_t5_loop.trips) : Fin 3 → Nat :=
  let c0_i32_57 : BitVec 32 := 0#32
  let c1_i32_59 : BitVec 32 := 1#32
  let arg18 : BitVec 32 := Scf.iv c0_i32_57 c1_i32_59 k0_t5
  let c1024_i32 : BitVec 32 := 1024#32
  let v866 : BitVec 32 := Scalar.muli arg18 c1024_i32
  let v867 : Index := Scalar.indexCast v866
  let c4_609 : Index := 4#32
  let c0_610 : Index := 0#32
  ![v867.toNat, 4, 0]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v888 : Index := Scalar.indexCast v49
  let c512 : Index := 512#32
  ![v888.toNat, 512]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v113 : Index := Scalar.indexCast v49
  let c4 : Index := 4#32
  ![v113.toNat, 4]
@[reducible] def k0_t6_loop : Scf.Loop 32 :=
  let c0_i32_64 : BitVec 32 := 0#32
  let c2_i32_65 : BitVec 32 := 2#32
  let v124 : BitVec 32 := Scalar.addi c0_i32_64 c2_i32_65
  let c1_i32_66 : BitVec 32 := 1#32
  ⟨c0_i32_64, v124, c1_i32_66⟩
def k0_off17 (k0_t6 : Fin k0_t6_loop.trips) : Fin 3 → Nat :=
  let c0_i32_64 : BitVec 32 := 0#32
  let c1_i32_66 : BitVec 32 := 1#32
  let arg18 : BitVec 32 := Scf.iv c0_i32_64 c1_i32_66 k0_t6
  let c1024_i32 : BitVec 32 := 1024#32
  let v866 : BitVec 32 := Scalar.muli arg18 c1024_i32
  let v867 : Index := Scalar.indexCast v866
  let c5_609 : Index := 5#32
  let c0_610 : Index := 0#32
  ![v867.toNat, 5, 0]
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v888 : Index := Scalar.indexCast v49
  let c640 : Index := 640#32
  ![v888.toNat, 640]
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v126 : Index := Scalar.indexCast v49
  let c5 : Index := 5#32
  ![v126.toNat, 5]
@[reducible] def k0_t7_loop : Scf.Loop 32 :=
  let c0_i32_71 : BitVec 32 := 0#32
  let c2_i32_72 : BitVec 32 := 2#32
  let v137 : BitVec 32 := Scalar.addi c0_i32_71 c2_i32_72
  let c1_i32_73 : BitVec 32 := 1#32
  ⟨c0_i32_71, v137, c1_i32_73⟩
def k0_off20 (k0_t7 : Fin k0_t7_loop.trips) : Fin 3 → Nat :=
  let c0_i32_71 : BitVec 32 := 0#32
  let c1_i32_73 : BitVec 32 := 1#32
  let arg18 : BitVec 32 := Scf.iv c0_i32_71 c1_i32_73 k0_t7
  let c1024_i32 : BitVec 32 := 1024#32
  let v866 : BitVec 32 := Scalar.muli arg18 c1024_i32
  let v867 : Index := Scalar.indexCast v866
  let c6_609 : Index := 6#32
  let c0_610 : Index := 0#32
  ![v867.toNat, 6, 0]
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v888 : Index := Scalar.indexCast v49
  let c768 : Index := 768#32
  ![v888.toNat, 768]
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v139 : Index := Scalar.indexCast v49
  let c6 : Index := 6#32
  ![v139.toNat, 6]
@[reducible] def k0_t8_loop : Scf.Loop 32 :=
  let c0_i32_78 : BitVec 32 := 0#32
  let c2_i32_79 : BitVec 32 := 2#32
  let v150 : BitVec 32 := Scalar.addi c0_i32_78 c2_i32_79
  let c1_i32_80 : BitVec 32 := 1#32
  ⟨c0_i32_78, v150, c1_i32_80⟩
def k0_off23 (k0_t8 : Fin k0_t8_loop.trips) : Fin 3 → Nat :=
  let c0_i32_78 : BitVec 32 := 0#32
  let c1_i32_80 : BitVec 32 := 1#32
  let arg18 : BitVec 32 := Scf.iv c0_i32_78 c1_i32_80 k0_t8
  let c1024_i32 : BitVec 32 := 1024#32
  let v866 : BitVec 32 := Scalar.muli arg18 c1024_i32
  let v867 : Index := Scalar.indexCast v866
  let c7_609 : Index := 7#32
  let c0_610 : Index := 0#32
  ![v867.toNat, 7, 0]
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v888 : Index := Scalar.indexCast v49
  let c896 : Index := 896#32
  ![v888.toNat, 896]
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_21 : BitVec 32 := 128#32
  let v49 : BitVec 32 := Scalar.muli v2 c128_i32_21
  let v152 : Index := Scalar.indexCast v49
  let c7 : Index := 7#32
  ![v152.toNat, 7]
def k0_off26 (d0 : Dev nD) (c0_i32_83 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v160 : BitVec 32 := Scalar.subi v2 c0_i32_83
  let c4_i32_84 : BitVec 32 := 4#32
  let v161 : BitVec 32 := Scalar.addi v160 c4_i32_84
  let c4_i32_85 : BitVec 32 := 4#32
  let v162 : BitVec 32 := Scalar.remsi v161 c4_i32_85
  let c128_i32_90 : BitVec 32 := 128#32
  let v167 : BitVec 32 := Scalar.muli v162 c128_i32_90
  let v168 : Index := Scalar.indexCast v167
  let c0_91 : Index := 0#32
  ![v168.toNat, 0]
def k0_off27 (d0 : Dev nD) (c0_i32_83 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v160 : BitVec 32 := Scalar.subi v2 c0_i32_83
  let c4_i32_84 : BitVec 32 := 4#32
  let v161 : BitVec 32 := Scalar.addi v160 c4_i32_84
  let c4_i32_85 : BitVec 32 := 4#32
  let v162 : BitVec 32 := Scalar.remsi v161 c4_i32_85
  let c128_i32_90 : BitVec 32 := 128#32
  let v167 : BitVec 32 := Scalar.muli v162 c128_i32_90
  let c0_i32_105 : BitVec 32 := 0#32
  ![v167.toNat, 0]
def k0_dev3 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_101 : BitVec 32 := 1#32
  let v178 : BitVec 32 := Scalar.muli v7 c1_i32_101
  let v179 : BitVec 32 := Scalar.addi c0_i32_102 v178
  v179.toNat
def k0_dev4 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_110 : BitVec 32 := 1#32
  let v187 : BitVec 32 := Scalar.muli v7 c1_i32_110
  let v188 : BitVec 32 := Scalar.addi c0_i32_111 v187
  v188.toNat
def k0_off28 (d0 : Dev nD) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v198 : Index := Scalar.indexCast v197
  let c0_117 : Index := 0#32
  ![v198.toNat, 0]
@[reducible] def k0_t9_loop : Scf.Loop 32 :=
  let c0_i32_123 : BitVec 32 := 0#32
  let c2_i32_124 : BitVec 32 := 2#32
  let v207 : BitVec 32 := Scalar.addi c0_i32_123 c2_i32_124
  let c1_i32_125 : BitVec 32 := 1#32
  ⟨c0_i32_123, v207, c1_i32_125⟩
def k0_off29 (k0_t9 : Fin k0_t9_loop.trips) : Fin 3 → Nat :=
  let c0_i32_123 : BitVec 32 := 0#32
  let c1_i32_125 : BitVec 32 := 1#32
  let arg18 : BitVec 32 := Scf.iv c0_i32_123 c1_i32_125 k0_t9
  let c1024_i32 : BitVec 32 := 1024#32
  let v866 : BitVec 32 := Scalar.muli arg18 c1024_i32
  let v867 : Index := Scalar.indexCast v866
  let c0_609 : Index := 0#32
  let c0_610 : Index := 0#32
  ![v867.toNat, 0, 0]
def k0_off30 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_86 : BitVec 32 := 0#32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v888 : Index := Scalar.indexCast v197
  let c0_617 : Index := 0#32
  ![v888.toNat, 0]
def k0_off31 (d0 : Dev nD) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v209 : Index := Scalar.indexCast v197
  let c0_127 : Index := 0#32
  ![v209.toNat, 0]
@[reducible] def k0_t10_loop : Scf.Loop 32 :=
  let c0_i32_131 : BitVec 32 := 0#32
  let c2_i32_132 : BitVec 32 := 2#32
  let v220 : BitVec 32 := Scalar.addi c0_i32_131 c2_i32_132
  let c1_i32_133 : BitVec 32 := 1#32
  ⟨c0_i32_131, v220, c1_i32_133⟩
def k0_off32 (k0_t10 : Fin k0_t10_loop.trips) : Fin 3 → Nat :=
  let c0_i32_131 : BitVec 32 := 0#32
  let c1_i32_133 : BitVec 32 := 1#32
  let arg18 : BitVec 32 := Scf.iv c0_i32_131 c1_i32_133 k0_t10
  let c1024_i32 : BitVec 32 := 1024#32
  let v866 : BitVec 32 := Scalar.muli arg18 c1024_i32
  let v867 : Index := Scalar.indexCast v866
  let c1_609 : Index := 1#32
  let c0_610 : Index := 0#32
  ![v867.toNat, 1, 0]
def k0_off33 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_86 : BitVec 32 := 0#32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v888 : Index := Scalar.indexCast v197
  let c128 : Index := 128#32
  ![v888.toNat, 128]
def k0_off34 (d0 : Dev nD) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v222 : Index := Scalar.indexCast v197
  let c1_135 : Index := 1#32
  ![v222.toNat, 1]
@[reducible] def k0_t11_loop : Scf.Loop 32 :=
  let c0_i32_139 : BitVec 32 := 0#32
  let c2_i32_140 : BitVec 32 := 2#32
  let v233 : BitVec 32 := Scalar.addi c0_i32_139 c2_i32_140
  let c1_i32_141 : BitVec 32 := 1#32
  ⟨c0_i32_139, v233, c1_i32_141⟩
def k0_off35 (k0_t11 : Fin k0_t11_loop.trips) : Fin 3 → Nat :=
  let c0_i32_139 : BitVec 32 := 0#32
  let c1_i32_141 : BitVec 32 := 1#32
  let arg18 : BitVec 32 := Scf.iv c0_i32_139 c1_i32_141 k0_t11
  let c1024_i32 : BitVec 32 := 1024#32
  let v866 : BitVec 32 := Scalar.muli arg18 c1024_i32
  let v867 : Index := Scalar.indexCast v866
  let c2_609 : Index := 2#32
  let c0_610 : Index := 0#32
  ![v867.toNat, 2, 0]
def k0_off36 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_86 : BitVec 32 := 0#32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v888 : Index := Scalar.indexCast v197
  let c256 : Index := 256#32
  ![v888.toNat, 256]
def k0_off37 (d0 : Dev nD) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v235 : Index := Scalar.indexCast v197
  let c2_143 : Index := 2#32
  ![v235.toNat, 2]
@[reducible] def k0_t12_loop : Scf.Loop 32 :=
  let c0_i32_147 : BitVec 32 := 0#32
  let c2_i32_148 : BitVec 32 := 2#32
  let v246 : BitVec 32 := Scalar.addi c0_i32_147 c2_i32_148
  let c1_i32_149 : BitVec 32 := 1#32
  ⟨c0_i32_147, v246, c1_i32_149⟩
def k0_off38 (k0_t12 : Fin k0_t12_loop.trips) : Fin 3 → Nat :=
  let c0_i32_147 : BitVec 32 := 0#32
  let c1_i32_149 : BitVec 32 := 1#32
  let arg18 : BitVec 32 := Scf.iv c0_i32_147 c1_i32_149 k0_t12
  let c1024_i32 : BitVec 32 := 1024#32
  let v866 : BitVec 32 := Scalar.muli arg18 c1024_i32
  let v867 : Index := Scalar.indexCast v866
  let c3_609 : Index := 3#32
  let c0_610 : Index := 0#32
  ![v867.toNat, 3, 0]
def k0_off39 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_86 : BitVec 32 := 0#32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v888 : Index := Scalar.indexCast v197
  let c384 : Index := 384#32
  ![v888.toNat, 384]
def k0_off40 (d0 : Dev nD) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v248 : Index := Scalar.indexCast v197
  let c3_151 : Index := 3#32
  ![v248.toNat, 3]
@[reducible] def k0_t13_loop : Scf.Loop 32 :=
  let c0_i32_155 : BitVec 32 := 0#32
  let c2_i32_156 : BitVec 32 := 2#32
  let v259 : BitVec 32 := Scalar.addi c0_i32_155 c2_i32_156
  let c1_i32_157 : BitVec 32 := 1#32
  ⟨c0_i32_155, v259, c1_i32_157⟩
def k0_off41 (k0_t13 : Fin k0_t13_loop.trips) : Fin 3 → Nat :=
  let c0_i32_155 : BitVec 32 := 0#32
  let c1_i32_157 : BitVec 32 := 1#32
  let arg18 : BitVec 32 := Scf.iv c0_i32_155 c1_i32_157 k0_t13
  let c1024_i32 : BitVec 32 := 1024#32
  let v866 : BitVec 32 := Scalar.muli arg18 c1024_i32
  let v867 : Index := Scalar.indexCast v866
  let c4_609 : Index := 4#32
  let c0_610 : Index := 0#32
  ![v867.toNat, 4, 0]
def k0_off42 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_86 : BitVec 32 := 0#32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v888 : Index := Scalar.indexCast v197
  let c512 : Index := 512#32
  ![v888.toNat, 512]
def k0_off43 (d0 : Dev nD) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v261 : Index := Scalar.indexCast v197
  let c4_159 : Index := 4#32
  ![v261.toNat, 4]
@[reducible] def k0_t14_loop : Scf.Loop 32 :=
  let c0_i32_163 : BitVec 32 := 0#32
  let c2_i32_164 : BitVec 32 := 2#32
  let v272 : BitVec 32 := Scalar.addi c0_i32_163 c2_i32_164
  let c1_i32_165 : BitVec 32 := 1#32
  ⟨c0_i32_163, v272, c1_i32_165⟩
def k0_off44 (k0_t14 : Fin k0_t14_loop.trips) : Fin 3 → Nat :=
  let c0_i32_163 : BitVec 32 := 0#32
  let c1_i32_165 : BitVec 32 := 1#32
  let arg18 : BitVec 32 := Scf.iv c0_i32_163 c1_i32_165 k0_t14
  let c1024_i32 : BitVec 32 := 1024#32
  let v866 : BitVec 32 := Scalar.muli arg18 c1024_i32
  let v867 : Index := Scalar.indexCast v866
  let c5_609 : Index := 5#32
  let c0_610 : Index := 0#32
  ![v867.toNat, 5, 0]
def k0_off45 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_86 : BitVec 32 := 0#32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v888 : Index := Scalar.indexCast v197
  let c640 : Index := 640#32
  ![v888.toNat, 640]
def k0_off46 (d0 : Dev nD) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v274 : Index := Scalar.indexCast v197
  let c5_167 : Index := 5#32
  ![v274.toNat, 5]
@[reducible] def k0_t15_loop : Scf.Loop 32 :=
  let c0_i32_171 : BitVec 32 := 0#32
  let c2_i32_172 : BitVec 32 := 2#32
  let v285 : BitVec 32 := Scalar.addi c0_i32_171 c2_i32_172
  let c1_i32_173 : BitVec 32 := 1#32
  ⟨c0_i32_171, v285, c1_i32_173⟩
def k0_off47 (k0_t15 : Fin k0_t15_loop.trips) : Fin 3 → Nat :=
  let c0_i32_171 : BitVec 32 := 0#32
  let c1_i32_173 : BitVec 32 := 1#32
  let arg18 : BitVec 32 := Scf.iv c0_i32_171 c1_i32_173 k0_t15
  let c1024_i32 : BitVec 32 := 1024#32
  let v866 : BitVec 32 := Scalar.muli arg18 c1024_i32
  let v867 : Index := Scalar.indexCast v866
  let c6_609 : Index := 6#32
  let c0_610 : Index := 0#32
  ![v867.toNat, 6, 0]
def k0_off48 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_86 : BitVec 32 := 0#32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v888 : Index := Scalar.indexCast v197
  let c768 : Index := 768#32
  ![v888.toNat, 768]
def k0_off49 (d0 : Dev nD) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v287 : Index := Scalar.indexCast v197
  let c6_175 : Index := 6#32
  ![v287.toNat, 6]
@[reducible] def k0_t16_loop : Scf.Loop 32 :=
  let c0_i32_179 : BitVec 32 := 0#32
  let c2_i32_180 : BitVec 32 := 2#32
  let v298 : BitVec 32 := Scalar.addi c0_i32_179 c2_i32_180
  let c1_i32_181 : BitVec 32 := 1#32
  ⟨c0_i32_179, v298, c1_i32_181⟩
def k0_off50 (k0_t16 : Fin k0_t16_loop.trips) : Fin 3 → Nat :=
  let c0_i32_179 : BitVec 32 := 0#32
  let c1_i32_181 : BitVec 32 := 1#32
  let arg18 : BitVec 32 := Scf.iv c0_i32_179 c1_i32_181 k0_t16
  let c1024_i32 : BitVec 32 := 1024#32
  let v866 : BitVec 32 := Scalar.muli arg18 c1024_i32
  let v867 : Index := Scalar.indexCast v866
  let c7_609 : Index := 7#32
  let c0_610 : Index := 0#32
  ![v867.toNat, 7, 0]
def k0_off51 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_86 : BitVec 32 := 0#32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v888 : Index := Scalar.indexCast v197
  let c896 : Index := 896#32
  ![v888.toNat, 896]
def k0_off52 (d0 : Dev nD) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_116 : BitVec 32 := 128#32
  let v197 : BitVec 32 := Scalar.muli v166 c128_i32_116
  let v300 : Index := Scalar.indexCast v197
  let c7_183 : Index := 7#32
  ![v300.toNat, 7]
def k0_off53 (d0 : Dev nD) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v163 : BitVec 32 := Scalar.subi v2 c0_i32_86
  let c1_i32_87 : BitVec 32 := 1#32
  let v164 : BitVec 32 := Scalar.subi v163 c1_i32_87
  let c4_i32_88 : BitVec 32 := 4#32
  let v165 : BitVec 32 := Scalar.addi v164 c4_i32_88
  let c4_i32_89 : BitVec 32 := 4#32
  let v166 : BitVec 32 := Scalar.remsi v165 c4_i32_89
  let c128_i32_219 : BitVec 32 := 128#32
  let v334 : BitVec 32 := Scalar.muli v166 c128_i32_219
  let v335 : Index := Scalar.indexCast v334
  let c0_220 : Index := 0#32
  ![v335.toNat, 0]
def k0_dev5 (d0 : Dev nD) : Nat :=
  let c0_i32_257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_256 : BitVec 32 := 1#32
  let v390 : BitVec 32 := Scalar.muli v7 c1_i32_256
  let v391 : BitVec 32 := Scalar.addi c0_i32_257 v390
  v391.toNat
def k0_dev6 (d0 : Dev nD) : Nat :=
  let c0_i32_266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_265 : BitVec 32 := 1#32
  let v399 : BitVec 32 := Scalar.muli v7 c1_i32_265
  let v400 : BitVec 32 := Scalar.addi c0_i32_266 v399
  v400.toNat
@[reducible] def k0_t17_loop : Scf.Loop 32 :=
  let c0_i32_278 : BitVec 32 := 0#32
  let c2_i32_279 : BitVec 32 := 2#32
  let v419 : BitVec 32 := Scalar.addi c0_i32_278 c2_i32_279
  let c1_i32_280 : BitVec 32 := 1#32
  ⟨c0_i32_278, v419, c1_i32_280⟩
def k0_off54 (k0_t17 : Fin k0_t17_loop.trips) : Fin 3 → Nat :=
  let c0_i32_278 : BitVec 32 := 0#32
  let c1_i32_280 : BitVec 32 := 1#32
  let arg18 : BitVec 32 := Scf.iv c0_i32_278 c1_i32_280 k0_t17
  let c1024_i32 : BitVec 32 := 1024#32
  let v866 : BitVec 32 := Scalar.muli arg18 c1024_i32
  let v867 : Index := Scalar.indexCast v866
  let c0_609 : Index := 0#32
  let c0_610 : Index := 0#32
  ![v867.toNat, 0, 0]
def k0_off55 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_240 : BitVec 32 := 1#32
  let v375 : BitVec 32 := Scalar.subi v2 c1_i32_240
  let c1_i32_241 : BitVec 32 := 1#32
  let v376 : BitVec 32 := Scalar.subi v375 c1_i32_241
  let c4_i32_242 : BitVec 32 := 4#32
  let v377 : BitVec 32 := Scalar.addi v376 c4_i32_242
  let c4_i32_243 : BitVec 32 := 4#32
  let v378 : BitVec 32 := Scalar.remsi v377 c4_i32_243
  let c128_i32_271 : BitVec 32 := 128#32
  let v409 : BitVec 32 := Scalar.muli v378 c128_i32_271
  let v888 : Index := Scalar.indexCast v409
  let c0_617 : Index := 0#32
  ![v888.toNat, 0]
@[reducible] def k0_t18_loop : Scf.Loop 32 :=
  let c0_i32_286 : BitVec 32 := 0#32
  let c2_i32_287 : BitVec 32 := 2#32
  let v432 : BitVec 32 := Scalar.addi c0_i32_286 c2_i32_287
  let c1_i32_288 : BitVec 32 := 1#32
  ⟨c0_i32_286, v432, c1_i32_288⟩
def k0_off56 (k0_t18 : Fin k0_t18_loop.trips) : Fin 3 → Nat :=
  let c0_i32_286 : BitVec 32 := 0#32
  let c1_i32_288 : BitVec 32 := 1#32
  let arg18 : BitVec 32 := Scf.iv c0_i32_286 c1_i32_288 k0_t18
  let c1024_i32 : BitVec 32 := 1024#32
  let v866 : BitVec 32 := Scalar.muli arg18 c1024_i32
  let v867 : Index := Scalar.indexCast v866
  let c1_609 : Index := 1#32
  let c0_610 : Index := 0#32
  ![v867.toNat, 1, 0]
def k0_off57 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_240 : BitVec 32 := 1#32
  let v375 : BitVec 32 := Scalar.subi v2 c1_i32_240
  let c1_i32_241 : BitVec 32 := 1#32
  let v376 : BitVec 32 := Scalar.subi v375 c1_i32_241
  let c4_i32_242 : BitVec 32 := 4#32
  let v377 : BitVec 32 := Scalar.addi v376 c4_i32_242
  let c4_i32_243 : BitVec 32 := 4#32
  let v378 : BitVec 32 := Scalar.remsi v377 c4_i32_243
  let c128_i32_271 : BitVec 32 := 128#32
  let v409 : BitVec 32 := Scalar.muli v378 c128_i32_271
  let v888 : Index := Scalar.indexCast v409
  let c128 : Index := 128#32
  ![v888.toNat, 128]
@[reducible] def k0_t19_loop : Scf.Loop 32 :=
  let c0_i32_294 : BitVec 32 := 0#32
  let c2_i32_295 : BitVec 32 := 2#32
  let v445 : BitVec 32 := Scalar.addi c0_i32_294 c2_i32_295
  let c1_i32_296 : BitVec 32 := 1#32
  ⟨c0_i32_294, v445, c1_i32_296⟩
def k0_off58 (k0_t19 : Fin k0_t19_loop.trips) : Fin 3 → Nat :=
  let c0_i32_294 : BitVec 32 := 0#32
  let c1_i32_296 : BitVec 32 := 1#32
  let arg18 : BitVec 32 := Scf.iv c0_i32_294 c1_i32_296 k0_t19
  let c1024_i32 : BitVec 32 := 1024#32
  let v866 : BitVec 32 := Scalar.muli arg18 c1024_i32
  let v867 : Index := Scalar.indexCast v866
  let c2_609 : Index := 2#32
  let c0_610 : Index := 0#32
  ![v867.toNat, 2, 0]
def k0_off59 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_240 : BitVec 32 := 1#32
  let v375 : BitVec 32 := Scalar.subi v2 c1_i32_240
  let c1_i32_241 : BitVec 32 := 1#32
  let v376 : BitVec 32 := Scalar.subi v375 c1_i32_241
  let c4_i32_242 : BitVec 32 := 4#32
  let v377 : BitVec 32 := Scalar.addi v376 c4_i32_242
  let c4_i32_243 : BitVec 32 := 4#32
  let v378 : BitVec 32 := Scalar.remsi v377 c4_i32_243
  let c128_i32_271 : BitVec 32 := 128#32
  let v409 : BitVec 32 := Scalar.muli v378 c128_i32_271
  let v888 : Index := Scalar.indexCast v409
  let c256 : Index := 256#32
  ![v888.toNat, 256]
@[reducible] def k0_t20_loop : Scf.Loop 32 :=
  let c0_i32_302 : BitVec 32 := 0#32
  let c2_i32_303 : BitVec 32 := 2#32
  let v458 : BitVec 32 := Scalar.addi c0_i32_302 c2_i32_303
  let c1_i32_304 : BitVec 32 := 1#32
  ⟨c0_i32_302, v458, c1_i32_304⟩
def k0_off60 (k0_t20 : Fin k0_t20_loop.trips) : Fin 3 → Nat :=
  let c0_i32_302 : BitVec 32 := 0#32
  let c1_i32_304 : BitVec 32 := 1#32
  let arg18 : BitVec 32 := Scf.iv c0_i32_302 c1_i32_304 k0_t20
  let c1024_i32 : BitVec 32 := 1024#32
  let v866 : BitVec 32 := Scalar.muli arg18 c1024_i32
  let v867 : Index := Scalar.indexCast v866
  let c3_609 : Index := 3#32
  let c0_610 : Index := 0#32
  ![v867.toNat, 3, 0]
def k0_off61 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_240 : BitVec 32 := 1#32
  let v375 : BitVec 32 := Scalar.subi v2 c1_i32_240
  let c1_i32_241 : BitVec 32 := 1#32
  let v376 : BitVec 32 := Scalar.subi v375 c1_i32_241
  let c4_i32_242 : BitVec 32 := 4#32
  let v377 : BitVec 32 := Scalar.addi v376 c4_i32_242
  let c4_i32_243 : BitVec 32 := 4#32
  let v378 : BitVec 32 := Scalar.remsi v377 c4_i32_243
  let c128_i32_271 : BitVec 32 := 128#32
  let v409 : BitVec 32 := Scalar.muli v378 c128_i32_271
  let v888 : Index := Scalar.indexCast v409
  let c384 : Index := 384#32
  ![v888.toNat, 384]
@[reducible] def k0_t21_loop : Scf.Loop 32 :=
  let c0_i32_310 : BitVec 32 := 0#32
  let c2_i32_311 : BitVec 32 := 2#32
  let v471 : BitVec 32 := Scalar.addi c0_i32_310 c2_i32_311
  let c1_i32_312 : BitVec 32 := 1#32
  ⟨c0_i32_310, v471, c1_i32_312⟩
def k0_off62 (k0_t21 : Fin k0_t21_loop.trips) : Fin 3 → Nat :=
  let c0_i32_310 : BitVec 32 := 0#32
  let c1_i32_312 : BitVec 32 := 1#32
  let arg18 : BitVec 32 := Scf.iv c0_i32_310 c1_i32_312 k0_t21
  let c1024_i32 : BitVec 32 := 1024#32
  let v866 : BitVec 32 := Scalar.muli arg18 c1024_i32
  let v867 : Index := Scalar.indexCast v866
  let c4_609 : Index := 4#32
  let c0_610 : Index := 0#32
  ![v867.toNat, 4, 0]
def k0_off63 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_240 : BitVec 32 := 1#32
  let v375 : BitVec 32 := Scalar.subi v2 c1_i32_240
  let c1_i32_241 : BitVec 32 := 1#32
  let v376 : BitVec 32 := Scalar.subi v375 c1_i32_241
  let c4_i32_242 : BitVec 32 := 4#32
  let v377 : BitVec 32 := Scalar.addi v376 c4_i32_242
  let c4_i32_243 : BitVec 32 := 4#32
  let v378 : BitVec 32 := Scalar.remsi v377 c4_i32_243
  let c128_i32_271 : BitVec 32 := 128#32
  let v409 : BitVec 32 := Scalar.muli v378 c128_i32_271
  let v888 : Index := Scalar.indexCast v409
  let c512 : Index := 512#32
  ![v888.toNat, 512]
@[reducible] def k0_t22_loop : Scf.Loop 32 :=
  let c0_i32_318 : BitVec 32 := 0#32
  let c2_i32_319 : BitVec 32 := 2#32
  let v484 : BitVec 32 := Scalar.addi c0_i32_318 c2_i32_319
  let c1_i32_320 : BitVec 32 := 1#32
  ⟨c0_i32_318, v484, c1_i32_320⟩
def k0_off64 (k0_t22 : Fin k0_t22_loop.trips) : Fin 3 → Nat :=
  let c0_i32_318 : BitVec 32 := 0#32
  let c1_i32_320 : BitVec 32 := 1#32
  let arg18 : BitVec 32 := Scf.iv c0_i32_318 c1_i32_320 k0_t22
  let c1024_i32 : BitVec 32 := 1024#32
  let v866 : BitVec 32 := Scalar.muli arg18 c1024_i32
  let v867 : Index := Scalar.indexCast v866
  let c5_609 : Index := 5#32
  let c0_610 : Index := 0#32
  ![v867.toNat, 5, 0]
def k0_off65 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_240 : BitVec 32 := 1#32
  let v375 : BitVec 32 := Scalar.subi v2 c1_i32_240
  let c1_i32_241 : BitVec 32 := 1#32
  let v376 : BitVec 32 := Scalar.subi v375 c1_i32_241
  let c4_i32_242 : BitVec 32 := 4#32
  let v377 : BitVec 32 := Scalar.addi v376 c4_i32_242
  let c4_i32_243 : BitVec 32 := 4#32
  let v378 : BitVec 32 := Scalar.remsi v377 c4_i32_243
  let c128_i32_271 : BitVec 32 := 128#32
  let v409 : BitVec 32 := Scalar.muli v378 c128_i32_271
  let v888 : Index := Scalar.indexCast v409
  let c640 : Index := 640#32
  ![v888.toNat, 640]
@[reducible] def k0_t23_loop : Scf.Loop 32 :=
  let c0_i32_326 : BitVec 32 := 0#32
  let c2_i32_327 : BitVec 32 := 2#32
  let v497 : BitVec 32 := Scalar.addi c0_i32_326 c2_i32_327
  let c1_i32_328 : BitVec 32 := 1#32
  ⟨c0_i32_326, v497, c1_i32_328⟩
def k0_off66 (k0_t23 : Fin k0_t23_loop.trips) : Fin 3 → Nat :=
  let c0_i32_326 : BitVec 32 := 0#32
  let c1_i32_328 : BitVec 32 := 1#32
  let arg18 : BitVec 32 := Scf.iv c0_i32_326 c1_i32_328 k0_t23
  let c1024_i32 : BitVec 32 := 1024#32
  let v866 : BitVec 32 := Scalar.muli arg18 c1024_i32
  let v867 : Index := Scalar.indexCast v866
  let c6_609 : Index := 6#32
  let c0_610 : Index := 0#32
  ![v867.toNat, 6, 0]
def k0_off67 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_240 : BitVec 32 := 1#32
  let v375 : BitVec 32 := Scalar.subi v2 c1_i32_240
  let c1_i32_241 : BitVec 32 := 1#32
  let v376 : BitVec 32 := Scalar.subi v375 c1_i32_241
  let c4_i32_242 : BitVec 32 := 4#32
  let v377 : BitVec 32 := Scalar.addi v376 c4_i32_242
  let c4_i32_243 : BitVec 32 := 4#32
  let v378 : BitVec 32 := Scalar.remsi v377 c4_i32_243
  let c128_i32_271 : BitVec 32 := 128#32
  let v409 : BitVec 32 := Scalar.muli v378 c128_i32_271
  let v888 : Index := Scalar.indexCast v409
  let c768 : Index := 768#32
  ![v888.toNat, 768]
@[reducible] def k0_t24_loop : Scf.Loop 32 :=
  let c0_i32_334 : BitVec 32 := 0#32
  let c2_i32_335 : BitVec 32 := 2#32
  let v510 : BitVec 32 := Scalar.addi c0_i32_334 c2_i32_335
  let c1_i32_336 : BitVec 32 := 1#32
  ⟨c0_i32_334, v510, c1_i32_336⟩
def k0_off68 (k0_t24 : Fin k0_t24_loop.trips) : Fin 3 → Nat :=
  let c0_i32_334 : BitVec 32 := 0#32
  let c1_i32_336 : BitVec 32 := 1#32
  let arg18 : BitVec 32 := Scf.iv c0_i32_334 c1_i32_336 k0_t24
  let c1024_i32 : BitVec 32 := 1024#32
  let v866 : BitVec 32 := Scalar.muli arg18 c1024_i32
  let v867 : Index := Scalar.indexCast v866
  let c7_609 : Index := 7#32
  let c0_610 : Index := 0#32
  ![v867.toNat, 7, 0]
def k0_off69 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_240 : BitVec 32 := 1#32
  let v375 : BitVec 32 := Scalar.subi v2 c1_i32_240
  let c1_i32_241 : BitVec 32 := 1#32
  let v376 : BitVec 32 := Scalar.subi v375 c1_i32_241
  let c4_i32_242 : BitVec 32 := 4#32
  let v377 : BitVec 32 := Scalar.addi v376 c4_i32_242
  let c4_i32_243 : BitVec 32 := 4#32
  let v378 : BitVec 32 := Scalar.remsi v377 c4_i32_243
  let c128_i32_271 : BitVec 32 := 128#32
  let v409 : BitVec 32 := Scalar.muli v378 c128_i32_271
  let v888 : Index := Scalar.indexCast v409
  let c896 : Index := 896#32
  ![v888.toNat, 896]
def k0_dev7 (d0 : Dev nD) : Nat :=
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_411 : BitVec 32 := 1#32
  let v602 : BitVec 32 := Scalar.muli v7 c1_i32_411
  let v603 : BitVec 32 := Scalar.addi c0_i32_412 v602
  v603.toNat
def k0_dev8 (d0 : Dev nD) : Nat :=
  let c0_i32_421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_420 : BitVec 32 := 1#32
  let v611 : BitVec 32 := Scalar.muli v7 c1_i32_420
  let v612 : BitVec 32 := Scalar.addi c0_i32_421 v611
  v612.toNat
@[reducible] def k0_t25_loop : Scf.Loop 32 :=
  let c0_i32_433 : BitVec 32 := 0#32
  let c2_i32_434 : BitVec 32 := 2#32
  let v631 : BitVec 32 := Scalar.addi c0_i32_433 c2_i32_434
  let c1_i32_435 : BitVec 32 := 1#32
  ⟨c0_i32_433, v631, c1_i32_435⟩
def k0_off70 (k0_t25 : Fin k0_t25_loop.trips) : Fin 3 → Nat :=
  let c0_i32_433 : BitVec 32 := 0#32
  let c1_i32_435 : BitVec 32 := 1#32
  let arg18 : BitVec 32 := Scf.iv c0_i32_433 c1_i32_435 k0_t25
  let c1024_i32 : BitVec 32 := 1024#32
  let v866 : BitVec 32 := Scalar.muli arg18 c1024_i32
  let v867 : Index := Scalar.indexCast v866
  let c0_609 : Index := 0#32
  let c0_610 : Index := 0#32
  ![v867.toNat, 0, 0]
def k0_off71 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_395 : BitVec 32 := 2#32
  let v587 : BitVec 32 := Scalar.subi v2 c2_i32_395
  let c1_i32_396 : BitVec 32 := 1#32
  let v588 : BitVec 32 := Scalar.subi v587 c1_i32_396
  let c4_i32_397 : BitVec 32 := 4#32
  let v589 : BitVec 32 := Scalar.addi v588 c4_i32_397
  let c4_i32_398 : BitVec 32 := 4#32
  let v590 : BitVec 32 := Scalar.remsi v589 c4_i32_398
  let c128_i32_426 : BitVec 32 := 128#32
  let v621 : BitVec 32 := Scalar.muli v590 c128_i32_426
  let v888 : Index := Scalar.indexCast v621
  let c0_617 : Index := 0#32
  ![v888.toNat, 0]
@[reducible] def k0_t26_loop : Scf.Loop 32 :=
  let c0_i32_441 : BitVec 32 := 0#32
  let c2_i32_442 : BitVec 32 := 2#32
  let v644 : BitVec 32 := Scalar.addi c0_i32_441 c2_i32_442
  let c1_i32_443 : BitVec 32 := 1#32
  ⟨c0_i32_441, v644, c1_i32_443⟩
def k0_off72 (k0_t26 : Fin k0_t26_loop.trips) : Fin 3 → Nat :=
  let c0_i32_441 : BitVec 32 := 0#32
  let c1_i32_443 : BitVec 32 := 1#32
  let arg18 : BitVec 32 := Scf.iv c0_i32_441 c1_i32_443 k0_t26
  let c1024_i32 : BitVec 32 := 1024#32
  let v866 : BitVec 32 := Scalar.muli arg18 c1024_i32
  let v867 : Index := Scalar.indexCast v866
  let c1_609 : Index := 1#32
  let c0_610 : Index := 0#32
  ![v867.toNat, 1, 0]
def k0_off73 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_395 : BitVec 32 := 2#32
  let v587 : BitVec 32 := Scalar.subi v2 c2_i32_395
  let c1_i32_396 : BitVec 32 := 1#32
  let v588 : BitVec 32 := Scalar.subi v587 c1_i32_396
  let c4_i32_397 : BitVec 32 := 4#32
  let v589 : BitVec 32 := Scalar.addi v588 c4_i32_397
  let c4_i32_398 : BitVec 32 := 4#32
  let v590 : BitVec 32 := Scalar.remsi v589 c4_i32_398
  let c128_i32_426 : BitVec 32 := 128#32
  let v621 : BitVec 32 := Scalar.muli v590 c128_i32_426
  let v888 : Index := Scalar.indexCast v621
  let c128 : Index := 128#32
  ![v888.toNat, 128]
@[reducible] def k0_t27_loop : Scf.Loop 32 :=
  let c0_i32_449 : BitVec 32 := 0#32
  let c2_i32_450 : BitVec 32 := 2#32
  let v657 : BitVec 32 := Scalar.addi c0_i32_449 c2_i32_450
  let c1_i32_451 : BitVec 32 := 1#32
  ⟨c0_i32_449, v657, c1_i32_451⟩
def k0_off74 (k0_t27 : Fin k0_t27_loop.trips) : Fin 3 → Nat :=
  let c0_i32_449 : BitVec 32 := 0#32
  let c1_i32_451 : BitVec 32 := 1#32
  let arg18 : BitVec 32 := Scf.iv c0_i32_449 c1_i32_451 k0_t27
  let c1024_i32 : BitVec 32 := 1024#32
  let v866 : BitVec 32 := Scalar.muli arg18 c1024_i32
  let v867 : Index := Scalar.indexCast v866
  let c2_609 : Index := 2#32
  let c0_610 : Index := 0#32
  ![v867.toNat, 2, 0]
def k0_off75 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_395 : BitVec 32 := 2#32
  let v587 : BitVec 32 := Scalar.subi v2 c2_i32_395
  let c1_i32_396 : BitVec 32 := 1#32
  let v588 : BitVec 32 := Scalar.subi v587 c1_i32_396
  let c4_i32_397 : BitVec 32 := 4#32
  let v589 : BitVec 32 := Scalar.addi v588 c4_i32_397
  let c4_i32_398 : BitVec 32 := 4#32
  let v590 : BitVec 32 := Scalar.remsi v589 c4_i32_398
  let c128_i32_426 : BitVec 32 := 128#32
  let v621 : BitVec 32 := Scalar.muli v590 c128_i32_426
  let v888 : Index := Scalar.indexCast v621
  let c256 : Index := 256#32
  ![v888.toNat, 256]
@[reducible] def k0_t28_loop : Scf.Loop 32 :=
  let c0_i32_457 : BitVec 32 := 0#32
  let c2_i32_458 : BitVec 32 := 2#32
  let v670 : BitVec 32 := Scalar.addi c0_i32_457 c2_i32_458
  let c1_i32_459 : BitVec 32 := 1#32
  ⟨c0_i32_457, v670, c1_i32_459⟩
def k0_off76 (k0_t28 : Fin k0_t28_loop.trips) : Fin 3 → Nat :=
  let c0_i32_457 : BitVec 32 := 0#32
  let c1_i32_459 : BitVec 32 := 1#32
  let arg18 : BitVec 32 := Scf.iv c0_i32_457 c1_i32_459 k0_t28
  let c1024_i32 : BitVec 32 := 1024#32
  let v866 : BitVec 32 := Scalar.muli arg18 c1024_i32
  let v867 : Index := Scalar.indexCast v866
  let c3_609 : Index := 3#32
  let c0_610 : Index := 0#32
  ![v867.toNat, 3, 0]
def k0_off77 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_395 : BitVec 32 := 2#32
  let v587 : BitVec 32 := Scalar.subi v2 c2_i32_395
  let c1_i32_396 : BitVec 32 := 1#32
  let v588 : BitVec 32 := Scalar.subi v587 c1_i32_396
  let c4_i32_397 : BitVec 32 := 4#32
  let v589 : BitVec 32 := Scalar.addi v588 c4_i32_397
  let c4_i32_398 : BitVec 32 := 4#32
  let v590 : BitVec 32 := Scalar.remsi v589 c4_i32_398
  let c128_i32_426 : BitVec 32 := 128#32
  let v621 : BitVec 32 := Scalar.muli v590 c128_i32_426
  let v888 : Index := Scalar.indexCast v621
  let c384 : Index := 384#32
  ![v888.toNat, 384]
@[reducible] def k0_t29_loop : Scf.Loop 32 :=
  let c0_i32_465 : BitVec 32 := 0#32
  let c2_i32_466 : BitVec 32 := 2#32
  let v683 : BitVec 32 := Scalar.addi c0_i32_465 c2_i32_466
  let c1_i32_467 : BitVec 32 := 1#32
  ⟨c0_i32_465, v683, c1_i32_467⟩
def k0_off78 (k0_t29 : Fin k0_t29_loop.trips) : Fin 3 → Nat :=
  let c0_i32_465 : BitVec 32 := 0#32
  let c1_i32_467 : BitVec 32 := 1#32
  let arg18 : BitVec 32 := Scf.iv c0_i32_465 c1_i32_467 k0_t29
  let c1024_i32 : BitVec 32 := 1024#32
  let v866 : BitVec 32 := Scalar.muli arg18 c1024_i32
  let v867 : Index := Scalar.indexCast v866
  let c4_609 : Index := 4#32
  let c0_610 : Index := 0#32
  ![v867.toNat, 4, 0]
def k0_off79 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_395 : BitVec 32 := 2#32
  let v587 : BitVec 32 := Scalar.subi v2 c2_i32_395
  let c1_i32_396 : BitVec 32 := 1#32
  let v588 : BitVec 32 := Scalar.subi v587 c1_i32_396
  let c4_i32_397 : BitVec 32 := 4#32
  let v589 : BitVec 32 := Scalar.addi v588 c4_i32_397
  let c4_i32_398 : BitVec 32 := 4#32
  let v590 : BitVec 32 := Scalar.remsi v589 c4_i32_398
  let c128_i32_426 : BitVec 32 := 128#32
  let v621 : BitVec 32 := Scalar.muli v590 c128_i32_426
  let v888 : Index := Scalar.indexCast v621
  let c512 : Index := 512#32
  ![v888.toNat, 512]
@[reducible] def k0_t30_loop : Scf.Loop 32 :=
  let c0_i32_473 : BitVec 32 := 0#32
  let c2_i32_474 : BitVec 32 := 2#32
  let v696 : BitVec 32 := Scalar.addi c0_i32_473 c2_i32_474
  let c1_i32_475 : BitVec 32 := 1#32
  ⟨c0_i32_473, v696, c1_i32_475⟩
def k0_off80 (k0_t30 : Fin k0_t30_loop.trips) : Fin 3 → Nat :=
  let c0_i32_473 : BitVec 32 := 0#32
  let c1_i32_475 : BitVec 32 := 1#32
  let arg18 : BitVec 32 := Scf.iv c0_i32_473 c1_i32_475 k0_t30
  let c1024_i32 : BitVec 32 := 1024#32
  let v866 : BitVec 32 := Scalar.muli arg18 c1024_i32
  let v867 : Index := Scalar.indexCast v866
  let c5_609 : Index := 5#32
  let c0_610 : Index := 0#32
  ![v867.toNat, 5, 0]
def k0_off81 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_395 : BitVec 32 := 2#32
  let v587 : BitVec 32 := Scalar.subi v2 c2_i32_395
  let c1_i32_396 : BitVec 32 := 1#32
  let v588 : BitVec 32 := Scalar.subi v587 c1_i32_396
  let c4_i32_397 : BitVec 32 := 4#32
  let v589 : BitVec 32 := Scalar.addi v588 c4_i32_397
  let c4_i32_398 : BitVec 32 := 4#32
  let v590 : BitVec 32 := Scalar.remsi v589 c4_i32_398
  let c128_i32_426 : BitVec 32 := 128#32
  let v621 : BitVec 32 := Scalar.muli v590 c128_i32_426
  let v888 : Index := Scalar.indexCast v621
  let c640 : Index := 640#32
  ![v888.toNat, 640]
@[reducible] def k0_t31_loop : Scf.Loop 32 :=
  let c0_i32_481 : BitVec 32 := 0#32
  let c2_i32_482 : BitVec 32 := 2#32
  let v709 : BitVec 32 := Scalar.addi c0_i32_481 c2_i32_482
  let c1_i32_483 : BitVec 32 := 1#32
  ⟨c0_i32_481, v709, c1_i32_483⟩
def k0_off82 (k0_t31 : Fin k0_t31_loop.trips) : Fin 3 → Nat :=
  let c0_i32_481 : BitVec 32 := 0#32
  let c1_i32_483 : BitVec 32 := 1#32
  let arg18 : BitVec 32 := Scf.iv c0_i32_481 c1_i32_483 k0_t31
  let c1024_i32 : BitVec 32 := 1024#32
  let v866 : BitVec 32 := Scalar.muli arg18 c1024_i32
  let v867 : Index := Scalar.indexCast v866
  let c6_609 : Index := 6#32
  let c0_610 : Index := 0#32
  ![v867.toNat, 6, 0]
def k0_off83 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_395 : BitVec 32 := 2#32
  let v587 : BitVec 32 := Scalar.subi v2 c2_i32_395
  let c1_i32_396 : BitVec 32 := 1#32
  let v588 : BitVec 32 := Scalar.subi v587 c1_i32_396
  let c4_i32_397 : BitVec 32 := 4#32
  let v589 : BitVec 32 := Scalar.addi v588 c4_i32_397
  let c4_i32_398 : BitVec 32 := 4#32
  let v590 : BitVec 32 := Scalar.remsi v589 c4_i32_398
  let c128_i32_426 : BitVec 32 := 128#32
  let v621 : BitVec 32 := Scalar.muli v590 c128_i32_426
  let v888 : Index := Scalar.indexCast v621
  let c768 : Index := 768#32
  ![v888.toNat, 768]
@[reducible] def k0_t32_loop : Scf.Loop 32 :=
  let c0_i32_489 : BitVec 32 := 0#32
  let c2_i32_490 : BitVec 32 := 2#32
  let v722 : BitVec 32 := Scalar.addi c0_i32_489 c2_i32_490
  let c1_i32_491 : BitVec 32 := 1#32
  ⟨c0_i32_489, v722, c1_i32_491⟩
def k0_off84 (k0_t32 : Fin k0_t32_loop.trips) : Fin 3 → Nat :=
  let c0_i32_489 : BitVec 32 := 0#32
  let c1_i32_491 : BitVec 32 := 1#32
  let arg18 : BitVec 32 := Scf.iv c0_i32_489 c1_i32_491 k0_t32
  let c1024_i32 : BitVec 32 := 1024#32
  let v866 : BitVec 32 := Scalar.muli arg18 c1024_i32
  let v867 : Index := Scalar.indexCast v866
  let c7_609 : Index := 7#32
  let c0_610 : Index := 0#32
  ![v867.toNat, 7, 0]
def k0_off85 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_395 : BitVec 32 := 2#32
  let v587 : BitVec 32 := Scalar.subi v2 c2_i32_395
  let c1_i32_396 : BitVec 32 := 1#32
  let v588 : BitVec 32 := Scalar.subi v587 c1_i32_396
  let c4_i32_397 : BitVec 32 := 4#32
  let v589 : BitVec 32 := Scalar.addi v588 c4_i32_397
  let c4_i32_398 : BitVec 32 := 4#32
  let v590 : BitVec 32 := Scalar.remsi v589 c4_i32_398
  let c128_i32_426 : BitVec 32 := 128#32
  let v621 : BitVec 32 := Scalar.muli v590 c128_i32_426
  let v888 : Index := Scalar.indexCast v621
  let c896 : Index := 896#32
  ![v888.toNat, 896]
def k0_off86 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_547 : BitVec 32 := 1#32
  let v796 : BitVec 32 := Scalar.addi v2 c1_i32_547
  let c4_i32_548 : BitVec 32 := 4#32
  let v797 : BitVec 32 := Scalar.remsi v796 c4_i32_548
  let c128_i32_549 : BitVec 32 := 128#32
  let v798 : BitVec 32 := Scalar.muli v797 c128_i32_549
  let v799 : Index := Scalar.indexCast v798
  let c0_550 : Index := 0#32
  ![v799.toNat, 0]
def k0_off87 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_547 : BitVec 32 := 1#32
  let v796 : BitVec 32 := Scalar.addi v2 c1_i32_547
  let c4_i32_548 : BitVec 32 := 4#32
  let v797 : BitVec 32 := Scalar.remsi v796 c4_i32_548
  let c128_i32_549 : BitVec 32 := 128#32
  let v798 : BitVec 32 := Scalar.muli v797 c128_i32_549
  let v804 : Index := Scalar.indexCast v798
  let c0_553 : Index := 0#32
  ![v804.toNat, 0]
def k0_off88 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_547 : BitVec 32 := 1#32
  let v796 : BitVec 32 := Scalar.addi v2 c1_i32_547
  let c4_i32_548 : BitVec 32 := 4#32
  let v797 : BitVec 32 := Scalar.remsi v796 c4_i32_548
  let c128_i32_549 : BitVec 32 := 128#32
  let v798 : BitVec 32 := Scalar.muli v797 c128_i32_549
  let c0_i32_562 : BitVec 32 := 0#32
  ![v798.toNat, 0]
def k0_dev9 (d0 : Dev nD) : Nat :=
  let c0_i32_561 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_560 : BitVec 32 := 1#32
  let v812 : BitVec 32 := Scalar.muli v7 c1_i32_560
  let v813 : BitVec 32 := Scalar.addi c0_i32_561 v812
  v813.toNat
def k0_dev10 (d0 : Dev nD) : Nat :=
  let c0_i32_567 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_566 : BitVec 32 := 1#32
  let v820 : BitVec 32 := Scalar.muli v5 c1_i32_566
  let v821 : BitVec 32 := Scalar.addi c0_i32_567 v820
  v821.toNat
def k0_dev11 (d0 : Dev nD) : Nat :=
  let c0_i32_573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_572 : BitVec 32 := 1#32
  let v828 : BitVec 32 := Scalar.muli v9 c1_i32_572
  let v829 : BitVec 32 := Scalar.addi c0_i32_573 v828
  v829.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S512x1024 : Shape := ⟨2, ![512, 1024]⟩
abbrev S1024x1024 : Shape := ⟨2, ![1024, 1024]⟩
abbrev S8192x8x128 : Shape := ⟨3, ![8192, 8, 128]⟩
abbrev S512x8x128 : Shape := ⟨3, ![512, 8, 128]⟩
abbrev S8x512x8192 : Shape := ⟨3, ![8, 512, 8192]⟩
abbrev S_ : Shape := ⟨0, ![]⟩
abbrev S8x512 : Shape := ⟨2, ![8, 512]⟩
abbrev S8x512x1 : Shape := ⟨3, ![8, 512, 1]⟩
abbrev S8x128x512 : Shape := ⟨3, ![8, 128, 512]⟩
abbrev S512x8x1 : Shape := ⟨3, ![512, 8, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S8192x8x128, .f32⟩
  | .hbm, ⟨3, _⟩ => ⟨S8192x8x128, .f32⟩
  | .hbm, ⟨4, _⟩ => ⟨S1024x1024, .f32⟩
  | .hbm, ⟨5, _⟩ => ⟨S512x1024, .f32⟩
  | .hbm, ⟨6, _⟩ => ⟨S512x8x128, .f32⟩
  | .hbm, ⟨7, _⟩ => ⟨S8x512x8192, .f32⟩
  | .hbm, ⟨8, _⟩ => ⟨S_, .f32⟩
  | .hbm, ⟨9, _⟩ => ⟨S_, .f32⟩
  | .hbm, ⟨10, _⟩ => ⟨S8x512x8192, .f32⟩
  | .hbm, ⟨11, _⟩ => ⟨S8x512x8192, .f32⟩
  | .hbm, ⟨12, _⟩ => ⟨S_, .f32⟩
  | .hbm, ⟨13, _⟩ => ⟨S8x512, .f32⟩
  | .hbm, ⟨14, _⟩ => ⟨S8x512x1, .f32⟩
  | .hbm, ⟨15, _⟩ => ⟨S8x512x8192, .f32⟩
  | .hbm, ⟨16, _⟩ => ⟨S8x512x8192, .f32⟩
  | .hbm, ⟨17, _⟩ => ⟨S8x512x8192, .f32⟩
  | .hbm, ⟨18, _⟩ => ⟨S_, .f32⟩
  | .hbm, ⟨19, _⟩ => ⟨S8x512, .f32⟩
  | .hbm, ⟨20, _⟩ => ⟨S8x512x1, .f32⟩
  | .hbm, ⟨21, _⟩ => ⟨S8x128x512, .f32⟩
  | .hbm, ⟨22, _⟩ => ⟨S512x8x128, .f32⟩
  | .hbm, ⟨23, _⟩ => ⟨S512x8x1, .f32⟩
  | .hbm, ⟨24, _⟩ => ⟨S512x8x128, .f32⟩
  | .hbm, ⟨25, _⟩ => ⟨S512x8x128, .f32⟩
  | .hbm, ⟨26, _⟩ => ⟨S512x1024, .f32⟩
  | .hbm, ⟨27, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Body.lean ====
/-
  The kernel's body, regrouped. The printed body is one straight sequence cut every sixty statements; here it is
  the same sequence grouped by what it does: a head's pass over the device's keys (`headProg`), a block of query
  rows against the device's keys (`chunkProg`), a ring step (`stepProg`), the output projection and the exchange
  of the output rows (`finProg`). `body_eq` says the grouping is the printed body, by definitional unfolding.
-/
module

public import proofs.«01_k».proof.Proof.Gen.KernelIdeal

@[expose] public section

set_option maxRecDepth 65536

noncomputable section

namespace Cert.KernelIdeal.Ring

open Idealize.ShloMosaic Idealize.SL.Sem Cert.KernelIdeal.Gen

variable {F : FTy → Type} [FloatOps F] [Named F]

/-! ## The buffers -/

abbrev bX : Memref sig .tc .vmem S512x1024 .f32 := Memref.whole cc0_stg0_0
abbrev bWq : Memref sig .tc .vmem S1024x1024 .f32 := Memref.whole cc0_stg1_0
abbrev bWo : Memref sig .tc .vmem S1024x1024 .f32 := Memref.whole cc0_stg2_0
abbrev bK : Memref sig .tc .vmem S2048x8x128 .f32 := Memref.whole cc0_stg3_0
abbrev bV : Memref sig .tc .vmem S2048x8x128 .f32 := Memref.whole cc0_stg4_0
abbrev bOut : Memref sig .tc .vmem S512x1024 .f32 := Memref.whole cc0_stg5_0
abbrev bAcc : Memref sig .tc .vmem S512x1024 .f32 := Memref.whole cc0_scratch0
abbrev bM : Memref sig .tc .vmem S512x8 .f32 := Memref.whole cc0_scratch1
abbrev bL : Memref sig .tc .vmem S512x8 .f32 := Memref.whole cc0_scratch2
abbrev bRsA : Memref sig .tc .vmem S3x128x1024 .f32 := Memref.whole cc0_scratch3
abbrev bRsM : Memref sig .tc .vmem S3x128x16 .f32 := Memref.whole cc0_scratch4
abbrev bStg : Memref sig .tc .vmem S3x128x16 .f32 := Memref.whole cc0_scratch5

/-! ## The values -/

/-- The rows' queries: the rows of `x` against `Wq`. -/
def qMat (x : Vec F S128x1024 .f32) (wq : Vec F S1024x1024 .f32) : FVec F S128x1024 .f32 :=
  matmul dot_S128x1024_S1024x1024_S128x1024_1_0_0_1_n_n none (shapeCast S128x1024 x shapeCasts_S128x1024_S128x1024)
    (shapeCast S1024x1024 wq shapeCasts_S1024x1024_S1024x1024) (constant S128x1024 .f32 0x00000000#32)

/-- A head's scores against one chunk of keys. -/
def hScore (q : FVec F S128x128 .f32) (k : Vec F S1024x1x128 .f32) : FVec F S128x1024 .f32 :=
  mulf (matmul dot_S128x128_S1024x128_S128x1024_1_1_0_0_n_n none q
      (shapeCast S1024x128 k shapeCasts_S1024x1x128_S1024x128) (constant S128x1024 .f32 0x00000000#32))
    (broadcast S128x1024 (Named.named κ "scale" 0x3DB504F3#32))

/-- The running maximum after a chunk. -/
def hMax (q : FVec F S128x128 .f32) (k : Vec F S1024x1x128 .f32) (mm : FVec F S128x1 .f32) : FVec F S128x1 .f32 :=
  maximumf mm (shapeCast S128x1 (multiReduction .maximumf [1] S128 (hScore q k) 0xFF800000#32 reduces_S128x1024_S128 (.inl rfl) rfl)
    shapeCasts_S128_S128x1)

/-- A chunk's weights. -/
def hWt (q : FVec F S128x128 .f32) (k : Vec F S1024x1x128 .f32) (mm : FVec F S128x1 .f32) : FVec F S128x1024 .f32 :=
  exp (subf (hScore q k) (broadcastTo S128x1024 (hMax q k mm) broadcasts_S128x1_S128x1024))

/-- What a chunk scales the earlier sums by. -/
def hCor (q : FVec F S128x128 .f32) (k : Vec F S1024x1x128 .f32) (mm : FVec F S128x1 .f32) : FVec F S128x1 .f32 :=
  exp (subf mm (hMax q k mm))

/-- The running sum of weights after a chunk. -/
def hSum (q : FVec F S128x128 .f32) (k : Vec F S1024x1x128 .f32) (mm ll : FVec F S128x1 .f32) : FVec F S128x1 .f32 :=
  addf (mulf ll (hCor q k mm))
    (shapeCast S128x1 (multiReduction .add [1] S128 (hWt q k mm) 0x00000000#32 reduces_S128x1024_S128 (.inl rfl) rfl) shapeCasts_S128_S128x1)

/-- The running weighted sum of values after a chunk. -/
def hAcc (q : FVec F S128x128 .f32) (k v : Vec F S1024x1x128 .f32) (mm : FVec F S128x1 .f32) (a : Vec F S128x128 .f32) : FVec F S128x128 .f32 :=
  addf (mulf a (broadcastTo S128x128 (hCor q k mm) broadcasts_S128x1_S128x128))
    (matmul dot_S128x1024_S1024x128_S128x128_1_0_0_1_n_n none (hWt q k mm)
      (shapeCast S1024x128 v shapeCasts_S1024x1x128_S1024x128) (constant S128x128 .f32 0x00000000#32))

/-- A head's columns of the queries. -/
def qHead (q : FVec F S128x1024 .f32) : Fin 8 → FVec F S128x128 .f32
  | 0 => extractStridedSlice S128x128 ![0, 0] q slices_S128x1024_o0_0_S128x128
  | 1 => extractStridedSlice S128x128 ![0, 128] q slices_S128x1024_o0_128_S128x128
  | 2 => extractStridedSlice S128x128 ![0, 256] q slices_S128x1024_o0_256_S128x128
  | 3 => extractStridedSlice S128x128 ![0, 384] q slices_S128x1024_o0_384_S128x128
  | 4 => extractStridedSlice S128x128 ![0, 512] q slices_S128x1024_o0_512_S128x128
  | 5 => extractStridedSlice S128x128 ![0, 640] q slices_S128x1024_o0_640_S128x128
  | 6 => extractStridedSlice S128x128 ![0, 768] q slices_S128x1024_o0_768_S128x128
  | 7 => extractStridedSlice S128x128 ![0, 896] q slices_S128x1024_o0_896_S128x128

/-- The carried pair before the first chunk. -/
def hInit : FVec F S128x1 .f32 × FVec F S128x1 .f32 :=
  (broadcast S128x1 (Scalar.ofBits .f32 0xFF800000#32), broadcast S128x1 (Scalar.ofBits .f32 0x00000000#32))

/-- The head selector: row `h` is one on head `h`'s columns and zero elsewhere. -/
def eMat : FVec F S8x1024 .f32 :=
  have v19 : IVec S8x1024 32 := iota .tc S8x1024 32 [0] iota_S8x1024_d0_w32
  have v20 : IVec S8x1024 32 := iota .tc S8x1024 32 [1] iota_S8x1024_d1_w32
  have v22 : IVec S8x1024 32 := divsi v20 (broadcast S8x1024 128#32)
  have v25 : IVec S8x1024 32 := extui 32 (cmpi .sgt v20 (broadcast S8x1024 0#32)) natLt_1_32
  have v28 : IVec S8x1024 32 := extui 32 (cmpi .slt v20 (broadcast S8x1024 0#32)) natLt_1_32
  have v29 : IVec S8x1024 32 := subi v25 v28
  have v34 : BitVec 32 := Scalar.subi (Scalar.extui (Scalar.cmpi .sgt 128#32 0#32)) (Scalar.extui (Scalar.cmpi .slt 128#32 0#32))
  have v36 : IVec S8x1024 1 := cmpi .ne v29 (broadcast S8x1024 v34)
  have v40 : IVec S8x1024 1 := cmpi .ne (remsi v20 (broadcast S8x1024 128#32)) (broadcast S8x1024 0#32)
  have v44 : IVec S8x1024 32 := select (andi v36 v40) (subi v22 (broadcast S8x1024 1#32)) v22
  select (cmpi .eq v44 v19) (broadcast S8x1024 (Scalar.ofBits .f32 0x3F800000#32)) (broadcast S8x1024 (Scalar.ofBits .f32 0x00000000#32))

/-- A merge's running maximum. -/
def gMax (m0 : Vec F S128x8 .f32) (m1 : Vec F S1x128x8 .f32) : FVec F S128x8 .f32 :=
  maximumf m0 (shapeCast S128x8 m1 shapeCasts_S1x128x8_S128x8)
/-- A merge's factor of the device's own part. -/
def gA (m0 : Vec F S128x8 .f32) (m1 : Vec F S1x128x8 .f32) : FVec F S128x8 .f32 := exp (subf m0 (gMax m0 m1))
/-- A merge's factor of the received part. -/
def gB (m0 : Vec F S128x8 .f32) (m1 : Vec F S1x128x8 .f32) : FVec F S128x8 .f32 :=
  exp (subf (shapeCast S128x8 m1 shapeCasts_S1x128x8_S128x8) (gMax m0 m1))
/-- A merge's sum of weights. -/
def gSum (m0 l0 : Vec F S128x8 .f32) (m1 l1 : Vec F S1x128x8 .f32) : FVec F S128x8 .f32 :=
  addf (mulf l0 (gA m0 m1)) (mulf (shapeCast S128x8 l1 shapeCasts_S1x128x8_S128x8) (gB m0 m1))
/-- A factor per head spread over the head's columns. -/
def spread (g : FVec F S128x8 .f32) : FVec F S128x1024 .f32 :=
  matmul dot_S128x8_S8x1024_S128x1024_1_0_0_1_n_n none g eMat (constant S128x1024 .f32 0x00000000#32)
/-- A merge's weighted sum of values. -/
def gAcc (m0 : Vec F S128x8 .f32) (m1 : Vec F S1x128x8 .f32) (a0 : Vec F S128x1024 .f32) (a1 : Vec F S1x128x1024 .f32) : FVec F S128x1024 .f32 :=
  addf (mulf a0 (spread (gA m0 m1))) (mulf (shapeCast S128x1024 a1 shapeCasts_S1x128x1024_S128x1024) (spread (gB m0 m1)))
/-- The output rows of a merged block. -/
def outRows (l : Vec F S128x8 .f32) (a : Vec F S128x1024 .f32) (wo : Vec F S1024x1024 .f32) : FVec F S128x1024 .f32 :=
  matmul dot_S128x1024_S1024x1024_S128x1024_1_0_0_1_n_n none
    (mulf a (spread (divf (broadcast S128x8 (Scalar.ofBits .f32 0x3F800000#32)) l)))
    (shapeCast S1024x1024 wo shapeCasts_S1024x1024_S1024x1024) (constant S128x1024 .f32 0x00000000#32)

/-! ## The programs -/

/-- Where a head's pass reads and writes: the keys' chunk by trip, the accumulator's tile, the statistics' column. -/
structure HeadOff where
  k : Fin k0_t1_loop.trips → Fin 3 → ℕ
  hk : ∀ i a, k i a + S1024x1x128.size a ≤ S2048x8x128.size a
  a : Fin 2 → ℕ
  ha : ∀ i, a i + S128x128.size i ≤ S512x1024.size i
  m : Fin 2 → ℕ
  hm : ∀ i, m i + S128x1.size i ≤ S512x8.size i

/-- One trip of a head's loop. -/
def headBody (o : HeadOff) (q : FVec F S128x128 .f32) (k : Fin k0_t1_loop.trips) (p : FVec F S128x1 .f32 × FVec F S128x1 .f32) :
    Prog (TpuEff nD τ sig (Elt F) Λ₀ .tc) (FVec F S128x1 .f32 × FVec F S128x1 .f32) := do
  let vk : Vec F S1024x1x128 .f32 ← Prog.lift (.load bK (Rect.unit (s := S2048x8x128) (o.k k) S1024x1x128.size (o.hk k)).toLoadRect (View.loadsAt_vmem h_S1024x1x128))
  let vv : Vec F S1024x1x128 .f32 ← Prog.lift (.load bV (Rect.unit (s := S2048x8x128) (o.k k) S1024x1x128.size (o.hk k)).toLoadRect (View.loadsAt_vmem h_S1024x1x128))
  let va : Vec F S128x128 .f32 ← Prog.lift (.load bAcc (Rect.unit (s := S512x1024) o.a S128x128.size o.ha).toLoadRect (View.loadsAt_vmem h_S128x128))
  let _ : Vec F S128x128 .f32 ← Prog.lift (.load bAcc (Rect.unit (s := S512x1024) o.a S128x128.size o.ha).toLoadRect (View.loadsAt_vmem h_S128x128))
  Prog.lift (.store bAcc (Rect.unit (s := S512x1024) o.a S128x128.size o.ha) (shapeCast S128x128 (hAcc q vk vv p.1 va) shapeCasts_S128x128_S128x128) Finset.univ (View.stores_vmem_bits_univ h_S128x128 rfl) (.inl rfl))
  pure (hMax q vk p.1, hSum q vk p.1 p.2)

/-- A head's maximum and sum, stored. -/
def headEnd (o : HeadOff) (p : FVec F S128x1 .f32 × FVec F S128x1 .f32) : Prog (TpuEff nD τ sig (Elt F) Λ₀ .tc) PUnit := do
  let _ : Vec F S128x1 .f32 ← Prog.lift (.load bM (Rect.unit (s := S512x8) o.m S128x1.size o.hm).toLoadRect (View.loadsAt_vmem h_S128x1))
  Prog.lift (.store bM (Rect.unit (s := S512x8) o.m S128x1.size o.hm) (shapeCast S128x1 p.1 shapeCasts_S128x1_S128x1) Finset.univ (View.stores_vmem_bits_univ h_S128x1 rfl) (.inl rfl))
  let _ : Vec F S128x1 .f32 ← Prog.lift (.load bL (Rect.unit (s := S512x8) o.m S128x1.size o.hm).toLoadRect (View.loadsAt_vmem h_S128x1))
  Prog.lift (.store bL (Rect.unit (s := S512x8) o.m S128x1.size o.hm) (shapeCast S128x1 p.2 shapeCasts_S128x1_S128x1) Finset.univ (View.stores_vmem_bits_univ h_S128x1 rfl) (.inl rfl))

/-- A head's pass over the device's keys, then `k`: the loop, then its maximum and its sum stored. -/
def headProg (o : HeadOff) (q : FVec F S128x128 .f32) (k : Prog (TpuEff nD τ sig (Elt F) Λ₀ .tc) PUnit) :
    Prog (TpuEff nD τ sig (Elt F) Λ₀ .tc) PUnit :=
  Prog.bind (Scf.Loop.for k0_t1_loop k0_t1_ok hInit (headBody o q)) fun p => Prog.bind (headEnd o p) fun _ => k

/-- The eight heads of a block of query rows, then `k`. -/
def headsProg (o : Fin 8 → HeadOff) (q : FVec F S128x1024 .f32) (k : Prog (TpuEff nD τ sig (Elt F) Λ₀ .tc) PUnit) :
    Prog (TpuEff nD τ sig (Elt F) Λ₀ .tc) PUnit :=
  headProg (o 0) (qHead q 0) <| headProg (o 1) (qHead q 1) <| headProg (o 2) (qHead q 2) <| headProg (o 3) (qHead q 3) <|
    headProg (o 4) (qHead q 4) <| headProg (o 5) (qHead q 5) <| headProg (o 6) (qHead q 6) <| headProg (o 7) (qHead q 7) k

/-- A block of query rows against the device's keys, then `k`: its queries, then its eight heads. -/
def chunkProg (ox : Fin 2 → ℕ) (hx : ∀ i, ox i + S128x1024.size i ≤ S512x1024.size i) (o : Fin 8 → HeadOff)
    (k : Prog (TpuEff nD τ sig (Elt F) Λ₀ .tc) PUnit) : Prog (TpuEff nD τ sig (Elt F) Λ₀ .tc) PUnit := do
  let vx : Vec F S128x1024 .f32 ← Prog.lift (.load bX (Rect.unit (s := S512x1024) ox S128x1024.size hx).toLoadRect (View.loadsAt_vmem h_S128x1024))
  let vw : Vec F S1024x1024 .f32 ← Prog.lift (.load bWq (Rect.unit (s := S1024x1024) ![0, 0] S1024x1024.size inb_S1024x1024_S1024x1024_0_0).toLoadRect (View.loadsAt_vmem h_S1024x1024))
  headsProg o (qMat vx vw) k

/-! ### The views and the semaphores of ring step `t` and of output copy `k` -/

theorem inbS3 : ∀ (t : Fin 3) (a : Fin 1), (![t.val] : Fin 1 → ℕ) a + S1.size a ≤ S3.size a := by decide
theorem inbA3 : ∀ (t : Fin 3) (a : Fin 3), (![t.val, 0, 0] : Fin 3 → ℕ) a + S1x128x1024.size a ≤ S3x128x1024.size a := by decide +kernel
theorem inbM3 : ∀ (t : Fin 3) (a : Fin 3), (![t.val, 0, 0] : Fin 3 → ℕ) a + S1x128x16.size a ≤ S3x128x16.size a := by decide +kernel
theorem inbM0 : ∀ (t : Fin 3) (a : Fin 3), (![t.val, 0, 0] : Fin 3 → ℕ) a + S1x128x8.size a ≤ S3x128x16.size a := by decide +kernel
theorem inbM8 : ∀ (t : Fin 3) (a : Fin 3), (![t.val, 0, 8] : Fin 3 → ℕ) a + S1x128x8.size a ≤ S3x128x16.size a := by decide +kernel

/-- Entry `t` of an array of three semaphores. -/
abbrev semAt (s : DmaSems sig S3) (t : Fin 3) : DmaSem sig :=
  ((s.slice (Rect.unit (s := S3) ![t.val] S1.size (inbS3 t))).squeeze S_ squeezes_S1_S_).sem
/-- Slot `t` of the received accumulators, as one block of rows. -/
abbrev slotA (t : Fin 3) : Memref sig .tc .vmem S128x1024 .f32 :=
  (bRsA.slice (Rect.unit (s := S3x128x1024) ![t.val, 0, 0] S1x128x1024.size (inbA3 t)) (fun _ => rfl)).squeeze S128x1024 squeezes_S1x128x1024_S128x1024
/-- Slot `t` of the received statistics. -/
abbrev slotM (t : Fin 3) : Memref sig .tc .vmem S128x16 .f32 :=
  (bRsM.slice (Rect.unit (s := S3x128x16) ![t.val, 0, 0] S1x128x16.size (inbM3 t)) (fun _ => rfl)).squeeze S128x16 squeezes_S1x128x16_S128x16
/-- Slot `t` of the statistics to send. -/
abbrev slotG (t : Fin 3) : Memref sig .tc .vmem S128x16 .f32 :=
  (bStg.slice (Rect.unit (s := S3x128x16) ![t.val, 0, 0] S1x128x16.size (inbM3 t)) (fun _ => rfl)).squeeze S128x16 squeezes_S1x128x16_S128x16
/-- Rows of the accumulator at an offset. -/
abbrev accAt (o : Fin 2 → ℕ) (h : ∀ i, o i + S128x1024.size i ≤ S512x1024.size i) : Memref sig .tc .vmem S128x1024 .f32 :=
  bAcc.slice (Rect.unit (s := S512x1024) o S128x1024.size h) (fun _ => rfl)
/-- Rows of the output at an offset. -/
abbrev outAt (o : Fin 2 → ℕ) (h : ∀ i, o i + S128x1024.size i ≤ S512x1024.size i) : Memref sig .tc .vmem S128x1024 .f32 :=
  bOut.slice (Rect.unit (s := S512x1024) o S128x1024.size h) (fun _ => rfl)

/-- The word of step `t`. -/
abbrev tw (t : Fin 3) : BitVec 32 := BitVec.ofNat 32 t.val

/-- The statistics of the rows to send, staged side by side in slot `t`. -/
def stageProg (d0 : Dev nD) (t : Fin 3) : Prog (TpuEff nD τ sig (Elt F) Λ₀ .tc) PUnit := do
  let vm : Vec F S128x8 .f32 ← Prog.lift (.load bM (Rect.unit (s := S512x8) (k0_off26 d0 (tw t)) S128x8.size (k0_off26_inb d0 t)).toLoadRect (View.loadsAt_vmem h_S128x8))
  let _ : Vec F S1x128x8 .f32 ← Prog.lift (.load bStg (Rect.unit (s := S3x128x16) ![t.val, 0, 0] S1x128x8.size (inbM0 t)).toLoadRect (View.loadsAt_vmem h_S1x128x8))
  Prog.lift (.store bStg (Rect.unit (s := S3x128x16) ![t.val, 0, 0] S1x128x8.size (inbM0 t)) (shapeCast S1x128x8 vm shapeCasts_S128x8_S1x128x8) Finset.univ (View.stores_vmem_bits_univ h_S1x128x8 rfl) (.inl rfl))
  let vl : Vec F S128x8 .f32 ← Prog.lift (.load bL (Rect.unit (s := S512x8) (k0_off26 d0 (tw t)) S128x8.size (k0_off26_inb d0 t)).toLoadRect (View.loadsAt_vmem h_S128x8))
  let _ : Vec F S1x128x8 .f32 ← Prog.lift (.load bStg (Rect.unit (s := S3x128x16) ![t.val, 0, 8] S1x128x8.size (inbM8 t)).toLoadRect (View.loadsAt_vmem h_S1x128x8))
  Prog.lift (.store bStg (Rect.unit (s := S3x128x16) ![t.val, 0, 8] S1x128x8.size (inbM8 t)) (shapeCast S1x128x8 vl shapeCasts_S128x8_S1x128x8) Finset.univ (View.stores_vmem_bits_univ h_S1x128x8 rfl) (.inl rfl))

/-- The two copies of step `t` to the right neighbour. -/
def sendProg (d0 : Dev nD) (t : Fin 3) (da dm : Dev nD) : Prog (TpuEff nD τ sig (Elt F) Λ₀ .tc) PUnit := do
  Prog.lift (.enqueueDma (accAt (k0_off27 d0 (tw t)) (k0_off27_inb d0 t)) (.remote (Dev.tc da) (slotA t) (.dma (semAt cc0_scratch6 t))) (.dma (semAt cc0_scratch7 t)) (View.wordExact_bits rfl) ((View.wordExact_bits rfl).reshape _ _) ⟨⟨rfl, Or.inl rfl⟩, trivial⟩)
  Prog.lift (.enqueueDma (slotG t) (.remote (Dev.tc dm) (slotM t) (.dma (semAt cc0_scratch8 t))) (.dma (semAt cc0_scratch9 t)) ((View.wordExact_bits rfl).reshape _ _) ((View.wordExact_bits rfl).reshape _ _) ⟨⟨rfl, Or.inl rfl⟩, trivial⟩)

/-- The four waits of step `t`. -/
def waitProg (d0 : Dev nD) (t : Fin 3) : Prog (TpuEff nD τ sig (Elt F) Λ₀ .tc) PUnit := do
  Prog.lift (.waitDma2 (semAt cc0_scratch6 t) (slotA t) (accAt (k0_off27 d0 (tw t)) (k0_off27_inb d0 t)) ((View.wordExact_bits rfl).reshape _ _) (View.wordExact_bits rfl))
  Prog.lift (.waitDma2 (semAt cc0_scratch7 t) (accAt (k0_off27 d0 (tw t)) (k0_off27_inb d0 t)) (slotA t) (View.wordExact_bits rfl) ((View.wordExact_bits rfl).reshape _ _))
  Prog.lift (.waitDma2 (semAt cc0_scratch8 t) (slotM t) (slotG t) ((View.wordExact_bits rfl).reshape _ _) ((View.wordExact_bits rfl).reshape _ _))
  Prog.lift (.waitDma2 (semAt cc0_scratch9 t) (slotG t) (slotM t) ((View.wordExact_bits rfl).reshape _ _) ((View.wordExact_bits rfl).reshape _ _))

/-- The merge of step `t`: what was received into the device's own part of the same rows. -/
def mergeProg (d0 : Dev nD) (t : Fin 3) : Prog (TpuEff nD τ sig (Elt F) Λ₀ .tc) PUnit := do
  let m0 : Vec F S128x8 .f32 ← Prog.lift (.load bM (Rect.unit (s := S512x8) (k0_off53 d0 (tw t)) S128x8.size (k0_off53_inb d0 t)).toLoadRect (View.loadsAt_vmem h_S128x8))
  let l0 : Vec F S128x8 .f32 ← Prog.lift (.load bL (Rect.unit (s := S512x8) (k0_off53 d0 (tw t)) S128x8.size (k0_off53_inb d0 t)).toLoadRect (View.loadsAt_vmem h_S128x8))
  let m1 : Vec F S1x128x8 .f32 ← Prog.lift (.load bRsM (Rect.unit (s := S3x128x16) ![t.val, 0, 0] S1x128x8.size (inbM0 t)).toLoadRect (View.loadsAt_vmem h_S1x128x8))
  let l1 : Vec F S1x128x8 .f32 ← Prog.lift (.load bRsM (Rect.unit (s := S3x128x16) ![t.val, 0, 8] S1x128x8.size (inbM8 t)).toLoadRect (View.loadsAt_vmem h_S1x128x8))
  let _ : Vec F S128x8 .f32 ← Prog.lift (.load bM (Rect.unit (s := S512x8) (k0_off53 d0 (tw t)) S128x8.size (k0_off53_inb d0 t)).toLoadRect (View.loadsAt_vmem h_S128x8))
  Prog.lift (.store bM (Rect.unit (s := S512x8) (k0_off53 d0 (tw t)) S128x8.size (k0_off53_inb d0 t)) (shapeCast S128x8 (gMax m0 m1) shapeCasts_S128x8_S128x8) Finset.univ (View.stores_vmem_bits_univ h_S128x8 rfl) (.inl rfl))
  let _ : Vec F S128x8 .f32 ← Prog.lift (.load bL (Rect.unit (s := S512x8) (k0_off53 d0 (tw t)) S128x8.size (k0_off53_inb d0 t)).toLoadRect (View.loadsAt_vmem h_S128x8))
  Prog.lift (.store bL (Rect.unit (s := S512x8) (k0_off53 d0 (tw t)) S128x8.size (k0_off53_inb d0 t)) (shapeCast S128x8 (gSum m0 l0 m1 l1) shapeCasts_S128x8_S128x8) Finset.univ (View.stores_vmem_bits_univ h_S128x8 rfl) (.inl rfl))
  let a0 : Vec F S128x1024 .f32 ← Prog.lift (.load bAcc (Rect.unit (s := S512x1024) (k0_off28 d0 (tw t)) S128x1024.size (k0_off28_inb d0 t)).toLoadRect (View.loadsAt_vmem h_S128x1024))
  let a1 : Vec F S1x128x1024 .f32 ← Prog.lift (.load bRsA (Rect.unit (s := S3x128x1024) ![t.val, 0, 0] S1x128x1024.size (inbA3 t)).toLoadRect (View.loadsAt_vmem h_S1x128x1024))
  let _ : Vec F S128x1024 .f32 ← Prog.lift (.load bAcc (Rect.unit (s := S512x1024) (k0_off28 d0 (tw t)) S128x1024.size (k0_off28_inb d0 t)).toLoadRect (View.loadsAt_vmem h_S128x1024))
  Prog.lift (.store bAcc (Rect.unit (s := S512x1024) (k0_off28 d0 (tw t)) S128x1024.size (k0_off28_inb d0 t)) (shapeCast S128x1024 (gAcc m0 m1 a0 a1) shapeCasts_S128x1024_S128x1024) Finset.univ (View.stores_vmem_bits_univ h_S128x1024 rfl) (.inl rfl))

/-- Ring step `t`, then `k`: stage, send, the next block of rows meanwhile, wait, merge. -/
def stepProg (d0 : Dev nD) (t : Fin 3) (da dm : Dev nD) (o : Fin 8 → HeadOff) (k : Prog (TpuEff nD τ sig (Elt F) Λ₀ .tc) PUnit) :
    Prog (TpuEff nD τ sig (Elt F) Λ₀ .tc) PUnit :=
  Prog.bind (stageProg d0 t) fun _ => Prog.bind (sendProg d0 t da dm) fun _ =>
    chunkProg (k0_off28 d0 (tw t)) (k0_off28_inb d0 t) o (Prog.bind (waitProg d0 t) fun _ => Prog.bind (mergeProg d0 t) fun _ => k)

/-- The handshake with the neighbours: signal both, wait for both. -/
def barProg (d0 dl dr : Dev nD) : Prog (TpuEff nD τ sig (Elt F) Λ₀ .tc) PUnit := do
  semSignalWord dl (SemArray.scalar (sig.barrier 0 rfl) : Sems sig S_).sem 1#32
  semSignalWord dr (SemArray.scalar (sig.barrier 0 rfl) : Sems sig S_).sem 1#32
  semWaitWord (SemArray.scalar (sig.barrier 0 rfl) : Sems sig S_).sem 2#32

/-- The accumulator cleared. -/
def zeroProg : Prog (TpuEff nD τ sig (Elt F) Λ₀ .tc) PUnit := do
  let _ : Vec F S512x1024 .f32 ← Prog.lift (.load bAcc (Rect.unit (s := S512x1024) ![0, 0] S512x1024.size inb_S512x1024_S512x1024_0_0).toLoadRect (View.loadsAt_vmem h_S512x1024))
  Prog.lift (.store bAcc (Rect.unit (s := S512x1024) ![0, 0] S512x1024.size inb_S512x1024_S512x1024_0_0) (shapeCast S512x1024 (broadcast S512x1024 (Scalar.ofBits .f32 0x00000000#32 : F .f32)) shapeCasts_S512x1024_S512x1024) Finset.univ (View.stores_vmem_bits_univ h_S512x1024 rfl) (.inl rfl))

/-- The device's own output rows. -/
def projProg (d0 : Dev nD) : Prog (TpuEff nD τ sig (Elt F) Λ₀ .tc) PUnit := do
  let l : Vec F S128x8 .f32 ← Prog.lift (.load bL (Rect.unit (s := S512x8) (k0_off86 d0) S128x8.size (k0_off86_inb d0)).toLoadRect (View.loadsAt_vmem h_S128x8))
  let a : Vec F S128x1024 .f32 ← Prog.lift (.load bAcc (Rect.unit (s := S512x1024) (k0_off87 d0) S128x1024.size (k0_off87_inb d0)).toLoadRect (View.loadsAt_vmem h_S128x1024))
  let wo : Vec F S1024x1024 .f32 ← Prog.lift (.load bWo (Rect.unit (s := S1024x1024) ![0, 0] S1024x1024.size inb_S1024x1024_S1024x1024_0_0).toLoadRect (View.loadsAt_vmem h_S1024x1024))
  let _ : Vec F S128x1024 .f32 ← Prog.lift (.load bOut (Rect.unit (s := S512x1024) (k0_off87 d0) S128x1024.size (k0_off87_inb d0)).toLoadRect (View.loadsAt_vmem h_S128x1024))
  Prog.lift (.store bOut (Rect.unit (s := S512x1024) (k0_off87 d0) S128x1024.size (k0_off87_inb d0)) (outRows l a wo) Finset.univ (View.stores_vmem_bits_univ h_S128x1024 rfl) (.inl rfl))

/-- The device's output rows copied to device `d` (copy `k`). -/
def copyProg (d0 : Dev nD) (k : Fin 3) (d : Dev nD) : Prog (TpuEff nD τ sig (Elt F) Λ₀ .tc) PUnit :=
  Prog.lift (.enqueueDma (outAt (k0_off88 d0) (k0_off88_inb d0)) (.remote (Dev.tc d) (outAt (k0_off88 d0) (k0_off88_inb d0)) (.dma (semAt cc0_scratch10 k))) (.dma (semAt cc0_scratch11 k)) (View.wordExact_bits rfl) (View.wordExact_bits rfl) ⟨⟨rfl, Or.inl rfl⟩, trivial⟩)
/-- A wait for one copy of output rows. -/
def copyWait (d0 : Dev nD) (s : DmaSem sig) : Prog (TpuEff nD τ sig (Elt F) Λ₀ .tc) PUnit :=
  Prog.lift (.waitDma2 s (outAt (k0_off88 d0) (k0_off88_inb d0)) (outAt (k0_off88 d0) (k0_off88_inb d0)) (View.wordExact_bits rfl) (View.wordExact_bits rfl))
/-- The three copies of the output rows and the six waits. -/
def gatherProg (d0 d1 d2 d3 : Dev nD) : Prog (TpuEff nD τ sig (Elt F) Λ₀ .tc) PUnit := do
  copyProg d0 0 d1
  copyProg d0 1 d2
  copyProg d0 2 d3
  copyWait d0 (semAt cc0_scratch10 0)
  copyWait d0 (semAt cc0_scratch10 1)
  copyWait d0 (semAt cc0_scratch10 2)
  copyWait d0 (semAt cc0_scratch11 0)
  copyWait d0 (semAt cc0_scratch11 1)
  copyWait d0 (semAt cc0_scratch11 2)

/-- The first chunk's heads' offsets, as printed. -/
def offs0 (d0 : Dev nD) : Fin 8 → HeadOff
  | 0 => ⟨k0_off2, k0_off2_inb, k0_off3 d0, k0_off3_inb d0, k0_off4 d0, k0_off4_inb d0⟩
  | 1 => ⟨k0_off5, k0_off5_inb, k0_off6 d0, k0_off6_inb d0, k0_off7 d0, k0_off7_inb d0⟩
  | 2 => ⟨k0_off8, k0_off8_inb, k0_off9 d0, k0_off9_inb d0, k0_off10 d0, k0_off10_inb d0⟩
  | 3 => ⟨k0_off11, k0_off11_inb, k0_off12 d0, k0_off12_inb d0, k0_off13 d0, k0_off13_inb d0⟩
  | 4 => ⟨k0_off14, k0_off14_inb, k0_off15 d0, k0_off15_inb d0, k0_off16 d0, k0_off16_inb d0⟩
  | 5 => ⟨k0_off17, k0_off17_inb, k0_off18 d0, k0_off18_inb d0, k0_off19 d0, k0_off19_inb d0⟩
  | 6 => ⟨k0_off20, k0_off20_inb, k0_off21 d0, k0_off21_inb d0, k0_off22 d0, k0_off22_inb d0⟩
  | 7 => ⟨k0_off23, k0_off23_inb, k0_off24 d0, k0_off24_inb d0, k0_off25 d0, k0_off25_inb d0⟩

/-- Step 0's heads' offsets, as printed. -/
def offs1 (d0 : Dev nD) : Fin 8 → HeadOff
  | 0 => ⟨k0_off29, k0_off29_inb, k0_off30 d0, k0_off30_inb d0, k0_off31 d0 0#32, k0_off31_inb d0 0⟩
  | 1 => ⟨k0_off32, k0_off32_inb, k0_off33 d0, k0_off33_inb d0, k0_off34 d0 0#32, k0_off34_inb d0 0⟩
  | 2 => ⟨k0_off35, k0_off35_inb, k0_off36 d0, k0_off36_inb d0, k0_off37 d0 0#32, k0_off37_inb d0 0⟩
  | 3 => ⟨k0_off38, k0_off38_inb, k0_off39 d0, k0_off39_inb d0, k0_off40 d0 0#32, k0_off40_inb d0 0⟩
  | 4 => ⟨k0_off41, k0_off41_inb, k0_off42 d0, k0_off42_inb d0, k0_off43 d0 0#32, k0_off43_inb d0 0⟩
  | 5 => ⟨k0_off44, k0_off44_inb, k0_off45 d0, k0_off45_inb d0, k0_off46 d0 0#32, k0_off46_inb d0 0⟩
  | 6 => ⟨k0_off47, k0_off47_inb, k0_off48 d0, k0_off48_inb d0, k0_off49 d0 0#32, k0_off49_inb d0 0⟩
  | 7 => ⟨k0_off50, k0_off50_inb, k0_off51 d0, k0_off51_inb d0, k0_off52 d0 0#32, k0_off52_inb d0 0⟩

/-- Step 1's heads' offsets, as printed. -/
def offs2 (d0 : Dev nD) : Fin 8 → HeadOff
  | 0 => ⟨k0_off54, k0_off54_inb, k0_off55 d0, k0_off55_inb d0, k0_off31 d0 1#32, k0_off31_inb d0 1⟩
  | 1 => ⟨k0_off56, k0_off56_inb, k0_off57 d0, k0_off57_inb d0, k0_off34 d0 1#32, k0_off34_inb d0 1⟩
  | 2 => ⟨k0_off58, k0_off58_inb, k0_off59 d0, k0_off59_inb d0, k0_off37 d0 1#32, k0_off37_inb d0 1⟩
  | 3 => ⟨k0_off60, k0_off60_inb, k0_off61 d0, k0_off61_inb d0, k0_off40 d0 1#32, k0_off40_inb d0 1⟩
  | 4 => ⟨k0_off62, k0_off62_inb, k0_off63 d0, k0_off63_inb d0, k0_off43 d0 1#32, k0_off43_inb d0 1⟩
  | 5 => ⟨k0_off64, k0_off64_inb, k0_off65 d0, k0_off65_inb d0, k0_off46 d0 1#32, k0_off46_inb d0 1⟩
  | 6 => ⟨k0_off66, k0_off66_inb, k0_off67 d0, k0_off67_inb d0, k0_off49 d0 1#32, k0_off49_inb d0 1⟩
  | 7 => ⟨k0_off68, k0_off68_inb, k0_off69 d0, k0_off69_inb d0, k0_off52 d0 1#32, k0_off52_inb d0 1⟩

/-- Step 2's heads' offsets, as printed. -/
def offs3 (d0 : Dev nD) : Fin 8 → HeadOff
  | 0 => ⟨k0_off70, k0_off70_inb, k0_off71 d0, k0_off71_inb d0, k0_off31 d0 2#32, k0_off31_inb d0 2⟩
  | 1 => ⟨k0_off72, k0_off72_inb, k0_off73 d0, k0_off73_inb d0, k0_off34 d0 2#32, k0_off34_inb d0 2⟩
  | 2 => ⟨k0_off74, k0_off74_inb, k0_off75 d0, k0_off75_inb d0, k0_off37 d0 2#32, k0_off37_inb d0 2⟩
  | 3 => ⟨k0_off76, k0_off76_inb, k0_off77 d0, k0_off77_inb d0, k0_off40 d0 2#32, k0_off40_inb d0 2⟩
  | 4 => ⟨k0_off78, k0_off78_inb, k0_off79 d0, k0_off79_inb d0, k0_off43 d0 2#32, k0_off43_inb d0 2⟩
  | 5 => ⟨k0_off80, k0_off80_inb, k0_off81 d0, k0_off81_inb d0, k0_off46 d0 2#32, k0_off46_inb d0 2⟩
  | 6 => ⟨k0_off82, k0_off82_inb, k0_off83 d0, k0_off83_inb d0, k0_off49 d0 2#32, k0_off49_inb d0 2⟩
  | 7 => ⟨k0_off84, k0_off84_inb, k0_off85 d0, k0_off85_inb d0, k0_off52 d0 2#32, k0_off52_inb d0 2⟩

/-- The body at device `d0`. -/
def bodyAt (d0 : Dev nD) : Prog (TpuEff nD τ sig (Elt F) Λ₀ .tc) PUnit :=
  Prog.bind (barProg d0 (⟨k0_dev1 d0, k0_dev1_lt d0⟩ : Dev nD) (⟨k0_dev2 d0, k0_dev2_lt d0⟩ : Dev nD)) fun _ =>
  Prog.bind zeroProg fun _ =>
  chunkProg (k0_off1 d0) (k0_off1_inb d0) (offs0 d0) <|
  stepProg d0 0 (⟨k0_dev3 d0, k0_dev3_lt d0⟩ : Dev nD) (⟨k0_dev4 d0, k0_dev4_lt d0⟩ : Dev nD) (offs1 d0) <|
  stepProg d0 1 (⟨k0_dev5 d0, k0_dev5_lt d0⟩ : Dev nD) (⟨k0_dev6 d0, k0_dev6_lt d0⟩ : Dev nD) (offs2 d0) <|
  stepProg d0 2 (⟨k0_dev7 d0, k0_dev7_lt d0⟩ : Dev nD) (⟨k0_dev8 d0, k0_dev8_lt d0⟩ : Dev nD) (offs3 d0) <|
  Prog.bind (projProg d0) fun _ =>
  gatherProg d0 (⟨k0_dev9 d0, k0_dev9_lt d0⟩ : Dev nD) (⟨k0_dev10 d0, k0_dev10_lt d0⟩ : Dev nD) (⟨k0_dev11 d0, k0_dev11_lt d0⟩ : Dev nD)

theorem op_congr {E : Type → Type} {β α : Type} (e : E β) {k k' : β → Prog E α} (h : ∀ x, k x = k' x) : Prog.op e k = Prog.op e k' :=
  congrArg _ (funext h)
theorem bind_regroup {E : Type → Type} {α β γ δ : Type} (p : Prog E α) {f : α → Prog E β} {g : β → Prog E γ} {g' : γ → Prog E δ} {f' : α → Prog E δ}
    (h : ∀ x, Prog.bind (Prog.bind (f x) g) g' = f' x) : Prog.bind (Prog.bind (Prog.bind p f) g) g' = Prog.bind p f' :=
  (congrArg (Prog.bind · g') (Prog.bind_assoc p f g)).trans ((Prog.bind_assoc p _ g').trans (congrArg (Prog.bind p) (funext h)))

/-- The printed body is the regrouped one. -/
theorem body_eq :
    cc0_body (F := F) bX (Memref.isWhole_whole _) bWq (Memref.isWhole_whole _) bWo (Memref.isWhole_whole _) bK (Memref.isWhole_whole _)
      bV (Memref.isWhole_whole _) bOut (Memref.isWhole_whole _) bAcc (Memref.isWhole_whole _) bM (Memref.isWhole_whole _)
      bL (Memref.isWhole_whole _) bRsA (Memref.isWhole_whole _) bRsM (Memref.isWhole_whole _) bStg (Memref.isWhole_whole _)
      cc0_scratch6 cc0_scratch7 cc0_scratch8 cc0_scratch9 cc0_scratch10 cc0_scratch11
    = Prog.bind (Prog.lift .deviceId) bodyAt := by
  repeat (first | exact Eq.refl (Prog.ret _) | (refine bind_regroup _ fun _ => ?_) | (refine op_congr _ fun _ => ?_))

end Cert.KernelIdeal.Ring

end
-- ==== Proof.Mem.lean ====
/-
  Memory owned block by block. A device's buffer is held as blocks: `owns c (m.slice R) q A`, the elements of the
  rectangle `R` of the memref `m`, read as the array `A`. Here are the effects on such a block: a load or a store of
  a rectangle inside it, a squeeze of its unit axis, a division of its share, a copy to another device.
-/
module

public import Idealize.ShloMosaic.Lib.Memref
public import Idealize.ShloMosaic.Lib.Rounds
public import Idealize.ShloMosaic.Lib.Tactic

@[expose] public section

noncomputable section

namespace Cert.Blocks

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Ix : Type} [DecidableEq Ix]
variable {Val : EltTy → Type} {Name : Type} [DecidableEq Name]
variable {U : Type} [URA U] {Lvl : Type} {Λ : Labels}
local notation "𝕄" => MT nD τ sig Ix Val Name U Lvl

/-! ## Rectangles -/

/-- The part of an array at a unit rectangle. -/
abbrev part {s : Shape} {α : Type} (A : s.Idx → α) (off size : Fin s.rank → ℕ) (inb : ∀ a, off a + size a ≤ s.size a) :
    (⟨s.rank, size⟩ : Shape).Idx → α :=
  fun j => A ((Rect.unit off size inb).emb j)

theorem unit_sub {s : Shape} {off size off' size' : Fin s.rank → ℕ} (inb : ∀ a, off a + size a ≤ s.size a)
    (inb' : ∀ a, off' a + size' a ≤ s.size a) {o : Fin s.rank → ℕ} (ho : ∀ a, off' a = off a + o a) (hin : ∀ a, o a + size' a ≤ size a) :
    (Rect.unit off' size' inb').set ⊆ (Rect.unit off size inb).set :=
  Rect.set_subset_of_span _ _ (fun _ => rfl) fun a => by
    have h1 := ho a; have h2 := hin a
    simp only [Rect.unit]; omega

theorem unit_emb_emb {s : Shape} {off size off' size' : Fin s.rank → ℕ} (inb : ∀ a, off a + size a ≤ s.size a)
    (inb' : ∀ a, off' a + size' a ≤ s.size a) {o : Fin s.rank → ℕ} (ho : ∀ a, off' a = off a + o a) (hin : ∀ a, o a + size' a ≤ size a)
    (j : (⟨s.rank, size'⟩ : Shape).Idx) :
    (Rect.unit off size inb).emb ((Rect.unit (s := ⟨s.rank, size⟩) o size' hin).emb j) = (Rect.unit off' size' inb').emb j := by
  funext a
  refine Fin.ext ?_
  show off a + 1 * (o a + 1 * (j a).val) = off' a + 1 * (j a).val
  rw [ho a]; omega

/-! ## Overlays -/

theorem overlay_part {s : Shape} {α : Type} (A : s.Idx → α) (off size : Fin s.rank → ℕ) (inb : ∀ a, off a + size a ≤ s.size a) :
    (Rect.unit off size inb).overlay A (part A off size inb) = A := by
  funext j
  by_cases hj : j ∈ (Rect.unit off size inb).set
  · obtain ⟨i, rfl⟩ := (Rect.unit off size inb).exists_idx_of_mem hj
    exact Rect.overlay_emb (Rect.unit off size inb) A _ i
  · exact Rect.overlay_of_not_mem _ _ _ hj

theorem overlay_overlay {s : Shape} {α : Type} (r : Rect s) (A : s.Idx → α) (v w : r.shape.Idx → α) :
    r.overlay (r.overlay A v) w = r.overlay A w := by
  funext j
  by_cases hj : j ∈ r.set
  · obtain ⟨i, rfl⟩ := r.exists_idx_of_mem hj
    exact (Rect.overlay_emb r _ w i).trans (Rect.overlay_emb r A w i).symm
  · rw [Rect.overlay_of_not_mem _ _ _ hj, Rect.overlay_of_not_mem _ _ _ hj, Rect.overlay_of_not_mem _ _ _ hj]

theorem part_overlay {s : Shape} {α : Type} (A : s.Idx → α) (off size : Fin s.rank → ℕ) (inb : ∀ a, off a + size a ≤ s.size a)
    (w : (⟨s.rank, size⟩ : Shape).Idx → α) : part ((Rect.unit off size inb).overlay A w) off size inb = w :=
  funext fun i => Rect.overlay_emb (Rect.unit off size inb) A w i

/-- An overlay is the array that reads the new part on the rectangle and the old one off it. -/
theorem overlay_eq {s : Shape} {α : Type} (r : Rect s) (A B : s.Idx → α) (w : r.shape.Idx → α)
    (h : ∀ i, B (r.emb i) = w i) (h' : ∀ j, j ∉ r.set → B j = A j) : r.overlay A w = B := by
  funext j
  by_cases hj : j ∈ r.set
  · obtain ⟨i, rfl⟩ := r.exists_idx_of_mem hj
    exact (Rect.overlay_emb r A w i).trans (h i).symm
  · rw [Rect.overlay_of_not_mem _ _ _ hj, h' j hj]

/-- The whole array at zero offsets is its own part, -/
theorem part_zero {s : Shape} {α : Type} (A : s.Idx → α) {o : Fin s.rank → ℕ} (h : ∀ a, o a = 0) (inb : ∀ a, o a + s.size a ≤ s.size a) :
    part A o s.size inb = A := by
  funext j
  refine congrArg A (funext fun a => Fin.ext ?_)
  show o a + 1 * (j a).val = (j a).val
  rw [h a]; omega

/-- and an overlay of everything is the new array. -/
theorem overlay_zero {s : Shape} {α : Type} (A w : s.Idx → α) {o : Fin s.rank → ℕ} (h : ∀ a, o a = 0) (inb : ∀ a, o a + s.size a ≤ s.size a) :
    (Rect.unit o s.size inb).overlay A w = w := by
  refine overlay_eq _ _ _ _ (fun i => ?_) fun j hj => ?_
  · exact congrFun (part_zero w h inb) i
  · refine absurd ?_ hj
    have he : (Rect.unit o s.size inb).emb j = j := funext fun a => Fin.ext (by
      show o a + 1 * (j a).val = (j a).val
      rw [h a]; omega)
    rw [← he]
    exact (Rect.unit o s.size inb).idx_mem _

theorem part_congr {s : Shape} {α : Type} (A : s.Idx → α) {off off' size : Fin s.rank → ℕ} (h : off = off') (inb : ∀ a, off a + size a ≤ s.size a)
    (inb' : ∀ a, off' a + size a ≤ s.size a) : part A off size inb = part A off' size inb' := by
  subst h; rfl

/-! ## Loads and stores inside a block -/

section Step

variable [Preorder Lvl] {defs : Defs nD τ sig Val Λ} (𝒱 : Variants) (c : Thread nD τ)
  (bd : Option 𝒱.V) (E : Set Name) {α : Type} {Q : α → sProp (MT nD τ sig Ix Val Name U Lvl)}
variable {s : Shape} {e : EltTy} {cs : CoreSpace}

/-- A load of a rectangle at offset `o` inside a block. -/
theorem wp_load_in {m : Memref sig c.2.kind cs s e} {off size : Fin s.rank → ℕ} {inb : ∀ a, off a + size a ≤ s.size a}
    {q : PosShare TreeShare} {A : (⟨s.rank, size⟩ : Shape).Idx → Val e}
    {off' size' : Fin s.rank → ℕ} {inb' : ∀ a, off' a + size' a ≤ s.size a} {hl : m.view.LoadsAt (Rect.unit off' size' inb').toLoadRect}
    (o : Fin s.rank → ℕ) (ho : ∀ a, off' a = off a + o a) (hin : ∀ a, o a + size' a ≤ size a)
    {k : ((⟨s.rank, size'⟩ : Shape).Idx → Val e) → Prog (TpuEff nD τ sig Val Λ c.2) α} :
    (owns c (m.slice (Rect.unit off size inb) (fun _ => rfl)) q A : sProp 𝕄)
      ⊢ iprop((owns c (m.slice (Rect.unit off size inb) (fun _ => rfl)) q A -∗ wp frame (wpE defs 𝒱 c bd) E (k (part (s := ⟨s.rank, size⟩) A o size' hin)) Q)
        -∗ wp frame (wpE defs 𝒱 c bd) E (.op (.load m (Rect.unit off' size' inb').toLoadRect hl) k) Q) := by
  unfold owns
  iintro ⟨%f, %hf, H⟩ Hk
  iapply (wp_load 𝒱 c bd E (m := m) (S := (m.slice (Rect.unit off size inb) (fun _ => rfl)).view.set) (f := f) ?_) $$ H
  · show _ ⊆ (m.view.slice (Rect.unit off size inb)).set
    rw [View.set_slice]
    exact Finset.map_subset_map.mpr (unit_sub inb inb' ho hin)
  iintro H
  have hv : m.view.readAt Val (Rect.unit off' size' inb').toLoadRect f = part (s := ⟨s.rank, size⟩) A o size' hin := by
    subst hf
    funext j
    show m.view.read Val f ((Rect.unit off' size' inb').emb j) = m.view.read Val f ((Rect.unit off size inb).emb ((Rect.unit (s := ⟨s.rank, size⟩) o size' hin).emb j))
    rw [unit_emb_emb inb inb' ho hin j]
  rw [hv]
  iapply Hk
  iexists f; isplitr; · ipureintro; exact hf
  iexact H

/-- A store of a rectangle at offset `o` inside a block. -/
theorem wp_store_in {m : Memref sig c.2.kind cs s e} {off size : Fin s.rank → ℕ} {inb : ∀ a, off a + size a ≤ s.size a}
    {A : (⟨s.rank, size⟩ : Shape).Idx → Val e}
    {off' size' : Fin s.rank → ℕ} {inb' : ∀ a, off' a + size' a ≤ s.size a} {w : (⟨s.rank, size'⟩ : Shape).Idx → Val e}
    {hx : (m.access (Rect.unit off' size' inb')).Stores Finset.univ}
    {hm : (Finset.univ : Finset (Rect.unit off' size' inb').shape.Idx) = Finset.univ ∨ ∀ a, (Rect.unit off' size' inb').stride a = 1}
    (o : Fin s.rank → ℕ) (ho : ∀ a, off' a = off a + o a) (hin : ∀ a, o a + size' a ≤ size a)
    {k : PUnit → Prog (TpuEff nD τ sig Val Λ c.2) α} :
    (owns c (m.slice (Rect.unit off size inb) (fun _ => rfl)) fullShare A : sProp 𝕄)
      ⊢ iprop((owns c (m.slice (Rect.unit off size inb) (fun _ => rfl)) fullShare ((Rect.unit (s := ⟨s.rank, size⟩) o size' hin).overlay A w)
            -∗ wp frame (wpE defs 𝒱 c bd) E (k ⟨⟩) Q)
        -∗ wp frame (wpE defs 𝒱 c bd) E (.op (.store m (Rect.unit off' size' inb') w Finset.univ hx hm) k) Q) := by
  unfold owns
  iintro ⟨%f, %hf, H⟩ Hk
  iapply (wp_store 𝒱 c bd E (m := m) (r := Rect.unit off' size' inb') (Mk := Finset.univ)
    (S := (m.slice (Rect.unit off size inb) (fun _ => rfl)).view.set) (f := f) ?_) $$ H
  · show (m.view.slice (Rect.unit off' size' inb')).set ⊆ (m.view.slice (Rect.unit off size inb)).set
    rw [View.set_slice, View.set_slice]
    exact Finset.map_subset_map.mpr (unit_sub inb inb' ho hin)
  iintro H
  iapply Hk
  iexists _; isplitr
  rotate_left
  · iexact H
  ipureintro
  subst hf
  funext i
  show m.view.read Val ((m.access (Rect.unit off' size' inb')).write Val f w Finset.univ) ((Rect.unit off size inb).emb i) = _
  by_cases hi : i ∈ (Rect.unit (s := ⟨s.rank, size⟩) o size' hin).set
  · obtain ⟨j, rfl⟩ := (Rect.unit (s := ⟨s.rank, size⟩) o size' hin).exists_idx_of_mem hi
    change m.view.read Val _ ((Rect.unit off size inb).emb ((Rect.unit (s := ⟨s.rank, size⟩) o size' hin).emb j))
      = (Rect.unit (s := ⟨s.rank, size⟩) o size' hin).overlay _ w ((Rect.unit (s := ⟨s.rank, size⟩) o size' hin).emb j)
    rw [Rect.overlay_emb, unit_emb_emb inb inb' ho hin j]
    exact congrFun (View.read_write_univ (v := m.access (Rect.unit off' size' inb')) f w) j
  · rw [Rect.overlay_of_not_mem _ _ _ hi]
    show m.view.read Val _ _ = m.view.read Val f ((Rect.unit off size inb).emb i)
    rw [View.read_apply, View.read_apply, View.write_of_not_mem]
    rw [View.setOn_univ, View.set_slice, Finset.mem_map' m.view.emb]
    intro hmem
    obtain ⟨j, hj⟩ := (Rect.unit off' size' inb').exists_idx_of_mem hmem
    apply hi
    have : i = (Rect.unit (s := ⟨s.rank, size⟩) o size' hin).emb j := by
      apply (Rect.unit off size inb).emb.injective
      rw [unit_emb_emb inb inb' ho hin j]; exact hj.symm
    rw [this]
    exact (Rect.unit (s := ⟨s.rank, size⟩) o size' hin).toLoadRect.idx_mem j

/-- A load of a rectangle of a memref owned entire. -/
theorem wp_load_of {m : Memref sig c.2.kind cs s e} {q : PosShare TreeShare} {A : s.Idx → Val e}
    {off' size' : Fin s.rank → ℕ} {inb' : ∀ a, off' a + size' a ≤ s.size a} {hl : m.view.LoadsAt (Rect.unit off' size' inb').toLoadRect}
    {k : ((⟨s.rank, size'⟩ : Shape).Idx → Val e) → Prog (TpuEff nD τ sig Val Λ c.2) α} :
    (owns c m q A : sProp 𝕄)
      ⊢ iprop((owns c m q A -∗ wp frame (wpE defs 𝒱 c bd) E (k (part A off' size' inb')) Q)
        -∗ wp frame (wpE defs 𝒱 c bd) E (.op (.load m (Rect.unit off' size' inb').toLoadRect hl) k) Q) := by
  unfold owns
  iintro ⟨%f, %hf, H⟩ Hk
  iapply (wp_load 𝒱 c bd E (m := m) (S := m.view.set) (f := f) (m.view.setOn_subset_set _)) $$ H
  iintro H
  rw [show m.view.readAt Val (Rect.unit off' size' inb').toLoadRect f = part A off' size' inb' from hf ▸ rfl]
  iapply Hk
  iexists f; isplitr; · ipureintro; exact hf
  iexact H

/-- A store to all of a memref. -/
theorem wp_store_of {m : Memref sig c.2.kind cs s e} {A w : s.Idx → Val e} {o : Fin s.rank → ℕ} (h0 : ∀ a, o a = 0)
    {inb : ∀ a, o a + s.size a ≤ s.size a} {hx : (m.access (Rect.unit o s.size inb)).Stores Finset.univ}
    {hm : (Finset.univ : Finset (Rect.unit o s.size inb).shape.Idx) = Finset.univ ∨ ∀ a, (Rect.unit o s.size inb).stride a = 1}
    {k : PUnit → Prog (TpuEff nD τ sig Val Λ c.2) α} :
    (owns c m fullShare A : sProp 𝕄)
      ⊢ iprop((owns c m fullShare w -∗ wp frame (wpE defs 𝒱 c bd) E (k ⟨⟩) Q)
        -∗ wp frame (wpE defs 𝒱 c bd) E (.op (.store m (Rect.unit o s.size inb) w Finset.univ hx hm) k) Q) := by
  unfold owns
  iintro ⟨%f, %hf, H⟩ Hk
  iapply (wp_store 𝒱 c bd E (m := m) (r := Rect.unit o s.size inb) (Mk := Finset.univ) (S := m.view.set) (f := f) (m.view.set_slice_subset _)) $$ H
  iintro H
  iapply Hk
  iexists _; isplitr
  rotate_left
  · iexact H
  ipureintro
  have hp := part_zero (m.view.read Val ((m.access (Rect.unit o s.size inb)).write Val f w Finset.univ)) h0 inb
  rw [← hp]
  exact View.read_write_univ (v := m.access (Rect.unit o s.size inb)) f w

end Step

/-! ## Squeeze, share, contents -/

section Own

variable (c : Thread nD τ) {sp : Space} {s s' : Shape} {e : EltTy}

/-- A memref with its unit axes dropped, owned at the contents re-indexed. -/
theorem owns_squeeze (m : Memref sig c.2.kind sp s e) (h : s.Squeezes s') (q : PosShare TreeShare) (X : s.Idx → Val e) :
    (owns c (m.squeeze s' h) q (fun i => X (Shape.reshapeEquiv h.numel_eq i)) : sProp 𝕄) = owns c m q X := by
  unfold owns
  simp only [Memref.view_squeeze, View.set_reshape]
  have hp (f : m.view.ty.Contents Val) :
      ((m.view.reshape s' h.numel_eq).read Val f = fun i => X (Shape.reshapeEquiv h.numel_eq i)) ↔ m.view.read Val f = X := by
    constructor
    · intro hf
      funext x
      have := congrFun hf ((Shape.reshapeEquiv h.numel_eq).symm x)
      simp only [Equiv.apply_symm_apply] at this
      rw [← this]
      show _ = m.view.read Val f (Shape.reshapeEquiv h.numel_eq ((Shape.reshapeEquiv h.numel_eq).symm x))
      rw [Equiv.apply_symm_apply]
    · intro hf
      subst hf; rfl
  exact congrArg _ (funext fun f => by rw [show _ = _ from propext (hp f)])

/-- An owned memref divides by share. -/
theorem owns_share (m : Memref sig c.2.kind sp s e) (q : PosShare TreeShare) (X : s.Idx → Val e) :
    (owns c m q X : sProp 𝕄) ⊢ iprop(owns c m q.left X ∗ owns c m q.right X) := by
  unfold owns
  iintro ⟨%f, %hf, H⟩
  ihave H' := (pointsTo_share (PosShare.mem_left_op_right q)).1 $$ H
  icases H' with ⟨H1, H2⟩
  isplitl [H1]
  · iexists f; isplitr; · ipureintro; exact hf
    iexact H1
  · iexists f; isplitr; · ipureintro; exact hf
    iexact H2

/-- and comes together again. -/
theorem owns_unshare (m : Memref sig c.2.kind sp s e) (q : PosShare TreeShare) (X : s.Idx → Val e) :
    iprop(owns c m q.left X ∗ owns c m q.right X) ⊢ (owns c m q X : sProp 𝕄) := by
  unfold owns
  iintro ⟨⟨%f, %hf, H1⟩, ⟨%g, %hg, H2⟩⟩
  have hfg : (m.view.loc c ↦[m.view.set]{q.right} g : sProp 𝕄) = (m.view.loc c ↦[m.view.set]{q.right} f) :=
    pointsTo_congr fun i hi => by
      rw [View.set, Finset.mem_map] at hi
      obtain ⟨x, -, rfl⟩ := hi
      have := (congrFun hg x).trans (congrFun hf x).symm
      simp only [View.read] at this
      exact (cast_inj _).mp this
  ihave H2 := (Entails.of_eq hfg) $$ H2
  iexists f; isplitr; · ipureintro; exact hf
  iapply (pointsTo_share (PosShare.mem_left_op_right q)).2
  isplitl [H1] <;> iassumption

end Own

/-! ## A copy between devices -/

section Send

variable {D : Type} [DecidableEq D]
variable [Preorder Lvl] {defs : Defs nD τ sig Val Λ} (𝒱 : Variants)
variable (ER : Emb (URounds (GSem nD τ sig) D) (MT nD τ sig Ix Val Name U Lvl)) (Rd : Schedule (GSem nD τ sig) D (MT nD τ sig Ix Val Name U Lvl))
variable (c : Thread nD τ) (bd : Option 𝒱.V)
variable {α : Type} {Q : α → sProp (MT nD τ sig Ix Val Name U Lvl)}
variable {sp sp' : Space} {s : Shape} {e : EltTy}

/-- A copy of an owned memref onto a memref of another device held at any contents: the source comes back with the
    source cell, the destination is handed over holding the copied array, with `R` besides. -/
theorem wp_send_owns {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {X : s.Idx → Val e} {R : sProp 𝕄} {d₁ d₂ : D}
    {κ₁ κ₂ : Name}
    (hd₁ : d₁ ∈ Rd.duties (c, sS) 0) (hd₂ : d₂ ∈ Rd.duties (c', sem) 0)
    (ι ι' : Ix) (N : ℕ) (hN : dst.view.amount sem = N)
    (hk₁ : Rd.amount (c, sS) 0 d₁ = N) (hk₂ : Rd.amount (c', sem) 0 d₂ = N)
    {O₀ : CellTallies nD τ sig Ix} (O : CellTallies nD τ sig Ix) (hO : O₀ = O + tallyAt (c', sem) ι N) {W : Waits sig Ix}
    (hpay₁ : owns c src q X ⊢ Rd.payload (c, sS) 0 d₁)
    (hpay₂ : iprop(owns c' dst fullShare X ∗ R) ⊢ Rd.payload (c', sem) 0 d₂) {Es : Set Name} (hr : τ.routes c c' = true := by routes) :
    iprop(cellInv ER Rd κ₁ (c, sS) ∗ cellInv ER Rd κ₂ (c', sem)
        ∗ owns c src q X ∗ (∃ Y, owns c' dst fullShare Y) ∗ R
        ∗ owes c O₀ W
        ∗ dutyTok ER (c, sS) 0 d₁ ∗ reached ER (c, sS) 0
        ∗ dutyTok ER (c', sem) 0 d₂ ∗ reached ER (c', sem) 0)
      ⊢ iprop(((cred (tallyAt (c, sS) ι' N) ∗ owes c O W) -∗ wp frame (wpE defs 𝒱 c bd) Es (k ⟨⟩) Q)
          -∗ wp frame (wpE defs 𝒱 c bd) Es (.op (.enqueueDma src (.remote c' dst sS hsc) sem hsrc hdst hsem) k) Q) := by
  iintro ⟨Hi1, Hi2, Hs, ⟨%Y, Hd⟩, HR, HO, Ht1, Hr1, Ht2, Hr2⟩ Hk
  ihave Hs := (show owns c src q X ⊢ iprop(∃ f, ⌜src.view.read Val f = X⌝ ∗ (src.view.loc c ↦[src.view.set]{q} f)) from .rfl) $$ Hs
  icases Hs with ⟨%fs, %hfs, Hs⟩
  ihave Hd := (show owns c' dst fullShare Y ⊢ iprop(∃ f, ⌜dst.view.read Val f = Y⌝ ∗ (dst.view.loc c' ↦[dst.view.set]{fullShare} f)) from .rfl) $$ Hd
  icases Hd with ⟨%fd, %hfd, Hd⟩
  iapply (wp_send_pointsTo_with 𝒱 ER Rd c bd (κ₁ := κ₁) (κ₂ := κ₂) (q := q) (fs := fs) (fd := fd) (F := R) hd₁ hd₂ ι ι' N hN hk₁ hk₂ O hO (W := W)
    (by
      refine BIBase.Entails.trans ?_ hpay₁
      rw [← hfs]; exact owns_intro c src q fs)
    (by
      refine BIBase.Entails.trans ?_ hpay₂
      iintro ⟨H, HR⟩
      isplitl [H]
      · have h := owns_intro (Ix := Ix) (Name := Name) (U := U) (Lvl := Lvl) c' dst fullShare (dst.view.write Val fd (src.view.read Val fs) Finset.univ)
        rw [View.read_write_univ, hfs] at h
        rw [hfs]
        iapply h; iexact H
      · iexact HR) hr) $$ [Hi1 Hi2 Hs Hd HR HO Ht1 Hr1 Ht2 Hr2]
  · isplitl [Hi1]; · iexact Hi1
    isplitl [Hi2]; · iexact Hi2
    isplitl [Hs]; · iexact Hs
    isplitl [Hd HR]
    · isplitl [Hd] <;> iassumption
    isplitl [HO]; · iexact HO
    isplitl [Ht1]; · iexact Ht1
    isplitl [Hr1]; · iexact Hr1
    isplitl [Ht2]; · iexact Ht2
    iexact Hr2
  iexact Hk

end Send

end Cert.Blocks

end
-- ==== Proof.Spec.lean ====
/-
  What the kernel computes, as arrays. A head's pass over the device's 2048 keys takes two chunks of 1024 (`headSt`);
  a block of query rows collects its heads' sums of values, maxima and sums of weights (`cA`, `cM`, `cL`). The ring
  recursion (`ringSt`): at step `t` a device's block is its own pass merged with what its left
  neighbour had after `t` steps. `outB` is the block of output rows a device computes and `outAll` all four.
-/
module

public import proofs.«01_k».proof.Proof.Body
public import proofs.«01_k».proof.Proof.Mem
public import Idealize.ShloMosaic.Lib.ValueIdxCore

@[expose] public section

noncomputable section

namespace Cert.KernelIdeal.Ring

open Idealize.ShloMosaic Idealize.SL.Sem Cert.KernelIdeal.Gen Cert.Blocks
open Idealize.ShloMosaic.ValueIdx (ix2 ix3)

variable {F : FTy → Type} [FloatOps F] [Named F]

/-- A block number, taken round the ring. -/
abbrev bk (n : ℕ) : Fin 4 := ⟨n % 4, Nat.mod_lt _ (by decide)⟩

/-! ## A head -/

/-- Chunk `i` of head `h` of a device's keys or values. -/
def kAt (kf : Vec F S2048x8x128 .f32) (h : Fin 8) (i : ℕ) : Vec F S1024x1x128 .f32 := fun j =>
  kf (ix3 ⟨(1024 * i + (j 0).val) % 2048, Nat.mod_lt _ (by decide)⟩ h ⟨(j 2).val, (j 2).isLt⟩)

/-- A head's running maximum, sum of weights and weighted sum of values. -/
structure HSt (F : FTy → Type) where
  m : FVec F S128x1 .f32
  l : FVec F S128x1 .f32
  a : FVec F S128x128 .f32

/-- A head after `n` chunks. -/
def headSt (q : FVec F S128x128 .f32) (kf vf : Vec F S2048x8x128 .f32) (h : Fin 8) : ℕ → HSt F
  | 0 => ⟨hInit.1, hInit.2, broadcast S128x128 (Scalar.ofBits .f32 0x00000000#32)⟩
  | n + 1 =>
    let s := headSt q kf vf h n
    ⟨hMax q (kAt kf h n) s.m, hSum q (kAt kf h n) s.m s.l, hAcc q (kAt kf h n) (kAt vf h n) s.m s.a⟩

/-! ## A block of query rows -/

/-- Block `b` of the rows of an array. -/
def rowsB (x : Vec F S512x1024 .f32) (b : Fin 4) : Vec F S128x1024 .f32 := fun j =>
  x (ix2 ⟨128 * b.val + (j 0).val, by have : (j 0).val < 128 := (j 0).isLt; have := b.isLt; omega⟩ ⟨(j 1).val, (j 1).isLt⟩)

/-- The head of a column. -/
def hdOf (j : S128x1024.Idx) : Fin 8 := ⟨(j 1).val / 128, by have : (j 1).val < 1024 := (j 1).isLt; omega⟩

/-- The heads' weighted sums of values, side by side, -/
def cA (q : FVec F S128x1024 .f32) (kf vf : Vec F S2048x8x128 .f32) : Vec F S128x1024 .f32 := fun j =>
  (headSt (qHead q (hdOf j)) kf vf (hdOf j) 2).a (ix2 ⟨(j 0).val, (j 0).isLt⟩ ⟨(j 1).val % 128, Nat.mod_lt _ (by decide)⟩)
/-- their maxima, -/
def cM (q : FVec F S128x1024 .f32) (kf vf : Vec F S2048x8x128 .f32) : Vec F S128x8 .f32 := fun j =>
  (headSt (qHead q ⟨(j 1).val, (j 1).isLt⟩) kf vf ⟨(j 1).val, (j 1).isLt⟩ 2).m (ix2 ⟨(j 0).val, (j 0).isLt⟩ 0)
/-- and their sums of weights. -/
def cL (q : FVec F S128x1024 .f32) (kf vf : Vec F S2048x8x128 .f32) : Vec F S128x8 .f32 := fun j =>
  (headSt (qHead q ⟨(j 1).val, (j 1).isLt⟩) kf vf ⟨(j 1).val, (j 1).isLt⟩ 2).l (ix2 ⟨(j 0).val, (j 0).isLt⟩ 0)

/-- A device's inputs: all queries' rows, the two projections, its own keys and values. -/
structure Ins (F : FTy → Type) where
  x : Vec F S512x1024 .f32
  wq : Vec F S1024x1024 .f32
  wo : Vec F S1024x1024 .f32
  k : Vec F S2048x8x128 .f32
  v : Vec F S2048x8x128 .f32

/-- The pass of a device over block `b` of the query rows. -/
def blkA (I : Ins F) (b : Fin 4) : Vec F S128x1024 .f32 := cA (qMat (rowsB I.x b) I.wq) I.k I.v
def blkM (I : Ins F) (b : Fin 4) : Vec F S128x8 .f32 := cM (qMat (rowsB I.x b) I.wq) I.k I.v
def blkL (I : Ins F) (b : Fin 4) : Vec F S128x8 .f32 := cL (qMat (rowsB I.x b) I.wq) I.k I.v

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
set_option backward.proofsInPublic true in
def dia (c : Dev nD) : Dev nD := ⟨(c.val + 2) % 4, Nat.mod_lt _ (by decide)⟩

/-- The block a device sends at step `t` (its own at `t = 0`), -/
abbrev sB (c : Dev nD) (t : ℕ) : Fin 4 := bk ((c.val + 4) - t)

/-- A block with a slot's unit axis in front. -/
def withUnitA (a : Vec F S128x1024 .f32) : Vec F S1x128x1024 .f32 := shapeCast S1x128x1024 a (by decide)
def withUnitM (a : Vec F S128x8 .f32) : Vec F S1x128x8 .f32 := shapeCast S1x128x8 a shapeCasts_S128x8_S1x128x8

/-- A device's maxima, sums of weights and weighted sums of values of the block it sends at step `t`. -/
structure RSt (F : FTy → Type) where
  m : Vec F S128x8 .f32
  l : Vec F S128x8 .f32
  a : Vec F S128x1024 .f32

/-- The merge of a device's own pass with what it received. -/
def mergeSt (own got : RSt F) : RSt F :=
  ⟨gMax own.m (withUnitM got.m), gSum own.m own.l (withUnitM got.m) (withUnitM got.l),
    gAcc own.m (withUnitM got.m) own.a (withUnitA got.a)⟩

/-- A device's own pass over a block. -/
def passSt (I : Ins F) (b : Fin 4) : RSt F := ⟨blkM I b, blkL I b, blkA I b⟩

/-- What a device holds of the block it sends at step `t`: of block `sB c t`. -/
def ringSt (In : Dev nD → Ins F) : ℕ → Dev nD → RSt F
  | 0, c => passSt (In c) (sB c 0)
  | t + 1, c => mergeSt (passSt (In c) (sB c (t + 1))) (ringSt In t (prv c))

/-- The output rows a device computes, those of block `c + 1`, -/
def outB (In : Dev nD → Ins F) (c : Dev nD) : Vec F S128x1024 .f32 :=
  outRows (ringSt In 3 c).l (ringSt In 3 c).a (In c).wo

/-- and all the output rows: block `b` comes from device `b - 1`. -/
def outAll (In : Dev nD → Ins F) : Vec F S512x1024 .f32 := fun j =>
  outB In (⟨((j 0).val / 128 + 3) % 4, Nat.mod_lt _ (by decide)⟩ : Dev nD)
    (ix2 ⟨(j 0).val % 128, Nat.mod_lt _ (by decide)⟩ ⟨(j 1).val, (j 1).isLt⟩)

/-- A slot of statistics: eight columns of maxima, then eight of sums. -/
def sideBySide (m l : Vec F S128x8 .f32) : Vec F S128x16 .f32 := fun j =>
  if h : (j 1).val < 8 then m (ix2 ⟨(j 0).val, (j 0).isLt⟩ ⟨(j 1).val, h⟩)
  else l (ix2 ⟨(j 0).val, (j 0).isLt⟩ ⟨(j 1).val - 8, by have : (j 1).val < 16 := (j 1).isLt; omega⟩)

end Cert.KernelIdeal.Ring

end
-- ==== Proof.Chunk.lean ====
/-
  A block of query rows against the device's keys: what `headProg` and `chunkProg` do to the rows' block of the
  accumulator and of the two statistics, once for every head, every block and every device.
-/
module

public import proofs.«01_k».proof.Proof.Spec
public import Idealize.ShloMosaic.Lib.Pipeline.Launch
public import Idealize.ShloMosaic.Lib.Pipeline.Kit
public import Idealize.ShloMosaic.Lib.Pipeline.Value
public import Idealize.ShloMosaic.Lib.Scf

@[expose] public section

noncomputable section

namespace Cert.KernelIdeal.Ring

open Cert.KernelIdeal.Gen Cert.Blocks
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

/-! ## The resource algebra: the pipeline library's copy (duties `Unit`) and the ring's (duties `Bool`) -/

abbrev UB : Type := URounds (GSem nD τ sig) Bool
abbrev UU : Type := UR sig nD τ × UB

local notation "𝕄" => MT nD τ sig Unit (Elt F) ℕ UU ℕ

abbrev 𝒱₀ : Variants := Variants.none

/-- The weakest precondition of a piece of the body on device `d`. -/
abbrev WP (d : Dev nD) (p : Prog (TpuEff nD τ sig (Elt F) Λ₀ .tc) PUnit) (Q : PUnit → sProp 𝕄) : sProp 𝕄 :=
  wp frame (wpE (defs₀ (F := F)) 𝒱₀ (d : Thread nD τ) none) Set.univ p Q

/-! ## Blocks -/

theorem inbB (b : Fin 4) : ∀ i, (![128 * b.val, 0] : Fin 2 → ℕ) i + S128x1024.size i ≤ S512x1024.size i := by
  revert b; decide +kernel
theorem inbB8 (b : Fin 4) : ∀ i, (![128 * b.val, 0] : Fin 2 → ℕ) i + S128x8.size i ≤ S512x8.size i := by
  revert b; decide +kernel

/-- Block `b` of the accumulator's rows, of the output's, of the maxima's and of the sums'. -/
abbrev accB (b : Fin 4) : Memref sig .tc .vmem S128x1024 .f32 := accAt ![128 * b.val, 0] (inbB b)
abbrev outBk (b : Fin 4) : Memref sig .tc .vmem S128x1024 .f32 := outAt ![128 * b.val, 0] (inbB b)
abbrev mB (b : Fin 4) : Memref sig .tc .vmem S128x8 .f32 :=
  bM.slice (Rect.unit (s := S512x8) ![128 * b.val, 0] S128x8.size (inbB8 b)) (fun _ => rfl)
abbrev lB (b : Fin 4) : Memref sig .tc .vmem S128x8 .f32 :=
  bL.slice (Rect.unit (s := S512x8) ![128 * b.val, 0] S128x8.size (inbB8 b)) (fun _ => rfl)

abbrev own (d : Dev nD) {s : Shape} {e : EltTy} (m : Memref sig .tc .vmem s e) (A : s.Idx → Elt F e) : sProp 𝕄 :=
  owns (d : Thread nD τ) m fullShare A

/-! ## A head -/

theorem trips_two : k0_t1_loop.trips = 2 := by decide +kernel

/-- A head's offsets are those of block `b` and head `h`. -/
structure HeadOff.At (o : HeadOff) (b : Fin 4) (h : Fin 8) : Prop where
  k : ∀ i, o.k i = ![1024 * i.val, h.val, 0]
  a : o.a = ![128 * b.val, 128 * h.val]
  m : o.m = ![128 * b.val, h.val]

theorem part_kAt (kf : Vec F S2048x8x128 .f32) (h : Fin 8) (i : Fin k0_t1_loop.trips) {off : Fin 3 → ℕ} (ho : off = ![1024 * i.val, h.val, 0])
    (inb : ∀ a, off a + S1024x1x128.size a ≤ S2048x8x128.size a) : part (s := S2048x8x128) kf off S1024x1x128.size inb = kAt kf h i.val := by
  subst ho
  funext j
  have hi : i.val < 2 := trips_two ▸ i.isLt
  have h0 : (j 0).val < 1024 := (j 0).isLt
  have h1 : (j 1).val < 1 := (j 1).isLt
  refine congrArg kf (funext fun a => ?_)
  match a with
  | ⟨0, _⟩ => exact Fin.ext (show 1024 * i.val + 1 * (j 0).val = (1024 * i.val + (j 0).val) % 2048 by omega)
  | ⟨1, _⟩ => exact Fin.ext (show h.val + 1 * (j 1).val = h.val by omega)
  | ⟨2, _⟩ => exact Fin.ext (show 0 + 1 * (j 2).val = (j 2).val by omega)

theorem inbT (h : Fin 8) : ∀ i, (![0, 128 * h.val] : Fin 2 → ℕ) i + S128x128.size i ≤ S128x1024.size i := by revert h; decide +kernel
theorem inbC (h : Fin 8) : ∀ i, (![0, h.val] : Fin 2 → ℕ) i + S128x1.size i ≤ S128x8.size i := by revert h; decide +kernel

/-- Head `h`'s tile of a block's columns and its column of the statistics. -/
abbrev tileR (h : Fin 8) : Rect S128x1024 := Rect.unit ![0, 128 * h.val] S128x128.size (inbT h)
abbrev colR (h : Fin 8) : Rect S128x8 := Rect.unit ![0, h.val] S128x1.size (inbC h)

/-- The array whose first `n` heads' columns are done. -/
def mixA {α : Type} (n : ℕ) (old new : S128x1024.Idx → α) : S128x1024.Idx → α := fun j => if (j 1).val < 128 * n then new j else old j
def mixC {α : Type} (n : ℕ) (old new : S128x8.Idx → α) : S128x8.Idx → α := fun j => if (j 1).val < n then new j else old j

theorem mixA_zero {α : Type} (old new : S128x1024.Idx → α) : mixA 0 old new = old := by
  funext j; unfold mixA; rw [if_neg (by omega)]
theorem mixA_last {α : Type} (old new : S128x1024.Idx → α) : mixA 8 old new = new := by
  funext j; unfold mixA; rw [if_pos (show (j 1).val < 1024 from (j 1).isLt)]
theorem mixC_zero {α : Type} (old new : S128x8.Idx → α) : mixC 0 old new = old := by
  funext j; unfold mixC; rw [if_neg (by omega)]
theorem mixC_last {α : Type} (old new : S128x8.Idx → α) : mixC 8 old new = new := by
  funext j; unfold mixC; rw [if_pos (show (j 1).val < 8 from (j 1).isLt)]

theorem mixA_step {α : Type} (h : Fin 8) (old new : S128x1024.Idx → α) (w : S128x128.Idx → α)
    (hw : ∀ i : S128x128.Idx, new ((tileR h).emb i) = w i) : (tileR h).overlay (mixA h.val old new) w = mixA (h.val + 1) old new := by
  refine overlay_eq _ _ _ _ (fun i => ?_) fun j hj => ?_
  · rw [← hw i]; unfold mixA
    refine if_pos ?_
    have : (i 1).val < 128 := (i 1).isLt
    show 128 * h.val + 1 * (i 1).val < _
    omega
  · unfold mixA
    by_cases h1 : (j 1).val < 128 * h.val
    · rw [if_pos h1, if_pos (by omega)]
    · rw [if_neg h1, if_neg]
      intro h2
      refine hj ((tileR h).mem_set.mpr fun a => ?_)
      match a with
      | ⟨0, _⟩ => exact ⟨(j 0).val, (j 0).isLt, (show (j 0).val = 0 + 1 * (j 0).val by omega)⟩
      | ⟨1, _⟩ => exact ⟨(j 1).val - 128 * h.val, (show _ < 128 by omega), (show (j 1).val = 128 * h.val + 1 * ((j 1).val - 128 * h.val) by omega)⟩

theorem mixC_step {α : Type} (h : Fin 8) (old new : S128x8.Idx → α) (w : S128x1.Idx → α)
    (hw : ∀ i : S128x1.Idx, new ((colR h).emb i) = w i) : (colR h).overlay (mixC h.val old new) w = mixC (h.val + 1) old new := by
  refine overlay_eq _ _ _ _ (fun i => ?_) fun j hj => ?_
  · rw [← hw i]; unfold mixC
    refine if_pos ?_
    have : (i 1).val < 1 := (i 1).isLt
    show h.val + 1 * (i 1).val < _
    omega
  · unfold mixC
    by_cases h1 : (j 1).val < h.val
    · rw [if_pos h1, if_pos (by omega)]
    · rw [if_neg h1, if_neg]
      intro h2
      refine hj ((colR h).mem_set.mpr fun a => ?_)
      match a with
      | ⟨0, _⟩ => exact ⟨(j 0).val, (j 0).isLt, (show (j 0).val = 0 + 1 * (j 0).val by omega)⟩
      | ⟨1, _⟩ => exact ⟨(j 1).val - h.val, (show _ < 1 by omega), (show (j 1).val = h.val + 1 * ((j 1).val - h.val) by omega)⟩

theorem cA_tile (q : FVec F S128x1024 .f32) (kf vf : Vec F S2048x8x128 .f32) (h : Fin 8) (i : S128x128.Idx) :
    cA q kf vf ((tileR h).emb i) = (headSt (qHead q h) kf vf h 2).a i := by
  have hh : hdOf ((tileR h).emb i) = h := Fin.ext (by
    have : (i 1).val < 128 := (i 1).isLt
    show (128 * h.val + 1 * (i 1).val) / 128 = h.val
    omega)
  unfold cA
  rw [hh]
  refine congrArg _ (funext fun a => ?_)
  match a with
  | ⟨0, _⟩ => exact Fin.ext (show 0 + 1 * (i 0).val = (i 0).val by omega)
  | ⟨1, _⟩ => exact Fin.ext (show (128 * h.val + 1 * (i 1).val) % 128 = (i 1).val by have : (i 1).val < 128 := (i 1).isLt; omega)

theorem col_eq (h : Fin 8) (i : S128x1.Idx) : (⟨(((colR h).emb i) 1).val, (((colR h).emb i) 1).isLt⟩ : Fin 8) = h :=
  Fin.ext (show h.val + 1 * (i 1).val = h.val by have : (i 1).val < 1 := (i 1).isLt; omega)
theorem row_eq (h : Fin 8) (i : S128x1.Idx) : (ix2 (⟨(((colR h).emb i) 0).val, (((colR h).emb i) 0).isLt⟩ : Fin 128) (0 : Fin 1)) = i :=
  funext fun a => match a with
    | ⟨0, _⟩ => Fin.ext (show 0 + 1 * (i 0).val = (i 0).val by omega)
    | ⟨1, _⟩ => Fin.ext (show 0 = (i 1).val by have : (i 1).val < 1 := (i 1).isLt; omega)

theorem cM_col (q : FVec F S128x1024 .f32) (kf vf : Vec F S2048x8x128 .f32) (h : Fin 8) (i : S128x1.Idx) :
    cM q kf vf ((colR h).emb i) = (headSt (qHead q h) kf vf h 2).m i := by
  unfold cM
  rw [col_eq h i, row_eq h i]
theorem cL_col (q : FVec F S128x1024 .f32) (kf vf : Vec F S2048x8x128 .f32) (h : Fin 8) (i : S128x1.Idx) :
    cL q kf vf ((colR h).emb i) = (headSt (qHead q h) kf vf h 2).l i := by
  unfold cL
  rw [col_eq h i, row_eq h i]

/-- The array a block of the accumulator starts from. -/
abbrev zeroB : Vec F S128x1024 .f32 := broadcast S128x1024 (Scalar.ofBits .f32 0x00000000#32)

theorem off_a {b : Fin 4} {h : Fin 8} {off : Fin 2 → ℕ} (e : off = ![128 * b.val, 128 * h.val]) :
    ∀ a, off a = (![128 * b.val, 0] : Fin 2 → ℕ) a + (![0, 128 * h.val] : Fin 2 → ℕ) a := by
  subst e; intro a; match a with | ⟨0, _⟩ => rfl | ⟨1, _⟩ => exact (Nat.zero_add _).symm
theorem off_m {b : Fin 4} {h : Fin 8} {off : Fin 2 → ℕ} (e : off = ![128 * b.val, h.val]) :
    ∀ a, off a = (![128 * b.val, 0] : Fin 2 → ℕ) a + (![0, h.val] : Fin 2 → ℕ) a := by
  subst e; intro a; match a with | ⟨0, _⟩ => rfl | ⟨1, _⟩ => exact (Nat.zero_add _).symm

/-- What a head's loop keeps: the keys, the values, and its tile at what `n` chunks give. -/
def loopInv (d : Dev nD) (b : Fin 4) (h : Fin 8) (q : FVec F S128x128 .f32) (kf vf : Vec F S2048x8x128 .f32) (A : Vec F S128x1024 .f32)
    (n : ℕ) (p : FVec F S128x1 .f32 × FVec F S128x1 .f32) : sProp 𝕄 :=
  iprop(⌜p = ((headSt q kf vf h n).m, (headSt q kf vf h n).l)⌝ ∗ own d bK kf ∗ own d bV vf
    ∗ own d (accB b) ((tileR h).overlay A (headSt q kf vf h n).a))

theorem wp_headBody (d : Dev nD) (b : Fin 4) (h : Fin 8) (o : HeadOff) (ho : o.At b h) (q : FVec F S128x128 .f32)
    (kf vf : Vec F S2048x8x128 .f32) (A : Vec F S128x1024 .f32) (i : Fin k0_t1_loop.trips) (p : FVec F S128x1 .f32 × FVec F S128x1 .f32) :
    loopInv d b h q kf vf A i.val p
      ⊢ wp frame (wpE (defs₀ (F := F)) 𝒱₀ (d : Thread nD τ) none) Set.univ (headBody o q i p) (loopInv d b h q kf vf A (i.val + 1)) := by
  unfold headBody
  simp only [Prog.lift, Prog.bind_op, Prog.bind_ret, Prog.pure_eq_ret]
  unfold loopInv
  iintro ⟨%hp, HK, HV, HA⟩
  subst hp
  iapply (wp_load_of 𝒱₀ (d : Thread nD τ) none Set.univ) $$ HK; iintro HK
  iapply (wp_load_of 𝒱₀ (d : Thread nD τ) none Set.univ) $$ HV; iintro HV
  iapply (wp_load_in 𝒱₀ (d : Thread nD τ) none Set.univ _ (off_a ho.a) (inbT h)) $$ HA; iintro HA
  iapply (wp_load_in 𝒱₀ (d : Thread nD τ) none Set.univ _ (off_a ho.a) (inbT h)) $$ HA; iintro HA
  iapply (wp_store_in 𝒱₀ (d : Thread nD τ) none Set.univ _ (off_a ho.a) (inbT h)) $$ HA; iintro HA
  rw [wp_ret]; imodintro
  rw [part_kAt kf h i (ho.k i) (o.hk i), part_kAt vf h i (ho.k i) (o.hk i)]
  isplitr
  · ipureintro; rfl
  isplitl [HK]; · iexact HK
  isplitl [HV]; · iexact HV
  refine Entails.of_eq (congrArg (own d (accB b)) ?_)
  refine (overlay_overlay (tileR h) _ _ _).trans (congrArg ((tileR h).overlay A) ?_)
  refine (shapeCast_self _ _).trans ?_
  exact congrArg (hAcc q (kAt kf h i.val) (kAt vf h i.val) (headSt q kf vf h i.val).m) (part_overlay A _ _ (inbT h) _)

/-- A head: its columns of the block go from the start to what two chunks give. -/
theorem wp_head (d : Dev nD) (b : Fin 4) (h : Fin 8) (o : HeadOff) (ho : o.At b h) (n n' : ℕ) (hn : n = h.val) (hn' : n' = h.val + 1) (qm : FVec F S128x1024 .f32)
    (kf vf : Vec F S2048x8x128 .f32) (M L : Vec F S128x8 .f32) {k : Prog (TpuEff nD τ sig (Elt F) Λ₀ .tc) PUnit} {Q : PUnit → sProp 𝕄} :
    iprop(own d bK kf ∗ own d bV vf ∗ own d (accB b) (mixA n zeroB (cA qm kf vf))
        ∗ own d (mB b) (mixC n M (cM qm kf vf)) ∗ own d (lB b) (mixC n L (cL qm kf vf)))
      ⊢ iprop(((own d bK kf ∗ own d bV vf ∗ own d (accB b) (mixA n' zeroB (cA qm kf vf))
          ∗ own d (mB b) (mixC n' M (cM qm kf vf)) ∗ own d (lB b) (mixC n' L (cL qm kf vf))) -∗ WP d k Q)
        -∗ WP d (headProg o (qHead qm h) k) Q) := by
  subst hn hn'
  unfold headProg
  iintro ⟨HK, HV, HA, HM, HL⟩ Hk
  iapply (Scf.wp_for_bind (E := TpuEff nD τ sig (Elt F) Λ₀ .tc) frame (wpE (defs₀ (F := F)) 𝒱₀ (d : Thread nD τ) none) Set.univ
    k0_t1_loop.lb k0_t1_loop.ub k0_t1_loop.st k0_t1_ok hInit (headBody o (qHead qm h)) (loopInv d b h (qHead qm h) kf vf (mixA h.val zeroB (cA qm kf vf)))
    (fun i p => wp_headBody d b h o ho (qHead qm h) kf vf _ i p)) $$ [HK HV HA]
  · unfold loopInv
    isplitr
    · ipureintro; rfl
    isplitl [HK]; · iexact HK
    isplitl [HV]; · iexact HV
    rw [show (tileR h).overlay (mixA h.val zeroB (cA qm kf vf)) (headSt (qHead qm h) kf vf h 0).a = mixA h.val zeroB (cA qm kf vf) from
      overlay_eq _ _ _ _ (fun i => by
        unfold mixA
        exact if_neg (show ¬ (128 * h.val + 1 * (i 1).val) < 128 * h.val by omega)) (fun _ _ => rfl)]
    iexact HA
  iintro %p Hp
  ihave Hp := (show loopInv d b h (qHead qm h) kf vf (mixA h.val zeroB (cA qm kf vf)) (Scf.trips k0_t1_loop.lb k0_t1_loop.ub k0_t1_loop.st) p
    ⊢ loopInv d b h (qHead qm h) kf vf (mixA h.val zeroB (cA qm kf vf)) 2 p from Entails.of_eq (congrArg (fun n => loopInv d b h (qHead qm h) kf vf _ n p) trips_two)) $$ Hp
  unfold loopInv headEnd
  icases Hp with ⟨%hp, HK, HV, HA⟩
  subst hp
  simp only [Prog.lift, Prog.bind_op, Prog.bind_ret, Prog.pure_eq_ret]
  iapply (wp_load_in 𝒱₀ (d : Thread nD τ) none Set.univ _ (off_m ho.m) (inbC h)) $$ HM; iintro HM
  iapply (wp_store_in 𝒱₀ (d : Thread nD τ) none Set.univ _ (off_m ho.m) (inbC h)) $$ HM; iintro HM
  iapply (wp_load_in 𝒱₀ (d : Thread nD τ) none Set.univ _ (off_m ho.m) (inbC h)) $$ HL; iintro HL
  iapply (wp_store_in 𝒱₀ (d : Thread nD τ) none Set.univ _ (off_m ho.m) (inbC h)) $$ HL; iintro HL
  iapply Hk
  isplitl [HK]; · iexact HK
  isplitl [HV]; · iexact HV
  rw [← mixA_step h zeroB (cA qm kf vf) _ (cA_tile qm kf vf h), ← mixC_step h M (cM qm kf vf) _ (cM_col qm kf vf h),
    ← mixC_step h L (cL qm kf vf) _ (cL_col qm kf vf h)]
  isplitl [HA]; · iexact HA
  simp only [shapeCast_self]
  isplitl [HM]; · iexact HM
  iexact HL

/-! ## A block -/

theorem part_rowsB (x : Vec F S512x1024 .f32) (b : Fin 4) {off : Fin 2 → ℕ} (ho : off = ![128 * b.val, 0])
    (inb : ∀ a, off a + S128x1024.size a ≤ S512x1024.size a) : part (s := S512x1024) x off S128x1024.size inb = rowsB x b := by
  subst ho
  funext j
  refine congrArg x (funext fun a => ?_)
  match a with
  | ⟨0, _⟩ => exact Fin.ext (show 128 * b.val + 1 * (j 0).val = 128 * b.val + (j 0).val by omega)
  | ⟨1, _⟩ => exact Fin.ext (show 0 + 1 * (j 1).val = (j 1).val by omega)

/-- A pass of the device over block `b` of the query rows: its accumulator's block, cleared before, and its statistics. -/
theorem wp_chunk (d : Dev nD) (b : Fin 4) {ox : Fin 2 → ℕ} (hox : ox = ![128 * b.val, 0]) {hx : ∀ i, ox i + S128x1024.size i ≤ S512x1024.size i}
    {o : Fin 8 → HeadOff} (ho : ∀ h, (o h).At b h) (I : Ins F)
    {k : Prog (TpuEff nD τ sig (Elt F) Λ₀ .tc) PUnit} {Q : PUnit → sProp 𝕄} :
    iprop(own d bX I.x ∗ own d bWq I.wq ∗ own d bK I.k ∗ own d bV I.v ∗ own d (accB b) zeroB
        ∗ (∃ M, own d (mB b) M) ∗ (∃ L, own d (lB b) L))
      ⊢ iprop(((own d bX I.x ∗ own d bWq I.wq ∗ own d bK I.k ∗ own d bV I.v ∗ own d (accB b) (blkA I b)
          ∗ own d (mB b) (blkM I b) ∗ own d (lB b) (blkL I b)) -∗ WP d k Q)
        -∗ WP d (chunkProg ox hx o k) Q) := by
  unfold chunkProg
  simp only [Prog.lift, Prog.bind_op, Prog.bind_ret, Prog.pure_eq_ret]
  iintro ⟨HX, HW, HK, HV, HA, ⟨%M, HM⟩, ⟨%L, HL⟩⟩ Hk
  iapply (wp_load_of 𝒱₀ (d : Thread nD τ) none Set.univ) $$ HX; iintro HX
  iapply (wp_load_of 𝒱₀ (d : Thread nD τ) none Set.univ) $$ HW; iintro HW
  rw [part_rowsB I.x b hox hx, part_zero (s := S1024x1024) I.wq (o := ![0, 0]) (by decide) inb_S1024x1024_S1024x1024_0_0]
  unfold headsProg blkA blkM blkL
  rw [← mixA_zero zeroB (cA (qMat (rowsB I.x b) I.wq) I.k I.v), ← mixC_zero M (cM (qMat (rowsB I.x b) I.wq) I.k I.v),
    ← mixC_zero L (cL (qMat (rowsB I.x b) I.wq) I.k I.v)]
  iapply (wp_head d b 0 (o 0) (ho 0) 0 1 rfl rfl (qMat (rowsB I.x b) I.wq) I.k I.v M L) $$ [HK HV HA HM HL]
  · iframe HK HV HA HM HL
  iintro H
  iapply (wp_head d b 1 (o 1) (ho 1) 1 2 rfl rfl (qMat (rowsB I.x b) I.wq) I.k I.v M L) $$ H; iintro H
  iapply (wp_head d b 2 (o 2) (ho 2) 2 3 rfl rfl (qMat (rowsB I.x b) I.wq) I.k I.v M L) $$ H; iintro H
  iapply (wp_head d b 3 (o 3) (ho 3) 3 4 rfl rfl (qMat (rowsB I.x b) I.wq) I.k I.v M L) $$ H; iintro H
  iapply (wp_head d b 4 (o 4) (ho 4) 4 5 rfl rfl (qMat (rowsB I.x b) I.wq) I.k I.v M L) $$ H; iintro H
  iapply (wp_head d b 5 (o 5) (ho 5) 5 6 rfl rfl (qMat (rowsB I.x b) I.wq) I.k I.v M L) $$ H; iintro H
  iapply (wp_head d b 6 (o 6) (ho 6) 6 7 rfl rfl (qMat (rowsB I.x b) I.wq) I.k I.v M L) $$ H; iintro H
  iapply (wp_head d b 7 (o 7) (ho 7) 7 8 rfl rfl (qMat (rowsB I.x b) I.wq) I.k I.v M L) $$ H; iintro ⟨HK, HV, HA, HM, HL⟩
  iapply Hk
  isplitl [HX]; · iexact HX
  isplitl [HW]; · iexact HW
  isplitl [HK]; · iexact HK
  isplitl [HV]; · iexact HV
  isplitl [HA]
  · iapply (Entails.of_eq (congrArg (own d (accB b)) (mixA_last zeroB _))) $$ HA
  isplitl [HM]
  · iapply (Entails.of_eq (congrArg (own d (mB b)) (mixC_last M _))) $$ HM
  · iapply (Entails.of_eq (congrArg (own d (lB b)) (mixC_last L _))) $$ HL

end Cert.KernelIdeal.Ring

end
-- ==== Proof.Step.lean ====
/-
  The pieces of the body that touch no other device: the accumulator cleared, a step's statistics staged, its merge,
  the output rows of the device's own block.
-/
module

public import proofs.«01_k».proof.Proof.Chunk
public import Idealize.ShloMosaic.Lib.Pointwise

@[expose] public section

noncomputable section

namespace Cert.KernelIdeal.Ring

open Cert.KernelIdeal.Gen Cert.Blocks
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The offsets, by block -/

theorem off1_at : ∀ d : Dev nD, k0_off1 d = ![128 * (sB d 0).val, 0] := by decide +kernel
theorem off26_at : ∀ (d : Dev nD) (t : Fin 3), k0_off26 d (tw t) = ![128 * (sB d t.val).val, 0] := by decide +kernel
theorem off27_at : ∀ (d : Dev nD) (t : Fin 3), k0_off27 d (tw t) = ![128 * (sB d t.val).val, 0] := by decide +kernel
theorem off28_at : ∀ (d : Dev nD) (t : Fin 3), k0_off28 d (tw t) = ![128 * (sB d (t.val + 1)).val, 0] := by decide +kernel
theorem off53_at : ∀ (d : Dev nD) (t : Fin 3), k0_off53 d (tw t) = ![128 * (sB d (t.val + 1)).val, 0] := by decide +kernel
theorem off86_at : ∀ d : Dev nD, k0_off86 d = ![128 * (sB d 3).val, 0] := by decide +kernel
theorem off87_at : ∀ d : Dev nD, k0_off87 d = ![128 * (sB d 3).val, 0] := by decide +kernel
theorem off88_at : ∀ d : Dev nD, k0_off88 d = ![128 * (sB d 3).val, 0] := by decide +kernel

theorem offs0_at (d : Dev nD) (h : Fin 8) : (offs0 d h).At (sB d 0) h :=
  ⟨by revert d h; decide +kernel, by revert d h; decide +kernel, by revert d h; decide +kernel⟩
theorem offs1_at (d : Dev nD) (h : Fin 8) : (offs1 d h).At (sB d 1) h :=
  ⟨by revert d h; decide +kernel, by revert d h; decide +kernel, by revert d h; decide +kernel⟩
theorem offs2_at (d : Dev nD) (h : Fin 8) : (offs2 d h).At (sB d 2) h :=
  ⟨by revert d h; decide +kernel, by revert d h; decide +kernel, by revert d h; decide +kernel⟩
theorem offs3_at (d : Dev nD) (h : Fin 8) : (offs3 d h).At (sB d 3) h :=
  ⟨by revert d h; decide +kernel, by revert d h; decide +kernel, by revert d h; decide +kernel⟩

theorem off_zero {b : Fin 4} {off : Fin 2 → ℕ} (e : off = ![128 * b.val, 0]) :
    ∀ a, off a = (![128 * b.val, 0] : Fin 2 → ℕ) a + (![0, 0] : Fin 2 → ℕ) a := by
  subst e; intro a; match a with | ⟨0, _⟩ => rfl | ⟨1, _⟩ => rfl
theorem off_slot (t : Fin 3) : ∀ a, (![t.val, 0, 0] : Fin 3 → ℕ) a = (![t.val, 0, 0] : Fin 3 → ℕ) a + (![0, 0, 0] : Fin 3 → ℕ) a := by
  intro a; match a with | ⟨0, _⟩ => rfl | ⟨1, _⟩ => rfl | ⟨2, _⟩ => rfl
theorem off_slot8 (t : Fin 3) : ∀ a, (![t.val, 0, 8] : Fin 3 → ℕ) a = (![t.val, 0, 0] : Fin 3 → ℕ) a + (![0, 0, 8] : Fin 3 → ℕ) a := by
  intro a; match a with | ⟨0, _⟩ => rfl | ⟨1, _⟩ => rfl | ⟨2, _⟩ => exact (Nat.zero_add _).symm

/-! ## Unit axes -/

/-- An array behind one coordinate that is always zero. -/
def unit3 {a b : ℕ} {α : Type} (X : (⟨2, ![a, b]⟩ : Shape).Idx → α) : (⟨3, ![1, a, b]⟩ : Shape).Idx → α := fun j => X (ValueIdx.ix2 (j 1) (j 2))

theorem drop_unit {a b : ℕ} (h : (⟨2, ![a, b]⟩ : Shape).numel = (⟨3, ![1, a, b]⟩ : Shape).numel) (j : (⟨2, ![a, b]⟩ : Shape).Idx) :
    Shape.reshapeEquiv h j = ValueIdx.ix3 0 (j 0) (j 1) :=
  Shape.reshapeEquiv_eq_of_vals h _ _ _ _ (rowMajor_val3 _ (a * b) b rfl rfl) (rowMajor_val2 _ b rfl)
    (show 0 * (a * b) + (j 0).val * b + (j 1).val = (j 0).val * b + (j 1).val by omega)
theorem add_unit {a b : ℕ} (h : (⟨3, ![1, a, b]⟩ : Shape).numel = (⟨2, ![a, b]⟩ : Shape).numel) (j : (⟨3, ![1, a, b]⟩ : Shape).Idx) :
    Shape.reshapeEquiv h j = ValueIdx.ix2 (j 1) (j 2) :=
  Shape.reshapeEquiv_eq_of_vals h _ _ _ _ (rowMajor_val2 _ b rfl) (rowMajor_val3 _ (a * b) b rfl rfl)
    (by
      have : (j 0).val < 1 := (j 0).isLt
      rw [show (j 0).val = 0 by omega]
      show (j 1).val * b + (j 2).val = 0 * (a * b) + (j 1).val * b + (j 2).val
      omega)
theorem unit3_drop {a b : ℕ} {α : Type} (h : (⟨2, ![a, b]⟩ : Shape).numel = (⟨3, ![1, a, b]⟩ : Shape).numel) (X : (⟨2, ![a, b]⟩ : Shape).Idx → α) :
    (fun i => unit3 X (Shape.reshapeEquiv h i)) = X := by
  funext i
  rw [drop_unit h i]
  unfold unit3
  exact congrArg X (ValueIdx.eq_ix2 i).symm
theorem unit3_cast {a b : ℕ} {α : Type} (X : (⟨2, ![a, b]⟩ : Shape).Idx → α) (h : (⟨2, ![a, b]⟩ : Shape).ShapeCasts ⟨3, ![1, a, b]⟩) :
    shapeCast ⟨3, ![1, a, b]⟩ X h = unit3 X := by
  funext j
  show X (Shape.reshapeEquiv _ j) = _
  rw [add_unit]; rfl

/-- The slots with their unit axis. -/
abbrev slotAu (t : Fin 3) : Memref sig .tc .vmem S1x128x1024 .f32 :=
  bRsA.slice (Rect.unit (s := S3x128x1024) ![t.val, 0, 0] S1x128x1024.size (inbA3 t)) (fun _ => rfl)
abbrev slotMu (t : Fin 3) : Memref sig .tc .vmem S1x128x16 .f32 :=
  bRsM.slice (Rect.unit (s := S3x128x16) ![t.val, 0, 0] S1x128x16.size (inbM3 t)) (fun _ => rfl)
abbrev slotGu (t : Fin 3) : Memref sig .tc .vmem S1x128x16 .f32 :=
  bStg.slice (Rect.unit (s := S3x128x16) ![t.val, 0, 0] S1x128x16.size (inbM3 t)) (fun _ => rfl)

theorem own_slotA (d : Dev nD) (t : Fin 3) (X : S128x1024.Idx → Elt F .f32) : (own d (slotA t) X : sProp 𝕄) = own d (slotAu t) (unit3 X) := by
  refine Eq.trans ?_ (owns_squeeze (d : Thread nD τ) (slotAu t) squeezes_S1x128x1024_S128x1024 fullShare (unit3 X))
  exact congrArg (own d (slotA t)) (unit3_drop _ X).symm
theorem own_slotM (d : Dev nD) (t : Fin 3) (X : S128x16.Idx → Elt F .f32) : (own d (slotM t) X : sProp 𝕄) = own d (slotMu t) (unit3 X) := by
  refine Eq.trans ?_ (owns_squeeze (d : Thread nD τ) (slotMu t) squeezes_S1x128x16_S128x16 fullShare (unit3 X))
  exact congrArg (own d (slotM t)) (unit3_drop _ X).symm
theorem own_slotG (d : Dev nD) (t : Fin 3) (X : S128x16.Idx → Elt F .f32) : (own d (slotG t) X : sProp 𝕄) = own d (slotGu t) (unit3 X) := by
  refine Eq.trans ?_ (owns_squeeze (d : Thread nD τ) (slotGu t) squeezes_S1x128x16_S128x16 fullShare (unit3 X))
  exact congrArg (own d (slotG t)) (unit3_drop _ X).symm

/-! ## Staged statistics -/

theorem inbU0 : ∀ a, (![0, 0, 0] : Fin 3 → ℕ) a + S1x128x8.size a ≤ S1x128x16.size a := by decide +kernel
theorem inbU8 : ∀ a, (![0, 0, 8] : Fin 3 → ℕ) a + S1x128x8.size a ≤ S1x128x16.size a := by decide +kernel
theorem inbUA : ∀ a, (![0, 0, 0] : Fin 3 → ℕ) a + S1x128x1024.size a ≤ S1x128x1024.size a := by decide +kernel

theorem sideBySide_lt (m l : Vec F S128x8 .f32) (j : S128x16.Idx) (h : (j 1).val < 8) :
    sideBySide m l j = m (ValueIdx.ix2 ⟨(j 0).val, (j 0).isLt⟩ ⟨(j 1).val, h⟩) := dif_pos h
theorem sideBySide_ge (m l : Vec F S128x8 .f32) (j : S128x16.Idx) (h : ¬ (j 1).val < 8) :
    sideBySide m l j = l (ValueIdx.ix2 ⟨(j 0).val, (j 0).isLt⟩ ⟨(j 1).val - 8, by have : (j 1).val < 16 := (j 1).isLt; omega⟩) := dif_neg h

theorem part_left (m l : Vec F S128x8 .f32) : part (s := S1x128x16) (unit3 (sideBySide m l)) ![0, 0, 0] S1x128x8.size inbU0 = withUnitM m := by
  unfold withUnitM
  rw [unit3_cast]
  funext j
  have h2 : (j 2).val < 8 := (j 2).isLt
  refine (sideBySide_lt m l _ (show (0 + 1 * (j 2).val) < 8 by omega)).trans ?_
  refine congrArg m (funext fun a => ?_)
  match a with
  | ⟨0, _⟩ => exact Fin.ext (show 0 + 1 * (j 1).val = (j 1).val by omega)
  | ⟨1, _⟩ => exact Fin.ext (show 0 + 1 * (j 2).val = (j 2).val by omega)

theorem part_right (m l : Vec F S128x8 .f32) : part (s := S1x128x16) (unit3 (sideBySide m l)) ![0, 0, 8] S1x128x8.size inbU8 = withUnitM l := by
  unfold withUnitM
  rw [unit3_cast]
  funext j
  have h2 : (j 2).val < 8 := (j 2).isLt
  refine (sideBySide_ge m l _ (show ¬ (8 + 1 * (j 2).val) < 8 by omega)).trans ?_
  refine congrArg l (funext fun a => ?_)
  match a with
  | ⟨0, _⟩ => exact Fin.ext (show 0 + 1 * (j 1).val = (j 1).val by omega)
  | ⟨1, _⟩ => exact Fin.ext (show 8 + 1 * (j 2).val - 8 = (j 2).val by omega)

theorem staged (G : Vec F S1x128x16 .f32) (m l : Vec F S128x8 .f32) :
    (Rect.unit (s := S1x128x16) ![0, 0, 8] S1x128x8.size inbU8).overlay
      ((Rect.unit (s := S1x128x16) ![0, 0, 0] S1x128x8.size inbU0).overlay G (withUnitM m)) (withUnitM l) = unit3 (sideBySide m l) := by
  refine overlay_eq _ _ _ _ (fun i => congrFun (part_right m l) i) fun j hj => ?_
  refine (congrFun (overlay_eq _ _ (fun j => if (j 2).val < 8 then unit3 (sideBySide m l) j else G j) _ (fun i => ?_) fun j hj => ?_) j).trans ?_ |>.symm
  · refine (if_pos ?_).trans (congrFun (part_left m l) i)
    have : (i 2).val < 8 := (i 2).isLt
    exact (show 0 + 1 * (i 2).val < 8 by omega)
  · refine if_neg fun h => hj ((Rect.unit (s := S1x128x16) ![0, 0, 0] S1x128x8.size inbU0).mem_set.mpr fun a => ?_)
    match a with
    | ⟨0, _⟩ => exact ⟨(j 0).val, (j 0).isLt, (show (j 0).val = 0 + 1 * (j 0).val by omega)⟩
    | ⟨1, _⟩ => exact ⟨(j 1).val, (j 1).isLt, (show (j 1).val = 0 + 1 * (j 1).val by omega)⟩
    | ⟨2, _⟩ => exact ⟨(j 2).val, h, (show (j 2).val = 0 + 1 * (j 2).val by omega)⟩
  · refine if_pos ?_
    by_contra h
    refine hj ((Rect.unit (s := S1x128x16) ![0, 0, 8] S1x128x8.size inbU8).mem_set.mpr fun a => ?_)
    match a with
    | ⟨0, _⟩ => exact ⟨(j 0).val, (j 0).isLt, (show (j 0).val = 0 + 1 * (j 0).val by omega)⟩
    | ⟨1, _⟩ => exact ⟨(j 1).val, (j 1).isLt, (show (j 1).val = 0 + 1 * (j 1).val by omega)⟩
    | ⟨2, _⟩ =>
      have h16 : (j 2).val < 16 := (j 2).isLt
      exact ⟨(j 2).val - 8, (show (j 2).val - 8 < 8 by omega), (show (j 2).val = 8 + 1 * ((j 2).val - 8) by omega)⟩

theorem inbZ8 : ∀ a, (![0, 0] : Fin 2 → ℕ) a + S128x8.size a ≤ S128x8.size a := by decide +kernel
theorem inbZA : ∀ a, (![0, 0] : Fin 2 → ℕ) a + S128x1024.size a ≤ S128x1024.size a := by decide +kernel
theorem zero2 : ∀ a, (![0, 0] : Fin 2 → ℕ) a = 0 := by decide
theorem zero3 : ∀ a, (![0, 0, 0] : Fin 3 → ℕ) a = 0 := by decide

variable (d : Dev nD) {k : PUnit → Prog (TpuEff nD τ sig (Elt F) Λ₀ .tc) PUnit}

/-- The accumulator cleared. -/
theorem wp_zero {Q : PUnit → sProp 𝕄} {A : Vec F S512x1024 .f32} :
    own d bAcc A ⊢ iprop((own d bAcc (broadcast S512x1024 (Scalar.ofBits .f32 0x00000000#32)) -∗ WP d (k ⟨⟩) Q)
      -∗ WP d (Prog.bind zeroProg k) Q) := by
  unfold zeroProg
  simp only [Prog.lift, Prog.bind_op, Prog.bind_ret, Prog.pure_eq_ret]
  iintro HA Hk
  iapply (wp_load_of 𝒱₀ (d : Thread nD τ) none Set.univ) $$ HA; iintro HA
  iapply (wp_store_of 𝒱₀ (d : Thread nD τ) none Set.univ zero2) $$ HA; iintro HA
  iapply Hk
  iexact HA

/-- A step's statistics staged. -/
theorem wp_stage {Q : PUnit → sProp 𝕄} (t : Fin 3) (m l : Vec F S128x8 .f32) :
    iprop(own d (mB (sB d t.val)) m ∗ own d (lB (sB d t.val)) l ∗ (∃ G, own d (slotGu t) G))
      ⊢ iprop(((own d (mB (sB d t.val)) m ∗ own d (lB (sB d t.val)) l ∗ own d (slotG t) (sideBySide m l)) -∗ WP d (k ⟨⟩) Q)
        -∗ WP d (Prog.bind (stageProg d t) k) Q) := by
  unfold stageProg
  simp only [Prog.lift, Prog.bind_op, Prog.bind_ret, Prog.pure_eq_ret]
  iintro ⟨HM, HL, ⟨%G, HG⟩⟩ Hk
  iapply (wp_load_in 𝒱₀ (d : Thread nD τ) none Set.univ _ (off_zero (off26_at d t)) inbZ8) $$ HM; iintro HM
  iapply (wp_load_in 𝒱₀ (d : Thread nD τ) none Set.univ _ (off_slot t) inbU0) $$ HG; iintro HG
  iapply (wp_store_in 𝒱₀ (d : Thread nD τ) none Set.univ _ (off_slot t) inbU0) $$ HG; iintro HG
  iapply (wp_load_in 𝒱₀ (d : Thread nD τ) none Set.univ _ (off_zero (off26_at d t)) inbZ8) $$ HL; iintro HL
  iapply (wp_load_in 𝒱₀ (d : Thread nD τ) none Set.univ _ (off_slot8 t) inbU8) $$ HG; iintro HG
  iapply (wp_store_in 𝒱₀ (d : Thread nD τ) none Set.univ _ (off_slot8 t) inbU8) $$ HG; iintro HG
  rw [part_zero (s := S128x8) m zero2 inbZ8, part_zero (s := S128x8) l zero2 inbZ8]
  iapply Hk
  isplitl [HM]; · iexact HM
  isplitl [HL]; · iexact HL
  rw [own_slotG, ← staged G m l]
  iexact HG

/-- A step's merge: the device's own part of the block with what it received. -/
theorem wp_merge {Q : PUnit → sProp 𝕄} (t : Fin 3) (own₀ got : RSt F) :
    iprop(own d (mB (sB d (t.val + 1))) own₀.m ∗ own d (lB (sB d (t.val + 1))) own₀.l ∗ own d (accB (sB d (t.val + 1))) own₀.a
        ∗ own d (slotM t) (sideBySide got.m got.l) ∗ own d (slotA t) got.a)
      ⊢ iprop(((own d (mB (sB d (t.val + 1))) (mergeSt own₀ got).m ∗ own d (lB (sB d (t.val + 1))) (mergeSt own₀ got).l
          ∗ own d (accB (sB d (t.val + 1))) (mergeSt own₀ got).a
          ∗ own d (slotM t) (sideBySide got.m got.l) ∗ own d (slotA t) got.a) -∗ WP d (k ⟨⟩) Q)
        -∗ WP d (Prog.bind (mergeProg d t) k) Q) := by
  unfold mergeProg
  simp only [Prog.lift, Prog.bind_op, Prog.bind_ret, Prog.pure_eq_ret]
  rw [own_slotM, own_slotA]
  iintro ⟨HM, HL, HA, HrM, HrA⟩ Hk
  iapply (wp_load_in 𝒱₀ (d : Thread nD τ) none Set.univ _ (off_zero (off53_at d t)) inbZ8) $$ HM; iintro HM
  iapply (wp_load_in 𝒱₀ (d : Thread nD τ) none Set.univ _ (off_zero (off53_at d t)) inbZ8) $$ HL; iintro HL
  iapply (wp_load_in 𝒱₀ (d : Thread nD τ) none Set.univ _ (off_slot t) inbU0) $$ HrM; iintro HrM
  iapply (wp_load_in 𝒱₀ (d : Thread nD τ) none Set.univ _ (off_slot8 t) inbU8) $$ HrM; iintro HrM
  iapply (wp_load_in 𝒱₀ (d : Thread nD τ) none Set.univ _ (off_zero (off53_at d t)) inbZ8) $$ HM; iintro HM
  iapply (wp_store_in 𝒱₀ (d : Thread nD τ) none Set.univ _ (off_zero (off53_at d t)) inbZ8) $$ HM; iintro HM
  iapply (wp_load_in 𝒱₀ (d : Thread nD τ) none Set.univ _ (off_zero (off53_at d t)) inbZ8) $$ HL; iintro HL
  iapply (wp_store_in 𝒱₀ (d : Thread nD τ) none Set.univ _ (off_zero (off53_at d t)) inbZ8) $$ HL; iintro HL
  iapply (wp_load_in 𝒱₀ (d : Thread nD τ) none Set.univ _ (off_zero (off28_at d t)) inbZA) $$ HA; iintro HA
  iapply (wp_load_in 𝒱₀ (d : Thread nD τ) none Set.univ _ (off_slot t) inbUA) $$ HrA; iintro HrA
  iapply (wp_load_in 𝒱₀ (d : Thread nD τ) none Set.univ _ (off_zero (off28_at d t)) inbZA) $$ HA; iintro HA
  iapply (wp_store_in 𝒱₀ (d : Thread nD τ) none Set.univ _ (off_zero (off28_at d t)) inbZA) $$ HA; iintro HA
  simp only [shapeCast_self]
  rw [overlay_zero (s := S128x8) _ _ zero2 inbZ8, overlay_zero (s := S128x8) _ _ zero2 inbZ8, overlay_zero (s := S128x1024) _ _ zero2 inbZA,
    part_zero (s := S128x8) _ zero2 inbZ8, part_zero (s := S128x8) _ zero2 inbZ8, part_zero (s := S128x1024) _ zero2 inbZA,
    part_left, part_right, part_zero (s := S1x128x1024) _ zero3 inbUA]
  iapply Hk
  isplitl [HM]; · iexact HM
  isplitl [HL]; · iexact HL
  isplitl [HA]
  · unfold mergeSt withUnitA
    rw [unit3_cast]
    iexact HA
  isplitl [HrM]; · iexact HrM
  iexact HrA

/-- The device's own output rows. -/
theorem wp_proj {Q : PUnit → sProp 𝕄} (l : Vec F S128x8 .f32) (a : Vec F S128x1024 .f32) (wo : Vec F S1024x1024 .f32) :
    iprop(own d (lB (sB d 3)) l ∗ own d (accB (sB d 3)) a ∗ own d bWo wo ∗ (∃ O, own d (outBk (sB d 3)) O))
      ⊢ iprop(((own d (lB (sB d 3)) l ∗ own d (accB (sB d 3)) a ∗ own d bWo wo ∗ own d (outBk (sB d 3)) (outRows l a wo)) -∗ WP d (k ⟨⟩) Q)
        -∗ WP d (Prog.bind (projProg d) k) Q) := by
  unfold projProg
  simp only [Prog.lift, Prog.bind_op, Prog.bind_ret, Prog.pure_eq_ret]
  iintro ⟨HL, HA, HW, ⟨%O, HO⟩⟩ Hk
  iapply (wp_load_in 𝒱₀ (d : Thread nD τ) none Set.univ _ (off_zero (off86_at d)) inbZ8) $$ HL; iintro HL
  iapply (wp_load_in 𝒱₀ (d : Thread nD τ) none Set.univ _ (off_zero (off87_at d)) inbZA) $$ HA; iintro HA
  iapply (wp_load_of 𝒱₀ (d : Thread nD τ) none Set.univ) $$ HW; iintro HW
  iapply (wp_load_in 𝒱₀ (d : Thread nD τ) none Set.univ _ (off_zero (off87_at d)) inbZA) $$ HO; iintro HO
  iapply (wp_store_in 𝒱₀ (d : Thread nD τ) none Set.univ _ (off_zero (off87_at d)) inbZA) $$ HO; iintro HO
  rw [overlay_zero (s := S128x1024) _ _ zero2 inbZA, part_zero (s := S128x8) _ zero2 inbZ8, part_zero (s := S128x1024) _ zero2 inbZA,
    part_zero (s := S1024x1024) _ zero2 inb_S1024x1024_S1024x1024_0_0]
  iapply Hk
  isplitl [HL]; · iexact HL
  isplitl [HA]; · iexact HA
  isplitl [HW]; · iexact HW
  iexact HO

end Cert.KernelIdeal.Ring

end
-- ==== Proof.Proto.lean ====
/-
  The protocol. Every device has a barrier cell and eighteen copy cells: six arrays of three, `xs a t`.

  * barrier: two units, one from each neighbour. The left neighbour's hands over two blocks of its output rows, the
    one this device will copy to it and the one the device to the right will; the right neighbour's hands over its six
    landing slots and the block of its output rows this device will copy to it.
  * arrays 0 and 2, step `t`: the device's own copies out of its accumulator and of its staged statistics; what was
    copied comes back with the wait.
  * arrays 1 and 3, step `t`: the copies of the left neighbour landing in slot `t`. The wait hands over the slot with
    what the left neighbour had of the block; at step 0 besides it the block of output rows of the device across,
    which this device will copy to.
  * array 4, copy `k`: the device's own copies of its output rows; a third of the share comes back with each wait.
  * array 5, copy `k`: the output rows of the left neighbour, the right one and the one across landing.
-/
module

public import proofs.«01_k».proof.Proof.Step

@[expose] public section

noncomputable section

namespace Cert.KernelIdeal.Ring

open Cert.KernelIdeal.Gen Cert.Blocks
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev ER : Emb UB (MT nD τ sig Unit (Elt F) ℕ UU ℕ) := embR

/-! ## The ring's devices -/

theorem prv_nxt (c : Dev nD) : prv (nxt c) = c := by revert c; decide
theorem nxt_prv (c : Dev nD) : nxt (prv c) = c := by revert c; decide
theorem dia_dia (c : Dev nD) : dia (dia c) = c := by revert c; decide
theorem dia_nxt (c : Dev nD) : dia (nxt c) = prv c := by revert c; decide
theorem sB_nxt : ∀ (c : Dev nD) (t : Fin 3), sB (nxt c) (t.val + 1) = sB c t.val := by decide

/-- Who output copy `k` of a device goes to, and whose copy `k` it receives. -/
def gTo (c : Dev nD) : Fin 3 → Dev nD | 0 => nxt c | 1 => prv c | 2 => dia c
def gFrom (c : Dev nD) : Fin 3 → Dev nD | 0 => prv c | 1 => nxt c | 2 => dia c
theorem gFrom_gTo (c : Dev nD) (k : Fin 3) : gFrom (gTo c k) k = c := by revert c k; decide
theorem gTo_gFrom (c : Dev nD) (k : Fin 3) : gTo (gFrom c k) k = c := by revert c k; decide

/-! ## The cells -/

abbrev barS : Sem sig := (SemArray.scalar (sig.barrier 0 rfl) : Sems sig S_).sem
/-- Semaphore `t` of array `a`. -/
abbrev xs (a : Fin 6) (t : Fin 3) : DmaSem sig := ⟨6 + 3 * a.val + t.val, show 6 + 3 * a.val + t.val < 24 by omega⟩

theorem sem6 : ∀ t : Fin 3, semAt cc0_scratch6 t = xs 0 t := by decide
theorem sem7 : ∀ t : Fin 3, semAt cc0_scratch7 t = xs 1 t := by decide
theorem sem8 : ∀ t : Fin 3, semAt cc0_scratch8 t = xs 2 t := by decide
theorem sem9 : ∀ t : Fin 3, semAt cc0_scratch9 t = xs 3 t := by decide
theorem sem10 : ∀ t : Fin 3, semAt cc0_scratch10 t = xs 4 t := by decide
theorem sem11 : ∀ t : Fin 3, semAt cc0_scratch11 t = xs 5 t := by decide

abbrev barCell (c : Dev nD) : GSem nD τ sig := ((c : Thread nD τ), .reg barS)
abbrev xCell (c : Dev nD) (a : Fin 6) (t : Fin 3) : GSem nD τ sig := ((c : Thread nD τ), .dma (xs a t))

/-- A cell's index on its device: the barrier, then the arrays in order. -/
abbrev xIx (a : Fin 6) (t : Fin 3) : Fin 19 := ⟨1 + 3 * a.val + t.val, by omega⟩
abbrev osem : Fin 18 → SemLoc sig := fun i => .dma ⟨6 + i.val, show 6 + i.val < 24 by omega⟩
abbrev csem : Fin 19 → SemLoc sig := fun i => if i.val = 0 then .reg barS else .dma ⟨5 + i.val, show 5 + i.val < 24 by omega⟩
abbrev kcell (ck : Dev nD × Fin 19) : GSem nD τ sig := ((ck.1 : Thread nD τ), csem ck.2)
theorem kcell_bar (c : Dev nD) : kcell (c, 0) = barCell c := rfl
theorem csem_x : ∀ (a : Fin 6) (t : Fin 3), csem (xIx a t) = .dma (xs a t) := by decide
theorem kcell_x (c : Dev nD) (a : Fin 6) (t : Fin 3) : kcell (c, xIx a t) = xCell c a t := congrArg (Prod.mk _) (csem_x a t)

/-- The credit of a block of rows and of a slot of statistics. -/
abbrev Na : ℕ := (slotA 0).view.dmaCredit
abbrev Nm : ℕ := (slotM 0).view.dmaCredit
theorem Na_pos : 0 < Na := View.dmaCredit_pos _ (by decide +kernel)
theorem Nm_pos : 0 < Nm := View.dmaCredit_pos _ (by decide +kernel)
theorem credit_slotA (t : Fin 3) : (slotA t).view.dmaCredit = Na := rfl
theorem credit_slotM (t : Fin 3) : (slotM t).view.dmaCredit = Nm := rfl
theorem credit_slotG (t : Fin 3) : (slotG t).view.dmaCredit = Nm := rfl
theorem credit_acc (o : Fin 2 → ℕ) (h : ∀ i, o i + S128x1024.size i ≤ S512x1024.size i) : (accAt o h).view.dmaCredit = Na := rfl
theorem credit_out (o : Fin 2 → ℕ) (h : ∀ i, o i + S128x1024.size i ≤ S512x1024.size i) : (outAt o h).view.dmaCredit = Na := rfl

/-! ## The schedule -/

variable (In : Dev nD → Ins F)

/-- The three parts of the share of the output rows that are copied at once. -/
def shr : Fin 3 → PosShare TreeShare | 0 => fullShare.left | 1 => fullShare.right.left | 2 => fullShare.right.right

/-- The six landing slots of a device, at any contents. -/
def slots (d : Dev nD) : sProp 𝕄 :=
  iprop(((∃ Y, own d (slotA 0) Y) ∗ (∃ Y, own d (slotM 0) Y)) ∗ ((∃ Y, own d (slotA 1) Y) ∗ (∃ Y, own d (slotM 1) Y))
    ∗ ((∃ Y, own d (slotA 2) Y) ∗ (∃ Y, own d (slotM 2) Y)))
/-- A block of a device's output rows, at any contents. -/
def rowsOf (d : Dev nD) (b : Fin 4) : sProp 𝕄 := iprop(∃ Y, own d (outBk b) Y)

/-- What the left neighbour's unit on the barrier hands over, and the right neighbour's. -/
def barL (c : Dev nD) : sProp 𝕄 := iprop(rowsOf (prv c) (sB c 3) ∗ rowsOf (prv c) (sB (nxt c) 3))
def barR (c : Dev nD) : sProp 𝕄 := iprop(slots (nxt c) ∗ rowsOf (nxt c) (sB c 3))

/-- What step 0's landing hands over besides the slot: the output rows of the device across. -/
def relay (c : Dev nD) (t : Fin 3) : sProp 𝕄 := if t = 0 then rowsOf (dia c) (sB c 3) else iprop(emp)

/-- What a copy cell hands over, by array. -/
def xPay (c : Dev nD) (t : Fin 3) : ℕ → sProp 𝕄
  | 0 => own c (accB (sB c t.val)) (ringSt In t.val c).a
  | 1 => iprop(own c (slotA t) (ringSt In t.val (prv c)).a ∗ relay c t)
  | 2 => own c (slotG t) (sideBySide (ringSt In t.val c).m (ringSt In t.val c).l)
  | 3 => own c (slotM t) (sideBySide (ringSt In t.val (prv c)).m (ringSt In t.val (prv c)).l)
  | 4 => owns (c : Thread nD τ) (outBk (sB c 3)) (shr t) (outB In c)
  | 5 => own c (outBk (sB (gFrom c t) 3)) (outB In (gFrom c t))
  | _ => iprop(emp)
def xAmt (a : ℕ) : ℕ := if a = 2 ∨ a = 3 then Nm else Na
theorem xAmt_pos (a : ℕ) : 0 < xAmt a := by unfold xAmt; split; exacts [Nm_pos, Na_pos]

/-- A copy semaphore's array and entry. -/
def xArr (q : DmaSem sig) : ℕ := (q.val - 6) / 3
def xEnt (q : DmaSem sig) : Fin 3 := ⟨q.val % 3, Nat.mod_lt _ (by decide)⟩
theorem xArr_xs : ∀ (a : Fin 6) (t : Fin 3), xArr (xs a t) = a.val := by decide
theorem xEnt_xs : ∀ (a : Fin 6) (t : Fin 3), xEnt (xs a t) = t := by decide

def IsBar (g : GSem nD τ sig) : Prop := g.1.2 = .tc ∧ g.2 = .reg barS
def IsX (g : GSem nD τ sig) : Prop := g.1.2 = .tc ∧ ∃ a t, g.2 = .dma (xs a t)
open Classical in
/-- One round. -/
def Rd : Rounds.Schedule (GSem nD τ sig) Bool 𝕄 where
  duties g r := if r = 0 ∧ IsBar g then Finset.univ else if r = 0 ∧ IsX g then {false} else ∅
  unitless _ := False
  amount g _ _ := match g.2 with
    | .reg _ => 1
    | .dma q => xAmt (xArr q)
  payload g _ d := match g.2 with
    | .reg _ => if d then barR g.1.1 else barL g.1.1
    | .dma q => xPay In g.1.1 (xEnt q) (xArr q)
  amount_pos g _ _ _ := by
    rcases g.2 with s | q
    · exact Nat.one_pos
    · exact xAmt_pos _

instance rowsOf_storable (d : Dev nD) (b : Fin 4) : BI.Storable (upEmb : UEmb _ 𝕄) (rowsOf (F := F) d b) := by unfold rowsOf; infer_instance
instance slots_storable (d : Dev nD) : BI.Storable (upEmb : UEmb _ 𝕄) (slots (F := F) d) := by unfold slots; infer_instance
instance relay_storable (d : Dev nD) (t : Fin 3) : BI.Storable (upEmb : UEmb _ 𝕄) (relay (F := F) d t) := by
  unfold relay; split <;> infer_instance
instance xPay_storable (c : Dev nD) (t : Fin 3) (a : ℕ) : BI.Storable (upEmb : UEmb _ 𝕄) (xPay In c t a) := by
  unfold xPay; split <;> infer_instance
instance payload_storable (g : GSem nD τ sig) (r : ℕ) (d : Bool) : BI.Storable (upEmb : UEmb _ 𝕄) ((Rd In).payload g r d) := by
  obtain ⟨t, s | q⟩ := g
  · show BI.Storable upEmb (if d then barR t.1 else barL t.1)
    unfold barR barL
    split <;> infer_instance
  · exact xPay_storable In t.1 (xEnt q) (xArr q)

section Sched
variable (c : Dev nD) (a : Fin 6) (t : Fin 3)

theorem duties_bar : (Rd In).duties (barCell c) 0 = Finset.univ := if_pos ⟨rfl, rfl, rfl⟩
theorem duties_x : (Rd In).duties (xCell c a t) 0 = {false} := by
  dsimp only [Rd]
  rw [if_neg (fun h => by cases h.2.2)]
  exact if_pos ⟨rfl, rfl, a, t, rfl⟩
theorem duties_later (g : GSem nD τ sig) : ∀ r, 1 ≤ r → (Rd In).duties g r = ∅ :=
  fun r hr => by dsimp only [Rd]; rw [if_neg fun h => by omega, if_neg fun h => by omega]
theorem amount_bar (d : Bool) : (Rd In).amount (barCell c) 0 d = 1 := rfl
theorem amount_x (d : Bool) : (Rd In).amount (xCell c a t) 0 d = xAmt a.val := congrArg xAmt (xArr_xs a t)
theorem expect_bar : (Rd In).expect (barCell c) 0 = 2 := by
  unfold Schedule.expect Schedule.amountOf
  rw [duties_bar]; rfl
theorem expect_x : (Rd In).expect (xCell c a t) 0 = xAmt a.val := by
  unfold Schedule.expect Schedule.amountOf; rw [duties_x, Finset.sum_singleton, amount_x]
theorem payload_barR : (Rd In).payload (barCell c) 0 true = barR c := rfl
theorem payload_barL : (Rd In).payload (barCell c) 0 false = barL c := rfl
theorem payload_x (d : Bool) : (Rd In).payload (xCell c a t) 0 d = xPay In c t a.val := by
  show xPay In c (xEnt (xs a t)) (xArr (xs a t)) = _
  rw [xArr_xs, xEnt_xs]
theorem rest_bar : bigSep ((Rd In).duties (barCell c) 0 \ ∅) (fun d => (Rd In).payload (barCell c) 0 d) = iprop(barL c ∗ barR c) := by
  rw [Finset.sdiff_empty, duties_bar, bigSep_univ_eq_bigSepL [false, true] (by decide) (by decide), bigSepL_cons_cons, bigSepL_singleton,
    payload_barL, payload_barR]
  rfl
theorem rest_x : bigSep ((Rd In).duties (xCell c a t) 0 \ ∅) (fun d => (Rd In).payload (xCell c a t) 0 d) = xPay In c t a.val := by
  rw [Finset.sdiff_empty, duties_x, bigSep_singleton, payload_x]

end Sched

/-! ## What is owed, and the levels -/

/-- What output copy `k` pays, and the two copies of ring step `t`. -/
abbrev payG (c : Dev nD) (k : Fin 3) : CellTallies nD τ sig Unit := tallyAt (xCell (gTo c k) 5 k) () Na
abbrev payA (c : Dev nD) (t : Fin 3) : CellTallies nD τ sig Unit := tallyAt (xCell (nxt c) 1 t) () Na
abbrev payM (c : Dev nD) (t : Fin 3) : CellTallies nD τ sig Unit := tallyAt (xCell (nxt c) 3 t) () Nm
/-- What a device still owes before output copy `k`, -/
def Og (c : Dev nD) : ℕ → CellTallies nD τ sig Unit
  | 0 => 0 + payG c 2 + payG c 1 + payG c 0
  | 1 => 0 + payG c 2 + payG c 1
  | 2 => 0 + payG c 2
  | _ => 0
/-- before ring step `t`, -/
def Ot (c : Dev nD) : ℕ → CellTallies nD τ sig Unit
  | 0 => Og c 0 + payM c 2 + payA c 2 + payM c 1 + payA c 1 + payM c 0 + payA c 0
  | 1 => Og c 0 + payM c 2 + payA c 2 + payM c 1 + payA c 1
  | 2 => Og c 0 + payM c 2 + payA c 2
  | _ => Og c 0
/-- and at launch. -/
def O₀ (c : Dev nD) : CellTallies nD τ sig Unit := Ot c 0 + tallyAt (barCell (nxt c)) () 1 + tallyAt (barCell (prv c)) () 1

theorem Ot_step (c : Dev nD) (t : Fin 3) :
    Ot c t.val = Ot c (t.val + 1) + payM c t + payA c t :=
  match t with | 0 => rfl | 1 => rfl | 2 => rfl
theorem Og_step (c : Dev nD) (k : Fin 3) : Og c k.val = Og c (k.val + 1) + payG c k :=
  match k with | 0 => rfl | 1 => rfl | 2 => rfl

def L (g : GSem nD τ sig) : Finset Unit := if g.1.2 = .tc then {()} else ∅
/-- The barrier at 1, the landings of step `t` at `2 + t`, those of the output rows at 5, everything else at 0. -/
def lvS : SemLoc sig → ℕ
  | .reg _ => 1
  | .dma q => if xArr q = 1 ∨ xArr q = 3 then 2 + (xEnt q).val else if xArr q = 5 then 5 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- Everything in `O` is owed to a TensorCore's cell above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O : CellTallies nD τ sig Unit} (h : Above n O) (c : Dev nD) (sm : SemLoc sig) (k : ℕ) (hs : n < lvS sm) :
    Above n (O + tallyAt ((c : Thread nD τ), sm) () k) := fun g u hg => by
  rw [Pi.add_apply, Finsupp.add_apply, tallyAt_apply] at hg
  by_cases h' : g = ((c : Thread nD τ), sm) ∧ u = ()
  · rw [h'.1]; exact ⟨rfl, hs⟩
  · rw [if_neg h'] at hg; exact h g u hg
theorem above_mono {n n' : ℕ} (h : n' ≤ n) {O : CellTallies nD τ sig Unit} (hO : Above n O) : Above n' O :=
  fun g u hg => ⟨(hO g u hg).1, lt_of_le_of_lt h (hO g u hg).2⟩

theorem lvS_acc : ∀ t : Fin 3, lvS (.dma (xs 1 t)) = 2 + t.val := by decide
theorem lvS_ml : ∀ t : Fin 3, lvS (.dma (xs 3 t)) = 2 + t.val := by decide
theorem lvS_out : ∀ k : Fin 3, lvS (.dma (xs 5 k)) = 5 := by decide

theorem above_Og (c : Dev nD) : ∀ k, Above 4 (Og c k)
  | 0 => above_add (above_add (above_add (above_zero 4) _ _ _ (by decide)) _ _ _ (by decide)) _ _ _ (by decide)
  | 1 => above_add (above_add (above_zero 4) _ _ _ (by decide)) _ _ _ (by decide)
  | 2 => above_add (above_zero 4) _ _ _ (by decide)
  | _ + 3 => above_zero 4
theorem above_Ot2 (c : Dev nD) : Above 3 (Ot c 2) :=
  above_add (above_add (above_mono (by decide) (above_Og c 0)) _ _ _ (by decide)) _ _ _ (by decide)
theorem above_Ot1 (c : Dev nD) : Above 2 (Ot c 1) :=
  above_add (above_add (above_mono (by decide) (above_Ot2 c)) _ _ _ (by decide)) _ _ _ (by decide)
theorem above_Ot0 (c : Dev nD) : Above 1 (Ot c 0) :=
  above_add (above_add (above_mono (by decide) (above_Ot1 c)) _ _ _ (by decide)) _ _ _ (by decide)
theorem above_Ot (c : Dev nD) (t : Fin 3) : Above (2 + t.val) (Ot c (t.val + 1)) :=
  match t with | 0 => above_Ot1 c | 1 => above_Ot2 c | 2 => above_Og c 0
theorem above_O₀ (c : Dev nD) : Above 0 (O₀ c) :=
  above_add (above_add (above_mono (by decide) (above_Ot0 c)) _ _ _ (by decide)) _ _ _ (by decide)

theorem mayWait (c : Dev nD) (sm : SemLoc sig) {n : ℕ} {O : CellTallies nD τ sig Unit} (hn : lvS sm ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-! ## The records: every cell's invariant, and that every cell is at round 0 at least -/

def records (K : Dev nD × Fin 19 → ℕ) : sProp 𝕄 :=
  iprop((bigSep Finset.univ fun ck : Dev nD × Fin 19 => cellInv ER (Rd In) (K ck) (kcell ck))
    ∗ bigSep Finset.univ fun ck : Dev nD × Fin 19 => reached ER (kcell ck) 0)

instance records_persistent (K : Dev nD × Fin 19 → ℕ) : BI.Persistent (records In K) := by unfold records; infer_instance

theorem records_at (K : Dev nD × Fin 19 → ℕ) (ck : Dev nD × Fin 19) :
    records In K ⊢ iprop(cellInv ER (Rd In) (K ck) (kcell ck) ∗ reached ER (kcell ck) 0) :=
  BIClass.sep_mono (bigSep_elim (Finset.mem_univ ck)) (bigSep_elim (Finset.mem_univ ck))
theorem records_x (K : Dev nD × Fin 19 → ℕ) (c : Dev nD) (a : Fin 6) (t : Fin 3) :
    records In K ⊢ iprop(cellInv ER (Rd In) (K (c, xIx a t)) (xCell c a t) ∗ reached ER (xCell c a t) 0) := by
  have := records_at In K (c, xIx a t)
  rwa [kcell_x] at this
theorem records_bar (K : Dev nD × Fin 19 → ℕ) (c : Dev nD) :
    records In K ⊢ iprop(cellInv ER (Rd In) (K (c, 0)) (barCell c) ∗ reached ER (barCell c) 0) := records_at In K (c, 0)

end Cert.KernelIdeal.Ring

end
-- ==== Proof.Exchange.lean ====
/-
  The exchanges' rules: the handshake, a copy, a wait, a ring step and the exchange of the output rows, at any device.
-/
module

public import proofs.«01_k».proof.Proof.Proto

@[expose] public section

noncomputable section

namespace Cert.KernelIdeal.Ring

open Cert.KernelIdeal.Gen Cert.Blocks
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- What a device owes, whatever it has waited for. -/
def Owe (d : Dev nD) (O : CellTallies nD τ sig Unit) : sProp 𝕄 := iprop(∃ W, owes (d : Thread nD τ) O W)

variable (In : Dev nD → Ins F) (K : Dev nD × Fin 19 → ℕ) (d : Dev nD)

theorem wp_done {Q : PUnit → sProp 𝕄} : Q ⟨⟩ ⊢ WP d (Prog.ret ⟨⟩) Q := by
  unfold WP; rw [wp_ret]
  iintro H; imodintro; iexact H

/-- A wait for one of the device's own copy cells: the cell's payload, and its counter at zero. -/
theorem wp_xwait {Q : PUnit → sProp 𝕄} (a : Fin 6) (t : Fin 3) {sem : DmaSem sig} (hs : sem = xs a t)
    {sp sp' : Space} {s s' : Shape} {e e' : EltTy} {src : Memref sig .tc sp' s' e'} {dst : Memref sig .tc sp s e}
    {h₁ : src.view.WordExact} {h₂ : dst.view.WordExact} {N : ℕ} (hN : dst.view.dmaCredit = N) (hA : xAmt a.val = N)
    {O : CellTallies nD τ sig Unit} {n : ℕ} (hl : lvS (.dma (xs a t)) ≤ n) (hO : Above n O)
    {P : sProp 𝕄} (hP : xPay In d t a.val = P) {k : PUnit → Prog (TpuEff nD τ sig (Elt F) Λ₀ .tc) PUnit} :
    iprop(records In K ∗ levAts L lv ∗ cred (tallyAt (xCell d a t) () N) ∗ Owe d O ∗ atPos ER (xCell d a t) 0 ∅ 0)
      ⊢ iprop(((Owe d O ∗ semVal (xCell d a t) 0 ∗ P) -∗ WP d (k ⟨⟩) Q)
        -∗ WP d (.op (.waitDma2 sem src dst h₁ h₂) k) Q) := by
  subst hs hN hP
  iintro ⟨#HR, #Hlev, Hc, HO, Hat⟩ Hk
  unfold Owe
  icases HO with ⟨%W, HO⟩
  ihave Hr := (records_x In K d a t) $$ HR
  icases Hr with ⟨#Hi, -⟩
  iapply (Rounds.wp_wait_rest_token 𝒱₀ ER (Rd In) (d : Thread nD τ) none (κ := K (d, xIx a t))
      (wpE_waitDma2_eq 𝒱₀ (d : Thread nD τ) none Set.univ) (Set.mem_univ _) () (O := O) (W := W) (R := 0) (m := 0) (T := ∅)
      (by rw [Nat.zero_add, expect_x, hA])) $$ [Hc HO Hat]
  · isplitr; · iexact Hi
    isplitl [Hc]; · iexact Hc
    isplitl [HO]; · iexact HO
    isplitr; · iapply (mayWait d (.dma (xs a t)) hl hO); iexact Hlev
    iexact Hat
  iintro ⟨HO, Hat, -, Hpay⟩
  ihave Hp := (Entails.of_eq (rest_x In d a t)) $$ Hpay
  imod (Rounds.cell_close ER (Rd In) (Set.mem_univ (K (d, xIx a t))) (fun h => h) (R := 0 + 1) (duties_later In (xCell d a t))) $$ [Hat] with Hz
  · isplitr; · iexact Hi
    iexact Hat
  iapply Hk
  isplitl [HO]; · iexists _; iexact HO
  isplitl [Hz]; · iexact Hz
  iexact Hp

set_option maxHeartbeats 800000 in
/-- A copy to device `c'`: it pays entry `t` of the device's own array `a` and of `c'`'s array `a'`. -/
theorem wp_xsend {Q : PUnit → sProp 𝕄} (a a' : Fin 6) (t : Fin 3) {sS sem : DmaSem sig} (hsS : sS = xs a t) (hsem' : sem = xs a' t)
    {n c' : Dev nD} (hn : n = c') {sp sp' : Space} {s : Shape} {e : EltTy} {src : Memref sig .tc sp s e} {dst : Memref sig .tc sp' s e}
    {hsc : dst.view.ref.isScScratch = false} {h₁ : src.view.WordExact} {h₂ : dst.view.WordExact}
    {hsem : DmaTarget.Typed sp (.dma sem) (.remote (Dev.tc n : Thread nD τ) dst (.dma sS) hsc)}
    {N : ℕ} (hN : dst.view.dmaCredit = N) (hA : xAmt a.val = N) (hA' : xAmt a'.val = N)
    {O₀ O : CellTallies nD τ sig Unit} (hO : O₀ = O + tallyAt (xCell c' a' t) () N)
    {q : PosShare TreeShare} {X : s.Idx → Elt F e} {R : sProp 𝕄}
    (hp : owns (d : Thread nD τ) src q X ⊢ xPay In d t a.val) (hp' : iprop(owns (c' : Thread nD τ) dst fullShare X ∗ R) ⊢ xPay In c' t a'.val)
    {k : PUnit → Prog (TpuEff nD τ sig (Elt F) Λ₀ .tc) PUnit} :
    iprop(records In K ∗ owns (d : Thread nD τ) src q X ∗ (∃ Y, owns (c' : Thread nD τ) dst fullShare Y) ∗ R ∗ Owe d O₀
        ∗ dutyTok ER (xCell d a t) 0 false ∗ dutyTok ER (xCell c' a' t) 0 false)
      ⊢ iprop(((cred (tallyAt (xCell d a t) () N) ∗ Owe d O) -∗ WP d (k ⟨⟩) Q)
        -∗ WP d (.op (.enqueueDma src (.remote (Dev.tc n : Thread nD τ) dst (.dma sS) hsc) (.dma sem) h₁ h₂ hsem) k) Q) := by
  subst hsS hsem' hn
  iintro ⟨#HR, Hs, Hd, HRr, HO, Ht, Ht'⟩ Hk
  unfold Owe
  icases HO with ⟨%W, HO⟩
  ihave Hr := (records_x In K d a t) $$ HR
  icases Hr with ⟨#Hi, #Hr⟩
  ihave Hr' := (records_x In K n a' t) $$ HR
  icases Hr' with ⟨#Hi', #Hr'⟩
  iapply (wp_send_owns 𝒱₀ ER (Rd In) (d : Thread nD τ) none (c' := (n : Thread nD τ)) (sS := .dma (xs a t)) (sem := .dma (xs a' t)) (src := src) (dst := dst)
      (κ₁ := K (d, xIx a t)) (κ₂ := K (n, xIx a' t)) (d₁ := false) (d₂ := false) (R := R)
      (by rw [duties_x]; exact Finset.mem_singleton_self _) (by rw [duties_x]; exact Finset.mem_singleton_self _)
      () () N hN ((amount_x In d a t false).trans hA) ((amount_x In n a' t false).trans hA') O hO (W := W)
      (by rw [payload_x]; exact hp) (by rw [payload_x]; exact hp')) $$ [Hs Hd HRr HO Ht Ht']
  · isplitr; · iexact Hi
    isplitr; · iexact Hi'
    isplitl [Hs]; · iexact Hs
    isplitl [Hd]; · iexact Hd
    isplitl [HRr]; · iexact HRr
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- The handshake: the two neighbours get what their barrier cells hand over, and this device what its own does. -/
theorem wp_bar {Q : PUnit → sProp 𝕄} {dl dr : Dev nD} (hdl : dl = prv d) (hdr : dr = nxt d)
    {k : PUnit → Prog (TpuEff nD τ sig (Elt F) Λ₀ .tc) PUnit} :
    iprop(records In K ∗ levAts L lv ∗ Owe d (O₀ d) ∗ dutyTok ER (barCell (prv d)) 0 true ∗ dutyTok ER (barCell (nxt d)) 0 false
        ∗ cred (tallyAt (barCell d) () 2) ∗ atPos ER (barCell d) 0 ∅ 0
        ∗ slots d ∗ rowsOf d (sB (prv d) 3) ∗ rowsOf d (sB (nxt d) 3) ∗ rowsOf d (sB (nxt (nxt d)) 3))
      ⊢ iprop(((Owe d (Ot d 0) ∗ semVal (barCell d) 0 ∗ barL d ∗ barR d) -∗ WP d (k ⟨⟩) Q)
        -∗ WP d (Prog.bind (barProg d dl dr) k) Q) := by
  subst hdl hdr
  unfold barProg
  simp only [semSignalWord, semWaitWord, Prog.lift, Prog.bind_op, Prog.bind_ret, Prog.pure_eq_ret]
  iintro ⟨#HR, #Hlev, HO, Ht, Ht', Hc, Hat, Hsl, Hrp, Hrn, Hrd⟩ Hk
  unfold Owe
  icases HO with ⟨%W, HO⟩
  ihave Hr := (records_bar In K d) $$ HR
  icases Hr with ⟨#Hi, -⟩
  ihave Hr := (records_bar In K (prv d)) $$ HR
  icases Hr with ⟨#Hip, #Hrp'⟩
  ihave Hr := (records_bar In K (nxt d)) $$ HR
  icases Hr with ⟨#Hin, #Hrn'⟩
  iapply (Rounds.wp_signal 𝒱₀ ER (Rd In) (d : Thread nD τ) none (dst := (prv d : Thread nD τ)) (κ := K (prv d, 0))
      (d := true) (by rw [duties_bar]; exact Finset.mem_univ _) ((amount_bar In (prv d) true).trans (by decide)) ()
      (Ot d 0 + tallyAt (barCell (nxt d)) () 1) rfl) $$ [HO Ht Hsl Hrp]
  · isplitr; · iexact Hip
    isplitl [HO]; · iexact HO
    isplitl [Ht]; · iexact Ht
    isplitl [Hsl Hrp]
    · rw [payload_barR]; unfold barR; rw [nxt_prv]
      isplitl [Hsl]; · iexact Hsl
      iexact Hrp
    iexact Hrp'
  iintro HO
  iapply (Rounds.wp_signal 𝒱₀ ER (Rd In) (d : Thread nD τ) none (dst := (nxt d : Thread nD τ)) (κ := K (nxt d, 0))
      (d := false) (by rw [duties_bar]; exact Finset.mem_univ _) ((amount_bar In (nxt d) false).trans (by decide)) ()
      (Ot d 0) rfl) $$ [HO Ht' Hrn Hrd]
  · isplitr; · iexact Hin
    isplitl [HO]; · iexact HO
    isplitl [Ht']; · iexact Ht'
    isplitl [Hrn Hrd]
    · rw [payload_barL]; unfold barL; rw [prv_nxt]
      isplitl [Hrn]; · iexact Hrn
      iexact Hrd
    iexact Hrn'
  iintro HO
  iapply (Rounds.wp_wait_rest_token 𝒱₀ ER (Rd In) (d : Thread nD τ) none (κ := K (d, 0))
      (wpE_semWait_eq 𝒱₀ (d : Thread nD τ) none Set.univ) (Set.mem_univ _) () (O := Ot d 0) (W := W) (R := 0) (m := 0) (T := ∅)
      (by rw [expect_bar]; decide)) $$ [Hc HO Hat]
  · isplitr; · iexact Hi
    isplitl [Hc]; · iexact Hc
    isplitl [HO]; · iexact HO
    isplitr; · iapply (mayWait d (.reg barS) (n := 1) (by decide) (above_Ot0 d)); iexact Hlev
    iexact Hat
  iintro ⟨HO, Hat, -, Hpay⟩
  ihave Hp := (Entails.of_eq (rest_bar In d)) $$ Hpay
  icases Hp with ⟨Hp, Hp'⟩
  imod (Rounds.cell_close ER (Rd In) (Set.mem_univ (K (d, 0))) (fun h => h) (R := 0 + 1) (duties_later In (barCell d))) $$ [Hat] with Hz
  · isplitr; · iexact Hi
    iexact Hat
  iapply Hk
  isplitl [HO]; · iexists _; iexact HO
  isplitl [Hz]; · iexact Hz
  isplitl [Hp]; · iexact Hp
  iexact Hp'

/-! ## A ring step -/

theorem pay0 (t : Fin 3) : xPay In d t (0 : Fin 6).val = own d (accB (sB d t.val)) (ringSt In t.val d).a := rfl
theorem pay1 (t : Fin 3) : xPay In d t (1 : Fin 6).val = iprop(own d (slotA t) (ringSt In t.val (prv d)).a ∗ relay d t) := rfl
theorem pay2 (t : Fin 3) : xPay In d t (2 : Fin 6).val = own d (slotG t) (sideBySide (ringSt In t.val d).m (ringSt In t.val d).l) := rfl
theorem pay3 (t : Fin 3) : xPay In d t (3 : Fin 6).val = own d (slotM t) (sideBySide (ringSt In t.val (prv d)).m (ringSt In t.val (prv d)).l) := rfl
theorem pay4 (t : Fin 3) : xPay In d t (4 : Fin 6).val = owns (d : Thread nD τ) (outBk (sB d 3)) (shr t) (outB In d) := rfl
theorem pay5 (t : Fin 3) : xPay In d t (5 : Fin 6).val = own d (outBk (sB (gFrom d t) 3)) (outB In (gFrom d t)) := rfl

/-- The inputs' windows. -/
def insOwn (d : Dev nD) (I : Ins F) : sProp 𝕄 := iprop(own d bX I.x ∗ own d bWq I.wq ∗ own d bK I.k ∗ own d bV I.v)
/-- A block of rows' buffers at a state, -/
def blkOwn (d : Dev nD) (b : Fin 4) (s : RSt F) : sProp 𝕄 := iprop(own d (accB b) s.a ∗ own d (mB b) s.m ∗ own d (lB b) s.l)
/-- before its pass, -/
def blkNew (d : Dev nD) (b : Fin 4) : sProp 𝕄 := iprop(own d (accB b) zeroB ∗ (∃ M, own d (mB b) M) ∗ (∃ L, own d (lB b) L))
/-- and at any contents. -/
def blkAny (d : Dev nD) (b : Fin 4) : sProp 𝕄 := iprop((∃ A, own d (accB b) A) ∗ (∃ M, own d (mB b) M) ∗ (∃ L, own d (lB b) L))

theorem blkOwn_any (d : Dev nD) (b : Fin 4) (s : RSt F) : blkOwn d b s ⊢ blkAny d b := by
  unfold blkOwn blkAny
  iintro ⟨HA, HM, HL⟩
  isplitl [HA]; · iexists _; iexact HA
  isplitl [HM]; · iexists _; iexact HM
  iexists _; iexact HL

/-- Step `t`'s positions, tokens and credits. -/
def stepGh (d : Dev nD) (t : Fin 3) : sProp 𝕄 :=
  iprop(atPos ER (xCell d 0 t) 0 ∅ 0 ∗ atPos ER (xCell d 1 t) 0 ∅ 0 ∗ atPos ER (xCell d 2 t) 0 ∅ 0 ∗ atPos ER (xCell d 3 t) 0 ∅ 0
    ∗ dutyTok ER (xCell d 0 t) 0 false ∗ dutyTok ER (xCell (nxt d) 1 t) 0 false ∗ dutyTok ER (xCell d 2 t) 0 false ∗ dutyTok ER (xCell (nxt d) 3 t) 0 false
    ∗ cred (tallyAt (xCell d 1 t) () Na) ∗ cred (tallyAt (xCell d 3 t) () Nm))
/-- Step `t`'s counters, at zero. -/
def stepZ (d : Dev nD) (t : Fin 3) : sProp 𝕄 :=
  iprop(semVal (xCell d 0 t) 0 ∗ semVal (xCell d 1 t) 0 ∗ semVal (xCell d 2 t) 0 ∗ semVal (xCell d 3 t) 0)
/-- A device's two landing slots of step `t`, at any contents. -/
def slotsAt (d : Dev nD) (t : Fin 3) : sProp 𝕄 := iprop((∃ Y, own d (slotA t) Y) ∗ (∃ Y, own d (slotM t) Y))

theorem accAt_eq {o : Fin 2 → ℕ} {h : ∀ i, o i + S128x1024.size i ≤ S512x1024.size i} {b : Fin 4} (e : o = ![128 * b.val, 0]) :
    accAt o h = accB b := by subst e; rfl
theorem outAt_eq {o : Fin 2 → ℕ} {h : ∀ i, o i + S128x1024.size i ≤ S512x1024.size i} {b : Fin 4} (e : o = ![128 * b.val, 0]) :
    outAt o h = outBk b := by subst e; rfl

theorem passOwn (d : Dev nD) (I : Ins F) (b : Fin 4) :
    blkOwn d b (passSt I b) = iprop(own d (accB b) (blkA I b) ∗ own d (mB b) (blkM I b) ∗ own d (lB b) (blkL I b)) := rfl

/-- The four waits of step `t`. -/
theorem wp_waits {Q : PUnit → sProp 𝕄} (t : Fin 3) {k : PUnit → Prog (TpuEff nD τ sig (Elt F) Λ₀ .tc) PUnit} :
    iprop(records In K ∗ levAts L lv ∗ Owe d (Ot d (t.val + 1))
        ∗ (cred (tallyAt (xCell d 0 t) () Na) ∗ atPos ER (xCell d 0 t) 0 ∅ 0) ∗ (cred (tallyAt (xCell d 1 t) () Na) ∗ atPos ER (xCell d 1 t) 0 ∅ 0)
        ∗ (cred (tallyAt (xCell d 2 t) () Nm) ∗ atPos ER (xCell d 2 t) 0 ∅ 0) ∗ (cred (tallyAt (xCell d 3 t) () Nm) ∗ atPos ER (xCell d 3 t) 0 ∅ 0))
      ⊢ iprop(((Owe d (Ot d (t.val + 1)) ∗ own d (accB (sB d t.val)) (ringSt In t.val d).a
          ∗ own d (slotA t) (ringSt In t.val (prv d)).a ∗ relay d t
          ∗ own d (slotG t) (sideBySide (ringSt In t.val d).m (ringSt In t.val d).l)
          ∗ own d (slotM t) (sideBySide (ringSt In t.val (prv d)).m (ringSt In t.val (prv d)).l)
          ∗ stepZ d t) -∗ WP d (k ⟨⟩) Q)
        -∗ WP d (Prog.bind (waitProg d t) k) Q) := by
  unfold waitProg
  simp only [Prog.lift, Prog.bind_op, Prog.bind_ret, Prog.pure_eq_ret]
  iintro ⟨#HR, #Hlev, HO, ⟨Hc0, Hat0⟩, ⟨Hc1, Hat1⟩, ⟨Hc2, Hat2⟩, Hc3, Hat3⟩ Hk
  iapply (wp_xwait In K d 0 t (sem6 t) (dst := accAt (k0_off27 d (tw t)) (k0_off27_inb d t)) (N := Na) (credit_acc _ _) rfl (O := Ot d (t.val + 1)) (n := 2 + t.val)
    (le_trans (by revert t; decide) (Nat.zero_le _)) (above_Ot d t) (pay0 In d t)) $$ [Hc0 HO Hat0]
  · isplitr; · iexact HR
    isplitr; · iexact Hlev
    isplitl [Hc0]; · iexact Hc0
    isplitl [HO]; · iexact HO
    iexact Hat0
  iintro ⟨HO, Hz0, HA⟩
  iapply (wp_xwait In K d 1 t (sem7 t) (dst := slotA t) (N := Na) (credit_slotA t) rfl (O := Ot d (t.val + 1)) (n := 2 + t.val)
    (lvS_acc t).le (above_Ot d t) (pay1 In d t)) $$ [Hc1 HO Hat1]
  · isplitr; · iexact HR
    isplitr; · iexact Hlev
    isplitl [Hc1]; · iexact Hc1
    isplitl [HO]; · iexact HO
    iexact Hat1
  iintro ⟨HO, Hz1, HgA, Hrel⟩
  iapply (wp_xwait In K d 2 t (sem8 t) (dst := slotG t) (N := Nm) (credit_slotG t) rfl (O := Ot d (t.val + 1)) (n := 2 + t.val)
    (le_trans (by revert t; decide) (Nat.zero_le _)) (above_Ot d t) (pay2 In d t)) $$ [Hc2 HO Hat2]
  · isplitr; · iexact HR
    isplitr; · iexact Hlev
    isplitl [Hc2]; · iexact Hc2
    isplitl [HO]; · iexact HO
    iexact Hat2
  iintro ⟨HO, Hz2, HG⟩
  iapply (wp_xwait In K d 3 t (sem9 t) (dst := slotM t) (N := Nm) (credit_slotM t) rfl (O := Ot d (t.val + 1)) (n := 2 + t.val)
    (lvS_ml t).le (above_Ot d t) (pay3 In d t)) $$ [Hc3 HO Hat3]
  · isplitr; · iexact HR
    isplitr; · iexact Hlev
    isplitl [Hc3]; · iexact Hc3
    isplitl [HO]; · iexact HO
    iexact Hat3
  iintro ⟨HO, Hz3, HgM⟩
  iapply Hk
  unfold stepZ
  isplitl [HO]; · iexact HO
  isplitl [HA]; · iexact HA
  isplitl [HgA]; · iexact HgA
  isplitl [Hrel]; · iexact Hrel
  isplitl [HG]; · iexact HG
  isplitl [HgM]; · iexact HgM
  isplitl [Hz0]; · iexact Hz0
  isplitl [Hz1]; · iexact Hz1
  isplitl [Hz2]; · iexact Hz2
  iexact Hz3

set_option maxHeartbeats 1600000 in
/-- Ring step `t`: from the state of block `sB d t` to that of block `sB d (t + 1)`. -/
theorem wp_step {Q : PUnit → sProp 𝕄} (t : Fin 3) {da dm : Dev nD} (hda : da = nxt d) (hdm : dm = nxt d) {o : Fin 8 → HeadOff}
    (ho : ∀ h, (o h).At (sB d (t.val + 1)) h) {k : Prog (TpuEff nD τ sig (Elt F) Λ₀ .tc) PUnit} :
    iprop(records In K ∗ levAts L lv ∗ stepGh d t ∗ Owe d (Ot d t.val) ∗ insOwn d (In d) ∗ blkOwn d (sB d t.val) (ringSt In t.val d)
        ∗ blkNew d (sB d (t.val + 1)) ∗ (∃ G, own d (slotGu t) G) ∗ slotsAt (nxt d) t ∗ relay (nxt d) t)
      ⊢ iprop(((Owe d (Ot d (t.val + 1)) ∗ insOwn d (In d) ∗ blkOwn d (sB d (t.val + 1)) (ringSt In (t.val + 1) d) ∗ relay d t
          ∗ blkAny d (sB d t.val) ∗ slotsAt d t ∗ (∃ G, own d (slotG t) G) ∗ stepZ d t) -∗ WP d k Q)
        -∗ WP d (stepProg d t da dm o k) Q) := by
  unfold stepProg stepGh slotsAt
  iintro ⟨#HR, #Hlev, ⟨Hat0, Hat1, Hat2, Hat3, Ht0, Ht1, Ht2, Ht3, Hc1, Hc3⟩, HO, HI, Hb, Hn, HG, ⟨HsA, HsM⟩, Hrel⟩ Hk
  unfold blkOwn
  icases Hb with ⟨HA, HM, HL⟩
  iapply (wp_stage d t _ _) $$ [HM HL HG]
  · isplitl [HM]; · iexact HM
    isplitl [HL]; · iexact HL
    iexact HG
  iintro ⟨HM, HL, HG⟩
  unfold sendProg
  simp only [Prog.lift, Prog.bind_op, Prog.bind_ret, Prog.pure_eq_ret]
  iapply (wp_xsend In K d 0 1 t (sem6 t) (sem7 t) hda (src := accAt _ _) (dst := slotA t) (N := Na) rfl rfl rfl
      (O₀ := Ot d t.val) (O := Ot d (t.val + 1) + payM d t) (Ot_step d t) (q := fullShare) (X := (ringSt In t.val d).a) (R := relay (nxt d) t)
      (by rw [accAt_eq (off27_at d t)]; exact .rfl) (by unfold xPay; rw [prv_nxt]; exact .rfl)) $$ [HA HsA Hrel HO Ht0 Ht1]
  · isplitr; · iexact HR
    isplitl [HA]; · rw [accAt_eq (off27_at d t)]; iexact HA
    isplitl [HsA]; · iexact HsA
    isplitl [Hrel]; · iexact Hrel
    isplitl [HO]; · iexact HO
    isplitl [Ht0]; · iexact Ht0
    iexact Ht1
  iintro ⟨Hc0, HO⟩
  iapply (wp_xsend In K d 2 3 t (sem8 t) (sem9 t) hdm (src := slotG t) (dst := slotM t) (N := Nm) rfl rfl rfl
      (O₀ := Ot d (t.val + 1) + payM d t) (O := Ot d (t.val + 1)) rfl (q := fullShare)
      (X := sideBySide (ringSt In t.val d).m (ringSt In t.val d).l) (R := iprop(emp))
      .rfl (by unfold xPay; rw [prv_nxt]; iintro ⟨H, -⟩; iexact H)) $$ [HG HsM HO Ht2 Ht3]
  · isplitr; · iexact HR
    isplitl [HG]; · iexact HG
    isplitl [HsM]; · iexact HsM
    isplitr; · iempintro
    isplitl [HO]; · iexact HO
    isplitl [Ht2]; · iexact Ht2
    iexact Ht3
  iintro ⟨Hc2, HO⟩
  unfold insOwn blkNew
  icases HI with ⟨HX, HWq, HK, HV⟩
  icases Hn with ⟨HnA, HnM, HnL⟩
  iapply (wp_chunk d (sB d (t.val + 1)) (off28_at d t) ho (In d)) $$ [HX HWq HK HV HnA HnM HnL]
  · isplitl [HX]; · iexact HX
    isplitl [HWq]; · iexact HWq
    isplitl [HK]; · iexact HK
    isplitl [HV]; · iexact HV
    isplitl [HnA]; · iexact HnA
    isplitl [HnM]; · iexact HnM
    iexact HnL
  iintro ⟨HX, HWq, HK, HV, HnA, HnM, HnL⟩
  iapply (wp_waits In K d t) $$ [Hc0 HO Hat0 Hc1 Hat1 Hc2 Hat2 Hc3 Hat3]
  · isplitr; · iexact HR
    isplitr; · iexact Hlev
    isplitl [HO]; · iexact HO
    isplitl [Hc0 Hat0]; · isplitl [Hc0] <;> iassumption
    isplitl [Hc1 Hat1]; · isplitl [Hc1] <;> iassumption
    isplitl [Hc2 Hat2]; · isplitl [Hc2] <;> iassumption
    isplitl [Hc3] <;> iassumption
  iintro ⟨HO, HA, HgA, Hrel, HG, HgM, Hz⟩
  iapply (wp_merge d t (passSt (In d) (sB d (t.val + 1))) (ringSt In t.val (prv d))) $$ [HnM HnL HnA HgM HgA]
  · isplitl [HnM]; · iexact HnM
    isplitl [HnL]; · iexact HnL
    isplitl [HnA]; · iexact HnA
    isplitl [HgM]; · iexact HgM
    iexact HgA
  iintro ⟨HnM, HnL, HnA, HgM, HgA⟩
  iapply Hk
  isplitl [HO]; · iexact HO
  isplitl [HX HWq HK HV]
  · isplitl [HX]; · iexact HX
    isplitl [HWq]; · iexact HWq
    isplitl [HK] <;> iassumption
  isplitl [HnA HnM HnL]
  · isplitl [HnA]; · iexact HnA
    isplitl [HnM]; · iexact HnM
    iexact HnL
  isplitl [Hrel]; · iexact Hrel
  isplitl [HA HM HL]
  · unfold blkAny
    isplitl [HA]; · iexists _; iexact HA
    isplitl [HM]; · iexists _; iexact HM
    iexists _; iexact HL
  isplitl [HgA HgM]
  · isplitl [HgA]; · iexists _; iexact HgA
    iexists _; iexact HgM
  isplitl [HG]; · iexists _; iexact HG
  iexact Hz

/-! ## The output rows -/

/-- Output copy `k`'s positions, tokens and credit. -/
def outGh (d : Dev nD) (k : Fin 3) : sProp 𝕄 :=
  iprop(atPos ER (xCell d 4 k) 0 ∅ 0 ∗ atPos ER (xCell d 5 k) 0 ∅ 0 ∗ dutyTok ER (xCell d 4 k) 0 false ∗ dutyTok ER (xCell (gTo d k) 5 k) 0 false
    ∗ cred (tallyAt (xCell d 5 k) () Na))
/-- Output copy `k`'s counters, at zero. -/
def outZ (d : Dev nD) (k : Fin 3) : sProp 𝕄 := iprop(semVal (xCell d 4 k) 0 ∗ semVal (xCell d 5 k) 0)

/-- Output copy `k`. -/
theorem wp_copy {Q : PUnit → sProp 𝕄} (j : Fin 3) {n : Dev nD} (hn : n = gTo d j) {k : PUnit → Prog (TpuEff nD τ sig (Elt F) Λ₀ .tc) PUnit} :
    iprop(records In K ∗ owns (d : Thread nD τ) (outBk (sB d 3)) (shr j) (outB In d) ∗ rowsOf (gTo d j) (sB d 3) ∗ Owe d (Og d j.val)
        ∗ dutyTok ER (xCell d 4 j) 0 false ∗ dutyTok ER (xCell (gTo d j) 5 j) 0 false)
      ⊢ iprop(((cred (tallyAt (xCell d 4 j) () Na) ∗ Owe d (Og d (j.val + 1))) -∗ WP d (k ⟨⟩) Q)
        -∗ WP d (Prog.bind (copyProg d j n) k) Q) := by
  unfold copyProg rowsOf
  simp only [Prog.lift, Prog.bind_op, Prog.bind_ret, Prog.pure_eq_ret]
  iintro ⟨#HR, Hs, Hd, HO, Ht, Ht'⟩ Hk
  iapply (wp_xsend In K d 4 5 j (sem10 j) (sem11 j) hn (src := outAt _ _) (dst := outAt _ _) (N := Na) rfl rfl rfl
      (O₀ := Og d j.val) (O := Og d (j.val + 1)) (Og_step d j) (q := shr j) (X := outB In d) (R := iprop(emp))
      (by rw [outAt_eq (off88_at d)]; exact .rfl)
      (by unfold xPay; rw [gFrom_gTo, outAt_eq (off88_at d)]; iintro ⟨H, -⟩; iexact H)) $$ [Hs Hd HO Ht Ht']
  · isplitr; · iexact HR
    isplitl [Hs]; · rw [outAt_eq (off88_at d)]; iexact Hs
    isplitl [Hd]; · rw [outAt_eq (off88_at d)]; iexact Hd
    isplitr; · iempintro
    isplitl [HO]; · iexact HO
    isplitl [Ht]; · iexact Ht
    iexact Ht'
  iintro H
  iapply Hk; iexact H

theorem above_Og3 (c : Dev nD) : Above 5 (Og c 3) := above_zero 5

/-- A wait of the output rows' copies. -/
theorem wp_copyWait {Q : PUnit → sProp 𝕄} (a : Fin 6) (j : Fin 3) {s : DmaSem sig} (hs : s = xs a j) (hA : xAmt a.val = Na) (hl : lvS (.dma (xs a j)) ≤ 5)
    {P : sProp 𝕄} (hP : xPay In d j a.val = P)
    {k : PUnit → Prog (TpuEff nD τ sig (Elt F) Λ₀ .tc) PUnit} :
    iprop(records In K ∗ levAts L lv ∗ cred (tallyAt (xCell d a j) () Na) ∗ Owe d (Og d 3) ∗ atPos ER (xCell d a j) 0 ∅ 0)
      ⊢ iprop(((Owe d (Og d 3) ∗ semVal (xCell d a j) 0 ∗ P) -∗ WP d (k ⟨⟩) Q)
        -∗ WP d (Prog.bind (copyWait d s) k) Q) := by
  unfold copyWait
  simp only [Prog.lift, Prog.bind_op, Prog.bind_ret, Prog.pure_eq_ret]
  exact wp_xwait In K d a j hs (src := outAt (k0_off88 d) (k0_off88_inb d)) (dst := outAt (k0_off88 d) (k0_off88_inb d)) (N := Na)
    (credit_out _ _) hA (O := Og d 3) (n := 5) hl (above_Og3 d) hP

theorem own_thirds (d : Dev nD) (X : Vec F S128x1024 .f32) (b : Fin 4) : own d (outBk b) X
    ⊢ iprop(owns (d : Thread nD τ) (outBk b) (shr 0) X ∗ owns (d : Thread nD τ) (outBk b) (shr 1) X ∗ owns (d : Thread nD τ) (outBk b) (shr 2) X : sProp 𝕄) :=
  BIBase.Entails.trans (owns_share _ _ _ _) (BIClass.sep_mono .rfl (owns_share _ _ _ _))
theorem thirds_own (d : Dev nD) (X : Vec F S128x1024 .f32) (b : Fin 4) :
    iprop(owns (d : Thread nD τ) (outBk b) (shr 0) X ∗ owns (d : Thread nD τ) (outBk b) (shr 1) X ∗ owns (d : Thread nD τ) (outBk b) (shr 2) X : sProp 𝕄)
      ⊢ own d (outBk b) X :=
  BIBase.Entails.trans (BIClass.sep_mono .rfl (owns_unshare _ _ _ _)) (owns_unshare _ _ _ _)

/-- Every device's block of the output, on this device. -/
def outOwn (d : Dev nD) : sProp 𝕄 :=
  iprop(own d (outBk (sB d 3)) (outB In d) ∗ own d (outBk (sB (gFrom d 0) 3)) (outB In (gFrom d 0))
    ∗ own d (outBk (sB (gFrom d 1) 3)) (outB In (gFrom d 1)) ∗ own d (outBk (sB (gFrom d 2) 3)) (outB In (gFrom d 2)))

set_option maxHeartbeats 1600000 in
/-- The exchange of the output rows. -/
theorem wp_gather {Q : PUnit → sProp 𝕄} {d1 d2 d3 : Dev nD} (h1 : d1 = nxt d) (h2 : d2 = prv d) (h3 : d3 = dia d) :
    iprop(records In K ∗ levAts L lv ∗ (outGh d 0 ∗ outGh d 1 ∗ outGh d 2) ∗ Owe d (Og d 0) ∗ own d (outBk (sB d 3)) (outB In d)
        ∗ rowsOf (nxt d) (sB d 3) ∗ rowsOf (prv d) (sB d 3) ∗ rowsOf (dia d) (sB d 3))
      ⊢ iprop(((Owe d 0 ∗ outOwn In d ∗ outZ d 0 ∗ outZ d 1 ∗ outZ d 2) -∗ Q ⟨⟩)
        -∗ WP d (gatherProg d d1 d2 d3) Q) := by
  unfold outGh
  iintro ⟨#HR, #Hlev, ⟨⟨Hs0, Hr0, Ht0, Hu0, Hc0⟩, ⟨Hs1, Hr1, Ht1, Hu1, Hc1⟩, ⟨Hs2, Hr2, Ht2, Hu2, Hc2⟩⟩, HO, Hout, Hn, Hp, Hd⟩ Hk
  ihave Hout := (own_thirds d _ _) $$ Hout
  icases Hout with ⟨Hx0, Hx1, Hx2⟩
  unfold gatherProg
  iapply (wp_copy In K d 0 h1) $$ [Hx0 Hn HO Ht0 Hu0]
  · isplitr; · iexact HR
    isplitl [Hx0]; · iexact Hx0
    isplitl [Hn]; · iexact Hn
    isplitl [HO]; · iexact HO
    isplitl [Ht0]; · iexact Ht0
    iexact Hu0
  iintro ⟨Hg0, HO⟩
  iapply (wp_copy In K d 1 h2) $$ [Hx1 Hp HO Ht1 Hu1]
  · isplitr; · iexact HR
    isplitl [Hx1]; · iexact Hx1
    isplitl [Hp]; · iexact Hp
    isplitl [HO]; · iexact HO
    isplitl [Ht1]; · iexact Ht1
    iexact Hu1
  iintro ⟨Hg1, HO⟩
  iapply (wp_copy In K d 2 h3) $$ [Hx2 Hd HO Ht2 Hu2]
  · isplitr; · iexact HR
    isplitl [Hx2]; · iexact Hx2
    isplitl [Hd]; · iexact Hd
    isplitl [HO]; · iexact HO
    isplitl [Ht2]; · iexact Ht2
    iexact Hu2
  iintro ⟨Hg2, HO⟩
  iapply (wp_copyWait In K d 4 0 (sem10 0) rfl (by decide) (pay4 In d 0)) $$ [Hg0 HO Hs0]
  · isplitr; · iexact HR
    isplitr; · iexact Hlev
    isplitl [Hg0]; · iexact Hg0
    isplitl [HO]; · iexact HO
    iexact Hs0
  iintro ⟨HO, Hs0, Hx0⟩
  iapply (wp_copyWait In K d 4 1 (sem10 1) rfl (by decide) (pay4 In d 1)) $$ [Hg1 HO Hs1]
  · isplitr; · iexact HR
    isplitr; · iexact Hlev
    isplitl [Hg1]; · iexact Hg1
    isplitl [HO]; · iexact HO
    iexact Hs1
  iintro ⟨HO, Hs1, Hx1⟩
  iapply (wp_copyWait In K d 4 2 (sem10 2) rfl (by decide) (pay4 In d 2)) $$ [Hg2 HO Hs2]
  · isplitr; · iexact HR
    isplitr; · iexact Hlev
    isplitl [Hg2]; · iexact Hg2
    isplitl [HO]; · iexact HO
    iexact Hs2
  iintro ⟨HO, Hs2, Hx2⟩
  iapply (wp_copyWait In K d 5 0 (sem11 0) rfl (by decide) (pay5 In d 0)) $$ [Hc0 HO Hr0]
  · isplitr; · iexact HR
    isplitr; · iexact Hlev
    isplitl [Hc0]; · iexact Hc0
    isplitl [HO]; · iexact HO
    iexact Hr0
  iintro ⟨HO, Hr0, Hy0⟩
  iapply (wp_copyWait In K d 5 1 (sem11 1) rfl (by decide) (pay5 In d 1)) $$ [Hc1 HO Hr1]
  · isplitr; · iexact HR
    isplitr; · iexact Hlev
    isplitl [Hc1]; · iexact Hc1
    isplitl [HO]; · iexact HO
    iexact Hr1
  iintro ⟨HO, Hr1, Hy1⟩
  rw [← Prog.bind_pure (copyWait d (semAt cc0_scratch11 2))]
  iapply (wp_copyWait In K d 5 2 (sem11 2) rfl (by decide) (pay5 In d 2)) $$ [Hc2 HO Hr2]
  · isplitr; · iexact HR
    isplitr; · iexact Hlev
    isplitl [Hc2]; · iexact Hc2
    isplitl [HO]; · iexact HO
    iexact Hr2
  iintro ⟨HO, Hr2, Hy2⟩
  iapply (wp_done d)
  iapply Hk
  isplitl [HO]; · iexact HO
  isplitl [Hx0 Hx1 Hx2 Hy0 Hy1 Hy2]
  · unfold outOwn
    isplitl [Hx0 Hx1 Hx2]
    · iapply (thirds_own d _ _)
      isplitl [Hx0]; · iexact Hx0
      isplitl [Hx1] <;> iassumption
    isplitl [Hy0]; · iexact Hy0
    isplitl [Hy1] <;> iassumption
  unfold outZ
  isplitl [Hs0 Hr0]
  · isplitl [Hs0] <;> iassumption
  isplitl [Hs1 Hr1]
  · isplitl [Hs1] <;> iassumption
  isplitl [Hs2] <;> iassumption

end Cert.KernelIdeal.Ring

end
-- ==== Proof.Device.lean ====
/-
  A device's whole run of the kernel, from its buffers, positions, tokens and credits.
-/
module

public import proofs.«01_k».proof.Proof.Exchange
public import Idealize.ShloMosaic.Lib.Ring

@[expose] public section

noncomputable section

namespace Cert.KernelIdeal.Ring

open Cert.KernelIdeal.Gen Cert.Blocks
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Whole buffers and their blocks -/

theorem own_any (d : Dev nD) {s : Shape} {e : EltTy} (m : Memref sig .tc .vmem s e) (A : s.Idx → Elt F e) :
    own d m A ⊢ (iprop(∃ Y, own d m Y) : sProp 𝕄) := by
  iintro H; iexists A; iexact H

/-- Blocks held at any contents are the buffer held at some. -/
theorem rects_any (d : Dev nD) {s : Shape} {e : EltTy} (m : Memref sig .tc .vmem s e) {T : Type} [Fintype T] [DecidableEq T] (r : T → Rect s)
    (hr : ∀ t a, (r t).stride a = 1) (hd : ∀ t t', t ≠ t' → Disjoint (r t).set (r t').set)
    (hcov : (Finset.univ : Finset T).biUnion (fun t => (r t).set) = Finset.univ) :
    (bigSep Finset.univ fun t => iprop(∃ Y, own (F := F) d (m.slice (r t) (hr t)) Y)) ⊢ (iprop(∃ X, own d m X) : sProp 𝕄) := by
  refine BIBase.Entails.trans (BI.bigSep_exists_pi Finset.univ fun t Y => own (F := F) d (m.slice (r t) (hr t)) Y) ?_
  iintro ⟨%Y, H⟩
  have h : ∀ x, ∃ v, ∀ t j, (r t).emb j = x → Y t j = v := fun x => by
    obtain ⟨t₀, -, hx⟩ := Finset.mem_biUnion.mp (hcov.symm ▸ Finset.mem_univ x)
    rw [← Rect.map_emb_univ, Finset.mem_map] at hx
    obtain ⟨j₀, -, hj₀⟩ := hx
    refine ⟨Y t₀ j₀, fun t j hj => ?_⟩
    have ht : t = t₀ := by
      by_contra hne
      refine Finset.disjoint_left.mp (hd t t₀ hne) (show x ∈ (r t).set from ?_) (show x ∈ (r t₀).set from ?_)
      · rw [← Rect.map_emb_univ, Finset.mem_map]; exact ⟨j, Finset.mem_univ _, hj⟩
      · rw [← Rect.map_emb_univ, Finset.mem_map]; exact ⟨j₀, Finset.mem_univ _, hj₀⟩
    subst ht
    rw [(r t).emb.injective (hj.trans hj₀.symm)]
  choose X hX using h
  iexists X
  iapply (owns_of_rects (d : Thread nD τ) m fullShare r hr hd hcov X)
  rw [show (fun t => owns (d : Thread nD τ) (m.slice (r t) (hr t)) fullShare (fun j => X ((r t).emb j)) : T → sProp 𝕄)
    = fun t => own d (m.slice (r t) (hr t)) (Y t) from funext fun t => congrArg _ (funext fun j => (hX _ t j rfl).symm)]
  iexact H

theorem any_rects (d : Dev nD) {s : Shape} {e : EltTy} (m : Memref sig .tc .vmem s e) {T : Type} [Fintype T] [DecidableEq T] (r : T → Rect s)
    (hr : ∀ t a, (r t).stride a = 1) (hd : ∀ t t', t ≠ t' → Disjoint (r t).set (r t').set)
    (hcov : (Finset.univ : Finset T).biUnion (fun t => (r t).set) = Finset.univ) :
    (iprop(∃ X, own d m X) : sProp 𝕄) ⊢ (bigSep Finset.univ fun t => iprop(∃ Y, own (F := F) d (m.slice (r t) (hr t)) Y)) := by
  iintro ⟨%X, H⟩
  ihave H := (owns_rects (d : Thread nD τ) m fullShare r hr hd hcov X) $$ H
  have h : (bigSep Finset.univ fun t => owns (d : Thread nD τ) (m.slice (r t) (hr t)) fullShare (fun j => X ((r t).emb j)) : sProp 𝕄)
      ⊢ bigSep Finset.univ fun t => iprop(∃ Y, own d (m.slice (r t) (hr t)) Y) :=
    bigSep_mono fun t _ => own_any d _ _
  iapply h; iexact H

/-- The four blocks of rows, from a device's own. -/
theorem four_own (d : Dev nD) (Φ : Fin 4 → sProp 𝕄) :
    bigSep Finset.univ Φ = iprop(Φ (sB d 0) ∗ Φ (sB d 1) ∗ Φ (sB d 2) ∗ Φ (sB d 3)) :=
  bigSep_univ_eq_bigSepL [sB d 0, sB d 1, sB d 2, sB d 3] (by revert d; decide) (by revert d; decide) Φ
/-- The four blocks of rows, by who computes their output. -/
theorem four_out (d : Dev nD) (Φ : Fin 4 → sProp 𝕄) :
    bigSep Finset.univ Φ = iprop(Φ (sB d 3) ∗ Φ (sB (prv d) 3) ∗ Φ (sB (nxt d) 3) ∗ Φ (sB (dia d) 3)) :=
  bigSep_univ_eq_bigSepL [sB d 3, sB (prv d) 3, sB (nxt d) 3, sB (dia d) 3] (by revert d; decide) (by revert d; decide) Φ
theorem three (Φ : Fin 3 → sProp 𝕄) : bigSep Finset.univ Φ = iprop(Φ 0 ∗ Φ 1 ∗ Φ 2) :=
  bigSep_univ_eq_bigSepL [0, 1, 2] (by decide) (by decide) Φ

abbrev rB (b : Fin 4) : Rect S512x1024 := Rect.unit (s := S512x1024) ![128 * b.val, 0] S128x1024.size (inbB b)
abbrev rB8 (b : Fin 4) : Rect S512x8 := Rect.unit (s := S512x8) ![128 * b.val, 0] S128x8.size (inbB8 b)
abbrev rA (t : Fin 3) : Rect S3x128x1024 := Rect.unit (s := S3x128x1024) ![t.val, 0, 0] S1x128x1024.size (inbA3 t)
abbrev rM (t : Fin 3) : Rect S3x128x16 := Rect.unit (s := S3x128x16) ![t.val, 0, 0] S1x128x16.size (inbM3 t)

theorem rB_disj : ∀ b b', b ≠ b' → Disjoint (rB b).set (rB b').set :=
  Idealize.ShloMosaic.Ring.lead_disjoint (s := S512x1024) 0 128 (fun b : Fin 4 => ![128 * b.val, 0]) S128x1024.size inbB (fun _ => rfl) rfl
theorem rB_cov : Finset.univ.biUnion (fun b => (rB b).set) = Finset.univ :=
  Idealize.ShloMosaic.Ring.lead_cover (s := S512x1024) 0 128 (fun b : Fin 4 => ![128 * b.val, 0]) S128x1024.size inbB (fun _ => rfl)
    (by decide +kernel) rfl (by decide +kernel) rfl
theorem rB8_disj : ∀ b b', b ≠ b' → Disjoint (rB8 b).set (rB8 b').set :=
  Idealize.ShloMosaic.Ring.lead_disjoint (s := S512x8) 0 128 (fun b : Fin 4 => ![128 * b.val, 0]) S128x8.size inbB8 (fun _ => rfl) rfl
theorem rB8_cov : Finset.univ.biUnion (fun b => (rB8 b).set) = Finset.univ :=
  Idealize.ShloMosaic.Ring.lead_cover (s := S512x8) 0 128 (fun b : Fin 4 => ![128 * b.val, 0]) S128x8.size inbB8 (fun _ => rfl)
    (by decide +kernel) rfl (by decide +kernel) rfl
theorem rA_disj : ∀ t t', t ≠ t' → Disjoint (rA t).set (rA t').set :=
  Idealize.ShloMosaic.Ring.lead_disjoint (s := S3x128x1024) 0 1 (fun t : Fin 3 => ![t.val, 0, 0]) S1x128x1024.size inbA3 (fun t => (Nat.one_mul _).symm) rfl
theorem rA_cov : Finset.univ.biUnion (fun t => (rA t).set) = Finset.univ :=
  Idealize.ShloMosaic.Ring.lead_cover (s := S3x128x1024) 0 1 (fun t : Fin 3 => ![t.val, 0, 0]) S1x128x1024.size inbA3 (fun t => (Nat.one_mul _).symm)
    (by decide +kernel) rfl (by decide +kernel) rfl
theorem rM_disj : ∀ t t', t ≠ t' → Disjoint (rM t).set (rM t').set :=
  Idealize.ShloMosaic.Ring.lead_disjoint (s := S3x128x16) 0 1 (fun t : Fin 3 => ![t.val, 0, 0]) S1x128x16.size inbM3 (fun t => (Nat.one_mul _).symm) rfl
theorem rM_cov : Finset.univ.biUnion (fun t => (rM t).set) = Finset.univ :=
  Idealize.ShloMosaic.Ring.lead_cover (s := S3x128x16) 0 1 (fun t : Fin 3 => ![t.val, 0, 0]) S1x128x16.size inbM3 (fun t => (Nat.one_mul _).symm)
    (by decide +kernel) rfl (by decide +kernel) rfl

section Buffers
variable (d : Dev nD)

theorem acc_zero : own d bAcc (broadcast S512x1024 (Scalar.ofBits .f32 0x00000000#32)) ⊢
    (iprop(own d (accB (sB d 0)) zeroB ∗ own d (accB (sB d 1)) zeroB ∗ own d (accB (sB d 2)) zeroB ∗ own d (accB (sB d 3)) zeroB) : sProp 𝕄) := by
  rw [← four_own d (fun b => own d (accB b) zeroB)]
  exact owns_rects (d : Thread nD τ) bAcc fullShare rB (fun _ _ => rfl) rB_disj rB_cov _
theorem acc_join : (iprop((∃ A, own d (accB (sB d 0)) A) ∗ (∃ A, own d (accB (sB d 1)) A) ∗ (∃ A, own d (accB (sB d 2)) A) ∗ (∃ A, own d (accB (sB d 3)) A)) : sProp 𝕄)
    ⊢ iprop(∃ A, own d bAcc A) := by
  rw [← four_own d (fun b => iprop(∃ A, own d (accB b) A))]
  exact rects_any d bAcc rB (fun _ _ => rfl) rB_disj rB_cov
theorem m_split : (iprop(∃ A, own d bM A) : sProp 𝕄) ⊣⊢
    iprop((∃ A, own d (mB (sB d 0)) A) ∗ (∃ A, own d (mB (sB d 1)) A) ∗ (∃ A, own d (mB (sB d 2)) A) ∗ (∃ A, own d (mB (sB d 3)) A)) := by
  rw [← four_own d (fun b => iprop(∃ A, own d (mB b) A))]
  exact ⟨any_rects d bM rB8 (fun _ _ => rfl) rB8_disj rB8_cov, rects_any d bM rB8 (fun _ _ => rfl) rB8_disj rB8_cov⟩
theorem l_split : (iprop(∃ A, own d bL A) : sProp 𝕄) ⊣⊢
    iprop((∃ A, own d (lB (sB d 0)) A) ∗ (∃ A, own d (lB (sB d 1)) A) ∗ (∃ A, own d (lB (sB d 2)) A) ∗ (∃ A, own d (lB (sB d 3)) A)) := by
  rw [← four_own d (fun b => iprop(∃ A, own d (lB b) A))]
  exact ⟨any_rects d bL rB8 (fun _ _ => rfl) rB8_disj rB8_cov, rects_any d bL rB8 (fun _ _ => rfl) rB8_disj rB8_cov⟩

theorem out_split : (iprop(∃ A, own d bOut A) : sProp 𝕄) ⊢
    iprop(rowsOf d (sB d 3) ∗ rowsOf d (sB (prv d) 3) ∗ rowsOf d (sB (nxt d) 3) ∗ rowsOf d (sB (nxt (nxt d)) 3)) := by
  rw [show nxt (nxt d) = dia d by revert d; decide, ← four_out d (fun b => rowsOf d b)]
  exact any_rects d bOut rB (fun _ _ => rfl) rB_disj rB_cov
theorem blk_dev : ∀ e : Dev nD, ((sB e 3).val + 3) % 4 = e.val := by decide +kernel
theorem row_emb (b : Fin 4) (j : S128x1024.Idx) : ((rB b).emb j 0).val = 128 * b.val + (j 0).val := by
  rw [Rect.emb_apply]
  show 128 * b.val + 1 * (j 0).val = _
  rw [Nat.one_mul]
theorem col_emb (b : Fin 4) (j : S128x1024.Idx) : ((rB b).emb j 1).val = (j 1).val := by
  rw [Rect.emb_apply]
  show 0 + 1 * (j 1).val = _
  rw [Nat.one_mul, Nat.zero_add]
theorem out_part (In : Dev nD → Ins F) (e : Dev nD) : (fun j => outAll In ((rB (sB e 3)).emb j)) = outB In e := by
  funext j
  have h0 : (j 0).val < 128 := (j 0).isLt
  have he : ((sB e 3).val + 3) % 4 = e.val := blk_dev e
  have hr := row_emb (sB e 3) j
  have hc := col_emb (sB e 3) j
  unfold outAll
  have hdev : (⟨(((rB (sB e 3)).emb j 0).val / 128 + 3) % 4, Nat.mod_lt _ (by decide)⟩ : Dev nD) = e := by
    refine Fin.ext ?_
    show (((rB (sB e 3)).emb j 0).val / 128 + 3) % 4 = e.val
    rw [hr, ← he]; omega
  rw [hdev]
  refine congrArg (outB In e) (funext fun a => Fin.ext ?_)
  match a with
  | ⟨0, _⟩ => show ((rB (sB e 3)).emb j 0).val % 128 = (j 0).val; rw [hr]; omega
  | ⟨1, _⟩ => exact hc
theorem out_join (In : Dev nD → Ins F) : (outOwn In d : sProp 𝕄) ⊢ own d bOut (outAll In) := by
  have h' (e : Dev nD) : (own d (outBk (sB e 3)) (outB In e) : sProp 𝕄) = own d (outBk (sB e 3)) (fun j => outAll In ((rB (sB e 3)).emb j)) :=
    congrArg _ (out_part In e).symm
  have h : (outOwn In d : sProp 𝕄) = bigSep Finset.univ fun b => own d (outBk b) (fun j => outAll In ((rB b).emb j)) := by
    rw [four_out d]
    unfold outOwn
    exact congr (congrArg _ (h' d)) (congr (congrArg _ (h' (prv d))) (congr (congrArg _ (h' (nxt d))) (h' (dia d))))
  rw [h]
  exact owns_of_rects (d : Thread nD τ) bOut fullShare rB (fun _ _ => rfl) rB_disj rB_cov _

theorem unit3_back {a b : ℕ} {α : Type} (X : (⟨3, ![1, a, b]⟩ : Shape).Idx → α) :
    unit3 (fun j : (⟨2, ![a, b]⟩ : Shape).Idx => X (ValueIdx.ix3 0 (j 0) (j 1))) = X := by
  funext j
  refine congrArg X (funext fun i => ?_)
  match i with
  | ⟨0, _⟩ => exact Fin.ext (show 0 = (j 0).val by have : (j 0).val < 1 := (j 0).isLt; omega)
  | ⟨1, _⟩ => rfl
  | ⟨2, _⟩ => rfl

theorem any_le {s s' : Shape} {e : EltTy} {m : Memref sig .tc .vmem s e} {m' : Memref sig .tc .vmem s' e} (f : (s.Idx → Elt F e) → s'.Idx → Elt F e)
    (h : ∀ X, (own d m X : sProp 𝕄) ⊢ own d m' (f X)) : (iprop(∃ X, own d m X) : sProp 𝕄) ⊢ iprop(∃ X, own d m' X) := by
  iintro ⟨%X, H⟩; iexists (f X); ihave H := (h X) $$ H; iexact H
theorem any_eq {s s' : Shape} {e : EltTy} {m : Memref sig .tc .vmem s e} {m' : Memref sig .tc .vmem s' e} (f : (s.Idx → Elt F e) → s'.Idx → Elt F e)
    (g : (s'.Idx → Elt F e) → s.Idx → Elt F e) (hg : ∀ X, f (g X) = X) (h : ∀ X, (own d m X : sProp 𝕄) = own d m' (f X)) :
    (iprop(∃ X, own d m X) : sProp 𝕄) = iprop(∃ X, own d m' X) := by
  refine BI.equiv_iff.mp ⟨any_le d f fun X => Entails.of_eq (h X), any_le d g fun X => Entails.of_eq ((h (g X)).trans (by rw [hg])).symm⟩

theorem slotA_any (t : Fin 3) : (iprop(∃ X, own d (slotA t) X) : sProp 𝕄) = iprop(∃ X, own d (slotAu t) X) :=
  any_eq d unit3 (fun X j => X (ValueIdx.ix3 0 (j 0) (j 1))) (fun X => unit3_back X) (own_slotA d t)
theorem slotM_any (t : Fin 3) : (iprop(∃ X, own d (slotM t) X) : sProp 𝕄) = iprop(∃ X, own d (slotMu t) X) :=
  any_eq d unit3 (fun X j => X (ValueIdx.ix3 0 (j 0) (j 1))) (fun X => unit3_back X) (own_slotM d t)
theorem slotG_any (t : Fin 3) : (iprop(∃ X, own d (slotG t) X) : sProp 𝕄) = iprop(∃ X, own d (slotGu t) X) :=
  any_eq d unit3 (fun X j => X (ValueIdx.ix3 0 (j 0) (j 1))) (fun X => unit3_back X) (own_slotG d t)

end Buffers

/-! ## The whole kernel on a device -/

/-- What a device starts with besides its buffers. -/
def ghost (In : Dev nD → Ins F) (K : Dev nD × Fin 19 → ℕ) (d : Dev nD) : sProp 𝕄 :=
  iprop(records In K ∗ levAts L lv ∗ (dutyTok ER (barCell (prv d)) 0 true ∗ dutyTok ER (barCell (nxt d)) 0 false ∗ cred (tallyAt (barCell d) () 2)
      ∗ atPos ER (barCell d) 0 ∅ 0)
    ∗ (stepGh d 0 ∗ stepGh d 1 ∗ stepGh d 2) ∗ (outGh d 0 ∗ outGh d 1 ∗ outGh d 2))
/-- A device's counters, at zero. -/
def zeros (d : Dev nD) : sProp 𝕄 :=
  iprop(semVal (barCell d) 0 ∗ (stepZ d 0 ∗ stepZ d 1 ∗ stepZ d 2) ∗ (outZ d 0 ∗ outZ d 1 ∗ outZ d 2))
/-- A device's own buffers, at any contents. -/
def scr (d : Dev nD) : sProp 𝕄 :=
  iprop((∃ A, own d bAcc A) ∗ (∃ A, own d bM A) ∗ (∃ A, own d bL A) ∗ (∃ A, own d bRsA A) ∗ (∃ A, own d bRsM A) ∗ (∃ A, own d bStg A))

theorem slots_split (d : Dev nD) : (iprop((∃ A, own d bRsA A) ∗ (∃ A, own d bRsM A)) : sProp 𝕄) ⊢ iprop(slotsAt d 0 ∗ slotsAt d 1 ∗ slotsAt d 2) := by
  iintro ⟨HA, HM⟩
  ihave HA := (any_rects d bRsA rA (fun _ _ => rfl) rA_disj rA_cov) $$ HA
  ihave HM := (any_rects d bRsM rM (fun _ _ => rfl) rM_disj rM_cov) $$ HM
  ihave HA := (Entails.of_eq (three _)) $$ HA
  ihave HM := (Entails.of_eq (three _)) $$ HM
  icases HA with ⟨HA0, HA1, HA2⟩
  icases HM with ⟨HM0, HM1, HM2⟩
  unfold slotsAt
  rw [slotA_any d 0, slotA_any d 1, slotA_any d 2, slotM_any d 0, slotM_any d 1, slotM_any d 2]
  isplitl [HA0 HM0]; · isplitl [HA0]; · iexact HA0
                       iexact HM0
  isplitl [HA1 HM1]; · isplitl [HA1]; · iexact HA1
                       iexact HM1
  isplitl [HA2]; · iexact HA2
  iexact HM2
theorem slots_join (d : Dev nD) : (iprop(slotsAt d 0 ∗ slotsAt d 1 ∗ slotsAt d 2) : sProp 𝕄) ⊢ iprop((∃ A, own d bRsA A) ∗ (∃ A, own d bRsM A)) := by
  unfold slotsAt
  rw [slotA_any d 0, slotA_any d 1, slotA_any d 2, slotM_any d 0, slotM_any d 1, slotM_any d 2]
  iintro ⟨⟨HA0, HM0⟩, ⟨HA1, HM1⟩, HA2, HM2⟩
  isplitl [HA0 HA1 HA2]
  · iapply (rects_any d bRsA rA (fun _ _ => rfl) rA_disj rA_cov)
    iapply (Entails.of_eq (three _).symm)
    isplitl [HA0]; · iexact HA0
    isplitl [HA1]; · iexact HA1
    iexact HA2
  · iapply (rects_any d bRsM rM (fun _ _ => rfl) rM_disj rM_cov)
    iapply (Entails.of_eq (three _).symm)
    isplitl [HM0]; · iexact HM0
    isplitl [HM1]; · iexact HM1
    iexact HM2
theorem stg_split (d : Dev nD) : (iprop(∃ A, own d bStg A) : sProp 𝕄) ⊢
    iprop((∃ A, own d (slotGu 0) A) ∗ (∃ A, own d (slotGu 1) A) ∗ (∃ A, own d (slotGu 2) A)) :=
  BIBase.Entails.trans (any_rects d bStg rM (fun _ _ => rfl) rM_disj rM_cov) (Entails.of_eq (three _))
theorem stg_join (d : Dev nD) : (iprop((∃ A, own d (slotG 0) A) ∗ (∃ A, own d (slotG 1) A) ∗ (∃ A, own d (slotG 2) A)) : sProp 𝕄) ⊢
    iprop(∃ A, own d bStg A) := by
  rw [slotG_any d 0, slotG_any d 1, slotG_any d 2]
  exact BIBase.Entails.trans (Entails.of_eq (three (fun t => iprop(∃ A, own d (slotGu t) A))).symm) (rects_any d bStg rM (fun _ _ => rfl) rM_disj rM_cov)
theorem blk_join (d : Dev nD) : (iprop(blkAny d (sB d 0) ∗ blkAny d (sB d 1) ∗ blkAny d (sB d 2) ∗ blkAny d (sB d 3)) : sProp 𝕄) ⊢
    iprop((∃ A, own d bAcc A) ∗ (∃ A, own d bM A) ∗ (∃ A, own d bL A)) := by
  unfold blkAny
  iintro ⟨⟨HA0, HM0, HL0⟩, ⟨HA1, HM1, HL1⟩, ⟨HA2, HM2, HL2⟩, HA3, HM3, HL3⟩
  isplitl [HA0 HA1 HA2 HA3]
  · iapply (acc_join d)
    isplitl [HA0]; · iexact HA0
    isplitl [HA1]; · iexact HA1
    isplitl [HA2] <;> iassumption
  isplitl [HM0 HM1 HM2 HM3]
  · iapply (m_split d).2
    isplitl [HM0]; · iexact HM0
    isplitl [HM1]; · iexact HM1
    isplitl [HM2] <;> iassumption
  · iapply (l_split d).2
    isplitl [HL0]; · iexact HL0
    isplitl [HL1]; · iexact HL1
    isplitl [HL2] <;> iassumption

section Run
variable (In : Dev nD → Ins F) (K : Dev nD × Fin 19 → ℕ) (d : Dev nD)

/-- The handshake's end: what the steps and the exchange of the output rows need. -/
theorem bar_parts : (iprop(barL d ∗ barR d) : sProp 𝕄) ⊢
    iprop((slotsAt (nxt d) 0 ∗ slotsAt (nxt d) 1 ∗ slotsAt (nxt d) 2) ∗ relay (nxt d) 0 ∗ rowsOf (nxt d) (sB d 3) ∗ rowsOf (prv d) (sB d 3)) := by
  unfold barL barR relay slots
  rw [if_pos rfl, dia_nxt]
  iintro ⟨⟨Hp, Hr⟩, Hs, Hn⟩
  isplitl [Hs]; · iexact Hs
  isplitl [Hr]; · iexact Hr
  isplitl [Hn] <;> iassumption

theorem relay_first : (relay d 0 : sProp 𝕄) ⊢ rowsOf (dia d) (sB d 3) := by
  unfold relay; rw [if_pos rfl]

theorem relay_none (t : Fin 3) (h : t ≠ 0) : (iprop(emp) : sProp 𝕄) ⊢ relay d t := by
  unfold relay; rw [if_neg h]

set_option maxHeartbeats 4000000 in
theorem wp_body {Q : PUnit → sProp 𝕄} :
    iprop(ghost In K d ∗ Owe d (O₀ d) ∗ insOwn d (In d) ∗ own d bWo (In d).wo ∗ (∃ A, own d bOut A) ∗ scr d)
      ⊢ iprop(((Owe d 0 ∗ insOwn d (In d) ∗ own d bWo (In d).wo ∗ own d bOut (outAll In) ∗ scr d ∗ zeros d) -∗ Q ⟨⟩)
        -∗ WP d (bodyAt d) Q) := by
  unfold bodyAt ghost scr zeros
  iintro ⟨⟨#HR, #Hlev, ⟨Htp, Htn, Hcb, Hatb⟩, ⟨Hg0, Hg1, Hg2⟩, Ho⟩, HO, HI, HWo, Hout, HA, HM, HL, HsA, HsM, HG⟩ Hk
  ihave Hout := (out_split d) $$ Hout
  icases Hout with ⟨Hown, Hrp, Hrn, Hrd⟩
  ihave Hsl := (slots_split d) $$ [HsA HsM]
  · isplitl [HsA] <;> iassumption
  iapply (wp_bar In K d (Fin.ext (k0_dev1_eq d)) (Fin.ext (k0_dev2_eq d))) $$ [HO Htp Htn Hcb Hatb Hsl Hrp Hrn Hrd]
  · isplitr; · iexact HR
    isplitr; · iexact Hlev
    isplitl [HO]; · iexact HO
    isplitl [Htp]; · iexact Htp
    isplitl [Htn]; · iexact Htn
    isplitl [Hcb]; · iexact Hcb
    isplitl [Hatb]; · iexact Hatb
    isplitl [Hsl]; · unfold slots; iexact Hsl
    isplitl [Hrp]; · iexact Hrp
    isplitl [Hrn] <;> iassumption
  iintro ⟨HO, Hzb, HbL, HbR⟩
  ihave Hb := (bar_parts d) $$ [HbL HbR]
  · isplitl [HbL] <;> iassumption
  icases Hb with ⟨⟨Hn0, Hn1, Hn2⟩, Hrel, Hgn, Hgp⟩
  icases HA with ⟨%A, HA⟩
  iapply (wp_zero d) $$ HA; iintro HA
  ihave HA := (acc_zero d) $$ HA
  icases HA with ⟨HA0, HA1, HA2, HA3⟩
  ihave HM := (m_split d).1 $$ HM
  icases HM with ⟨HM0, HM1, HM2, HM3⟩
  ihave HL := (l_split d).1 $$ HL
  icases HL with ⟨HL0, HL1, HL2, HL3⟩
  ihave HG := (stg_split d) $$ HG
  icases HG with ⟨HG0, HG1, HG2⟩
  unfold insOwn
  icases HI with ⟨HX, HWq, HK, HV⟩
  iapply (wp_chunk d (sB d 0) (off1_at d) (offs0_at d) (In d)) $$ [HX HWq HK HV HA0 HM0 HL0]
  · isplitl [HX]; · iexact HX
    isplitl [HWq]; · iexact HWq
    isplitl [HK]; · iexact HK
    isplitl [HV]; · iexact HV
    isplitl [HA0]; · iexact HA0
    isplitl [HM0]; · iexact HM0
    iexact HL0
  iintro ⟨HX, HWq, HK, HV, HA0, HM0, HL0⟩
  iapply (wp_step In K d 0 (Fin.ext (k0_dev3_eq d)) (Fin.ext (k0_dev4_eq d)) (offs1_at d)) $$ [Hg0 HO HX HWq HK HV HA0 HM0 HL0 HA1 HM1 HL1 HG0 Hn0 Hrel]
  · isplitr; · iexact HR
    isplitr; · iexact Hlev
    isplitl [Hg0]; · iexact Hg0
    isplitl [HO]; · iexact HO
    isplitl [HX HWq HK HV]
    · unfold insOwn
      isplitl [HX]; · iexact HX
      isplitl [HWq]; · iexact HWq
      isplitl [HK] <;> iassumption
    isplitl [HA0 HM0 HL0]
    · unfold blkOwn
      isplitl [HA0]; · iexact HA0
      isplitl [HM0]; · iexact HM0
      iexact HL0
    isplitl [HA1 HM1 HL1]
    · unfold blkNew
      isplitl [HA1]; · iexact HA1
      isplitl [HM1] <;> iassumption
    isplitl [HG0]; · iexact HG0
    isplitl [Hn0]; · iexact Hn0
    iexact Hrel
  iintro ⟨HO, HI, Hb, Hrel, Hd0, Hs0, HG0, Hz0⟩
  iapply (wp_step In K d 1 (Fin.ext (k0_dev5_eq d)) (Fin.ext (k0_dev6_eq d)) (offs2_at d)) $$ [Hg1 HO HI Hb HA2 HM2 HL2 HG1 Hn1]
  · isplitr; · iexact HR
    isplitr; · iexact Hlev
    isplitl [Hg1]; · iexact Hg1
    isplitl [HO]; · iexact HO
    isplitl [HI]; · iexact HI
    isplitl [Hb]; · iexact Hb
    isplitl [HA2 HM2 HL2]
    · unfold blkNew
      isplitl [HA2]; · iexact HA2
      isplitl [HM2] <;> iassumption
    isplitl [HG1]; · iexact HG1
    isplitl [Hn1]; · iexact Hn1
    iapply (relay_none (nxt d) 1 (by decide)); iempintro
  iintro ⟨HO, HI, Hb, -, Hd1, Hs1, HG1, Hz1⟩
  iapply (wp_step In K d 2 (Fin.ext (k0_dev7_eq d)) (Fin.ext (k0_dev8_eq d)) (offs3_at d)) $$ [Hg2 HO HI Hb HA3 HM3 HL3 HG2 Hn2]
  · isplitr; · iexact HR
    isplitr; · iexact Hlev
    isplitl [Hg2]; · iexact Hg2
    isplitl [HO]; · iexact HO
    isplitl [HI]; · iexact HI
    isplitl [Hb]; · iexact Hb
    isplitl [HA3 HM3 HL3]
    · unfold blkNew
      isplitl [HA3]; · iexact HA3
      isplitl [HM3] <;> iassumption
    isplitl [HG2]; · iexact HG2
    isplitl [Hn2]; · iexact Hn2
    iapply (relay_none (nxt d) 2 (by decide)); iempintro
  iintro ⟨HO, HI, Hb, -, Hd2, Hs2, HG2, Hz2⟩
  unfold blkOwn
  icases Hb with ⟨HA, HM, HL⟩
  iapply (wp_proj d (ringSt In 3 d).l (ringSt In 3 d).a (In d).wo) $$ [HL HA HWo Hown]
  · isplitl [HL]; · iexact HL
    isplitl [HA]; · iexact HA
    isplitl [HWo]; · iexact HWo
    unfold rowsOf; iexact Hown
  iintro ⟨HL, HA, HWo, Hown⟩
  iapply (wp_gather In K d (Fin.ext (k0_dev9_eq d)) (Fin.ext (k0_dev10_eq d)) (Fin.ext (k0_dev11_eq d))) $$ [Ho HO Hown Hgn Hgp Hrel]
  · isplitr; · iexact HR
    isplitr; · iexact Hlev
    isplitl [Ho]; · iexact Ho
    isplitl [HO]; · iexact HO
    isplitl [Hown]; · iexact Hown
    isplitl [Hgn]; · iexact Hgn
    isplitl [Hgp]; · iexact Hgp
    iapply (relay_first d); iexact Hrel
  iintro ⟨HO, Hout, Hzo⟩
  iapply Hk
  isplitl [HO]; · iexact HO
  isplitl [HI]; · unfold insOwn; iexact HI
  isplitl [HWo]; · iexact HWo
  isplitl [Hout]; · iapply (out_join d In); iexact Hout
  ihave Hblk := (blk_join d) $$ [Hd0 Hd1 Hd2 HA HM HL]
  · isplitl [Hd0]; · iexact Hd0
    isplitl [Hd1]; · iexact Hd1
    isplitl [Hd2]; · iexact Hd2
    unfold blkAny
    isplitl [HA]; · iexists _; iexact HA
    isplitl [HM]; · iexists _; iexact HM
    iexists _; iexact HL
  icases Hblk with ⟨HA, HM, HL⟩
  ihave Hsl := (slots_join d) $$ [Hs0 Hs1 Hs2]
  · isplitl [Hs0]; · iexact Hs0
    isplitl [Hs1] <;> iassumption
  icases Hsl with ⟨HsA, HsM⟩
  isplitr [Hzb Hz0 Hz1 Hz2 Hzo]
  · isplitl [HA]; · iexact HA
    isplitl [HM]; · iexact HM
    isplitl [HL]; · iexact HL
    isplitl [HsA]; · iexact HsA
    isplitl [HsM]; · iexact HsM
    iapply (stg_join d)
    isplitl [HG0]; · iexact HG0
    isplitl [HG1] <;> iassumption
  isplitl [Hzb]; · iexact Hzb
  isplitl [Hz0 Hz1 Hz2]
  · isplitl [Hz0]; · iexact Hz0
    isplitl [Hz1] <;> iassumption
  iexact Hzo

end Run

end Cert.KernelIdeal.Ring

end
-- ==== Proof.Ghost.lean ====
/-
  What the launch deals: the cells' tokens, positions and credits, regrouped into what each device's run starts with.
-/
module

public import proofs.«01_k».proof.Proof.Device
public import Idealize.ShloMosaic.Lib.Pipeline.Launch

@[expose] public section

noncomputable section

namespace Cert.KernelIdeal.Ring

open Cert.KernelIdeal.Gen Cert.Blocks
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## A device's cells, one by one -/

theorem sep_right (P Q R : sProp 𝕄) : iprop((P ∗ Q) ∗ R) = iprop(P ∗ Q ∗ R) := equiv_iff.mp ⟨BI.sep_assoc, BI.sep_assoc'⟩
theorem swap_sep {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun p : I × J => Φ p.1 p.2), ← bigSep_univ_prod (fun p : J × I => Φ p.2 p.1), bigSep_univ_equiv (Equiv.prodComm J I)]
  rfl
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- Over a device's copy cells, by entry. -/
abbrev eachX (Φ : Fin 6 → Fin 3 → sProp 𝕄) : sProp 𝕄 := bigSep Finset.univ fun t : Fin 3 => bigSep Finset.univ fun a : Fin 6 => Φ a t

theorem eachX_list (Φ : Fin 6 → Fin 3 → sProp 𝕄) : eachX Φ =
    iprop(Φ 0 0 ∗ Φ 0 1 ∗ Φ 0 2 ∗ Φ 1 0 ∗ Φ 1 1 ∗ Φ 1 2 ∗ Φ 2 0 ∗ Φ 2 1 ∗ Φ 2 2 ∗ Φ 3 0 ∗ Φ 3 1 ∗ Φ 3 2 ∗ Φ 4 0 ∗ Φ 4 1 ∗ Φ 4 2 ∗ Φ 5 0 ∗ Φ 5 1 ∗ Φ 5 2) := by
  unfold eachX
  rw [swap_sep, six]
  simp only [three, sep_right]

theorem cells19 (Φ : GSem nD τ sig → sProp 𝕄) (c : Dev nD) :
    (bigSep Finset.univ fun i : Fin 19 => Φ (kcell (c, i))) = iprop(Φ (barCell c) ∗ eachX fun a t => Φ (xCell c a t)) := by
  rw [eachX_list, bigSep_univ_eq_bigSepL [0, 1, 2, 3, 4, 5, 6, 7, 8, 9, 10, 11, 12, 13, 14, 15, 16, 17, 18] (by decide) (by decide)]
  rfl

/-- Who pays the duty of array `a`'s entry `t`: the cell of whom device `c` pays, and by whom its own is paid. -/
def payTo (a : Fin 6) (t : Fin 3) (c : Dev nD) : Dev nD := if a.val = 1 ∨ a.val = 3 then nxt c else if a.val = 5 then gTo c t else c
def payFrom (a : Fin 6) (t : Fin 3) (c : Dev nD) : Dev nD := if a.val = 1 ∨ a.val = 3 then prv c else if a.val = 5 then gFrom c t else c
theorem payFrom_payTo : ∀ (a : Fin 6) (t : Fin 3) (c : Dev nD), payFrom a t (payTo a t c) = c := by decide
theorem payTo_payFrom : ∀ (a : Fin 6) (t : Fin 3) (c : Dev nD), payTo a t (payFrom a t c) = c := by decide
def payE (a : Fin 6) (t : Fin 3) : Dev nD ≃ Dev nD := ⟨payTo a t, payFrom a t, payFrom_payTo a t, payTo_payFrom a t⟩
def ringE : Dev nD ≃ Dev nD := ⟨nxt, prv, prv_nxt, nxt_prv⟩

/-- A family over all copy cells, dealt to the payers. -/
theorem deal (Φ : Fin 6 → Fin 3 → Dev nD → sProp 𝕄) :
    (bigSep Finset.univ fun c : Dev nD => eachX fun a t => Φ a t c) = bigSep Finset.univ fun c : Dev nD => eachX fun a t => Φ a t (payTo a t c) := by
  unfold eachX
  rw [swap_sep, swap_sep (fun (c : Dev nD) (t : Fin 3) => bigSep Finset.univ fun a => Φ a t (payTo a t c))]
  refine bigSep_congr fun t _ => ?_
  rw [swap_sep, swap_sep (fun (c : Dev nD) (a : Fin 6) => Φ a t (payTo a t c))]
  exact bigSep_congr fun a _ => bigSep_univ_equiv (payE a t) (Φ a t)

/-! ## What a device's run starts with -/

variable (In : Dev nD → Ins F) (K : Dev nD × Fin 19 → ℕ) (c : Dev nD)

/-- The credits of a device's cells at launch. -/
def crds : sProp 𝕄 := iprop(cred (tallyAt (barCell c) () 2)
  ∗ bigSep Finset.univ fun t : Fin 3 => iprop(cred (tallyAt (xCell c 1 t) () Na) ∗ cred (tallyAt (xCell c 3 t) () Nm) ∗ cred (tallyAt (xCell c 5 t) () Na)))
/-- The positions of a device's cells. -/
def ats : sProp 𝕄 := iprop(atPos ER (barCell c) 0 ∅ 0 ∗ eachX fun a t => atPos ER (xCell c a t) 0 ∅ 0)
/-- The tokens a device pays with. -/
def payToks : sProp 𝕄 := iprop((dutyTok ER (barCell (prv c)) 0 true ∗ dutyTok ER (barCell (nxt c)) 0 false)
  ∗ eachX fun a t => dutyTok ER (xCell (payTo a t c) a t) 0 false)

theorem entry_intro (t : Fin 3) :
    (iprop((bigSep Finset.univ fun a : Fin 6 => atPos ER (xCell c a t) 0 ∅ 0) ∗ (bigSep Finset.univ fun a : Fin 6 => dutyTok ER (xCell (payTo a t c) a t) 0 false)
        ∗ (cred (tallyAt (xCell c 1 t) () Na) ∗ cred (tallyAt (xCell c 3 t) () Nm) ∗ cred (tallyAt (xCell c 5 t) () Na))) : sProp 𝕄)
      ⊢ iprop(stepGh c t ∗ outGh c t) := by
  rw [six, six, show payTo 0 t c = c from rfl, show payTo 1 t c = nxt c from rfl, show payTo 2 t c = c from rfl, show payTo 3 t c = nxt c from rfl,
    show payTo 4 t c = c from rfl, show payTo 5 t c = gTo c t from rfl]
  unfold stepGh outGh
  iintro ⟨⟨A0, A1, A2, A3, A4, A5⟩, ⟨T0, T1, T2, T3, T4, T5⟩, C1, C3, C5⟩
  isplitl [A0 A1 A2 A3 T0 T1 T2 T3 C1 C3]
  · isplitl [A0]; · iexact A0
    isplitl [A1]; · iexact A1
    isplitl [A2]; · iexact A2
    isplitl [A3]; · iexact A3
    isplitl [T0]; · iexact T0
    isplitl [T1]; · iexact T1
    isplitl [T2]; · iexact T2
    isplitl [T3]; · iexact T3
    isplitl [C1] <;> iassumption
  · isplitl [A4]; · iexact A4
    isplitl [A5]; · iexact A5
    isplitl [T4]; · iexact T4
    isplitl [T5] <;> iassumption

theorem ghost_intro : iprop(records In K ∗ levAts L lv ∗ ats c ∗ payToks c ∗ crds c) ⊢ ghost In K c := by
  unfold ats payToks crds ghost
  iintro ⟨HR, Hl, ⟨Hab, Ha⟩, ⟨⟨Ht, Hf⟩, Htk⟩, Hcb, Hc⟩
  ihave H := (BIBase.Entails.trans (Entails.of_eq (show iprop((eachX fun a t => (atPos ER (xCell c a t) 0 ∅ 0 : sProp 𝕄)) ∗ (eachX fun a t => dutyTok ER (xCell (payTo a t c) a t) 0 false)
      ∗ bigSep Finset.univ fun t : Fin 3 => iprop(cred (tallyAt (xCell c 1 t) () Na) ∗ cred (tallyAt (xCell c 3 t) () Nm) ∗ cred (tallyAt (xCell c 5 t) () Na)))
      = bigSep Finset.univ fun t : Fin 3 => _ by unfold eachX; simp only [bigSep_sep']))
      (bigSep_mono fun t _ => entry_intro c t)) $$ [Ha Htk Hc]
  · isplitl [Ha]; · iexact Ha
    isplitl [Htk] <;> iassumption
  ihave H := (Entails.of_eq (three fun t => iprop(stepGh (F := F) c t ∗ outGh c t))) $$ H
  icases H with ⟨⟨S0, O0⟩, ⟨S1, O1⟩, S2, O2⟩
  isplitl [HR]; · iexact HR
  isplitl [Hl]; · iexact Hl
  isplitl [Ht Hf Hcb Hab]
  · isplitl [Ht]; · iexact Ht
    isplitl [Hf]; · iexact Hf
    isplitl [Hcb] <;> iassumption
  isplitl [S0 S1 S2]
  · isplitl [S0]; · iexact S0
    isplitl [S1] <;> iassumption
  isplitl [O0]; · iexact O0
  isplitl [O1] <;> iassumption

/-! ## The tokens -/

/-- The tokens of a device's own cells. -/
def toks : sProp 𝕄 := iprop((bigSep Finset.univ fun i : Fin 19 => dutyTok ER (kcell (c, i)) 0 false) ∗ dutyTok ER (barCell c) 0 true)

theorem toks_deal : (bigSep Finset.univ fun c : Dev nD => (toks c : sProp 𝕄)) ⊢ bigSep Finset.univ fun c : Dev nD => payToks c := by
  unfold toks payToks
  simp only [cells19 (fun g => (dutyTok ER g 0 false : sProp 𝕄)), bigSep_sep']
  rw [deal (fun a t c => (dutyTok ER (xCell c a t) 0 false : sProp 𝕄)), bigSep_univ_equiv ringE (fun c : Dev nD => (dutyTok ER (barCell c) 0 false : sProp 𝕄)),
    bigSep_univ_equiv ringE.symm (fun c : Dev nD => (dutyTok ER (barCell c) 0 true : sProp 𝕄))]
  iintro ⟨⟨Hf, Hx⟩, Ht⟩
  isplitr [Hx]
  · isplitl [Ht]; · iexact Ht
    iexact Hf
  iexact Hx

theorem csem_inj : Function.Injective csem := by decide
theorem kcell_inj : Function.Injective (kcell : Dev nD × Fin 19 → GSem nD τ sig) := by
  rintro ⟨c, i⟩ ⟨c', i'⟩ h
  have h1 : c = c' := congrArg (fun g : GSem nD τ sig => g.1.1) h
  have h2 : csem i = csem i' := congrArg Prod.snd h
  rw [h1, csem_inj h2]
def ringCells : Finset (GSem nD τ sig) := Finset.univ.map ⟨kcell, kcell_inj⟩
def tokF (ci : Dev nD × Fin 19) : GSem nD τ sig × ℕ × Bool := (kcell ci, 0, false)
def tokT (c : Dev nD) : GSem nD τ sig × ℕ × Bool := (barCell c, 0, true)
theorem tokF_inj : Function.Injective tokF := fun _ _ h => kcell_inj (congrArg Prod.fst h)
theorem tokT_inj : Function.Injective tokT := fun _ _ h => congrArg (fun x : GSem nD τ sig × ℕ × Bool => x.1.1.1) h
def ringToks : Finset (GSem nD τ sig × ℕ × Bool) := Finset.univ.map ⟨tokF, tokF_inj⟩ ∪ Finset.univ.map ⟨tokT, tokT_inj⟩
theorem toks_disj : Disjoint (Finset.univ.map ⟨tokF, tokF_inj⟩) (Finset.univ.map ⟨tokT, tokT_inj⟩) := by
  rw [Finset.disjoint_left]
  intro x h h'
  obtain ⟨i, -, rfl⟩ := Finset.mem_map.mp h
  obtain ⟨c, -, e⟩ := Finset.mem_map.mp h'
  exact absurd (congrArg (fun x : GSem nD τ sig × ℕ × Bool => x.2.2) e) (show true ≠ false by decide)

/-- What the launch deals device `c`. -/
def G : sProp 𝕄 :=
  iprop((bigSep Finset.univ fun i : Fin 19 => roundState ER (Rd In) (kcell (c, i)) 0)
    ∗ (bigSep Finset.univ fun i : Fin 19 => iprop(atPos ER (kcell (c, i)) 0 ∅ 0 ∗ reached ER (kcell (c, i)) 0)) ∗ toks c)

theorem over_cells (Φ : GSem nD τ sig → sProp 𝕄) :
    bigSep ringCells Φ = bigSep Finset.univ fun c : Dev nD => bigSep Finset.univ fun i : Fin 19 => Φ (kcell (c, i)) := by
  unfold ringCells; rw [bigSep_map, bigSep_univ_prod]; rfl
theorem over_toks : bigSep ringToks (fun x => (dutyTok ER x.1 x.2.1 x.2.2 : sProp 𝕄)) = bigSep Finset.univ fun c : Dev nD => toks c := by
  unfold ringToks toks; rw [bigSep_union toks_disj, bigSep_map, bigSep_map, bigSep_univ_prod, bigSep_sep']; rfl

theorem fund_ring : BI.own (ER (initOf ringCells ringToks)) ⊢ (|==> bigSep Finset.univ (G In) : sProp 𝕄) := by
  iintro HX
  imod (Rounds.fund ER (Rd In) ringCells ringToks) $$ HX with ⟨Hst, Hr, Hat, Htok⟩
  imodintro
  ihave Hst := (Entails.of_eq (over_cells fun g => roundState ER (Rd In) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G; simp only [bigSep_sep']
  isplitl [Hst]; · iexact Hst
  isplitl [Hat Hr]
  · isplitl [Hat] <;> iassumption
  iexact Htok

/-! ## The counters -/

theorem osem_eq (c : Dev nD) : (Pipeline.ownSems0 (Ix := Unit) (Name := ℕ) (U := UU) (Lvl := ℕ) (Val := Elt F) (τ := τ) osem c : sProp 𝕄)
    = eachX fun a t => semVal (xCell c a t) 0 := by
  rw [eachX_list, Pipeline.ownSems0_eq_of_list c osem [0, 1, 2, 3, 4, 5, 6, 7, 8, 9, 10, 11, 12, 13, 14, 15, 16, 17] (by decide) (by decide)]; rfl
theorem bar_eq (c : Dev nD) : (unscopedSems0 c : sProp 𝕄) = semVal (barCell c) 0 := by
  unfold unscopedSems0; rw [bigSep_eq_bigSepL_of_eq [SemLoc.reg barS] (by decide) (by decide)]; rfl

theorem zeros_out : (zeros c : sProp 𝕄) ⊢ iprop(unscopedSems0 c ∗ Pipeline.ownSems0 (Ix := Unit) (Name := ℕ) (U := UU) (Lvl := ℕ) (Val := Elt F) (τ := τ) osem c) := by
  rw [osem_eq, bar_eq]
  unfold zeros eachX stepZ outZ
  rw [three, six, six, six]
  iintro ⟨Hb, ⟨⟨A0, A1, A2, A3⟩, ⟨B0, B1, B2, B3⟩, C0, C1, C2, C3⟩, ⟨A4, A5⟩, ⟨B4, B5⟩, C4, C5⟩
  isplitl [Hb]; · iexact Hb
  isplitl [A0 A1 A2 A3 A4 A5]
  · isplitl [A0]; · iexact A0
    isplitl [A1]; · iexact A1
    isplitl [A2]; · iexact A2
    isplitl [A3]; · iexact A3
    isplitl [A4] <;> iassumption
  isplitl [B0 B1 B2 B3 B4 B5]
  · isplitl [B0]; · iexact B0
    isplitl [B1]; · iexact B1
    isplitl [B2]; · iexact B2
    isplitl [B3]; · iexact B3
    isplitl [B4] <;> iassumption
  isplitl [C0]; · iexact C0
  isplitl [C1]; · iexact C1
  isplitl [C2]; · iexact C2
  isplitl [C3]; · iexact C3
  isplitl [C4] <;> iassumption

/-! ## The invariants -/

theorem core_alloc :
    iprop(Pipeline.ownSems0 (Ix := Unit) (Name := ℕ) (U := UU) (Lvl := ℕ) (Val := Elt F) (τ := τ) osem c ∗ unscopedSems0 c ∗ G In c)
      ⊢ |={Set.univ}=> iprop((bigSep Finset.univ fun i => iprop(∃ κ : ℕ, cellInv ER (Rd In) κ (kcell (c, i))))
          ∗ (bigSep Finset.univ fun i => iprop(atPos ER (kcell (c, i)) 0 ∅ 0 ∗ reached ER (kcell (c, i)) 0)) ∗ toks c) := by
  unfold G
  rw [osem_eq, bar_eq]
  iintro ⟨Hos, Hus, Hst, Hat, Htok⟩
  ihave Hv := (Entails.of_eq (cells19 (fun g => (semVal g 0 : sProp 𝕄)) c).symm) $$ [Hos Hus]
  · isplitl [Hus] <;> iassumption
  imod (show iprop((bigSep Finset.univ fun i : Fin 19 => semVal (kcell (c, i)) 0) ∗ bigSep Finset.univ fun i : Fin 19 => roundState ER (Rd In) (kcell (c, i)) 0)
      ⊢ (|={Set.univ}=> bigSep Finset.univ fun i => iprop(∃ κ : ℕ, cellInv ER (Rd In) κ (kcell (c, i))) : sProp 𝕄) from by
        rw [← bigSep_sep']
        exact (bigSep_mono fun i _ => (Rounds.body_intro ER (Rd In) (kcell (c, i))).trans inv_alloc).trans (bigSep_fupd _ _)) $$ [Hv Hst] with Hinv
  · isplitl [Hv] <;> iassumption
  imodintro
  isplitl [Hinv]; · iexact Hinv
  isplitl [Hat] <;> iassumption

/-- What the global step makes of it. -/
def G' : sProp 𝕄 := iprop(∃ K, records In K ∗ ats c ∗ payToks c)

theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem G'_intro : iprop(records In K ∗ ats c ∗ payToks c) ⊢ G' In c := by
  unfold G'; iintro H; iexists K; iexact H

theorem regroup :
    (bigSep Finset.univ fun c : Dev nD => iprop((bigSep Finset.univ fun i => iprop(∃ κ : ℕ, cellInv ER (Rd In) κ (kcell (c, i))))
          ∗ (bigSep Finset.univ fun i => iprop(atPos ER (kcell (c, i)) 0 ∅ 0 ∗ reached ER (kcell (c, i)) 0)) ∗ toks c) : sProp 𝕄)
      ⊢ bigSep Finset.univ (G' In) := by
  simp only [bigSep_sep']
  rw [← bigSep_univ_prod (fun ck : Dev nD × Fin 19 => iprop(∃ κ : ℕ, cellInv ER (Rd In) κ (kcell ck))),
    ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (Rd In) κ (kcell ck) : sProp 𝕄))) $$ HI
  icases HK with ⟨%K, #HI⟩
  ihave Htk := toks_deal $$ Htok
  iapply (with_records (R := records In K) fun c => G'_intro In K c)
  isplitr
  · unfold records; isplitl; · iexact HI
    iexact HR
  · iapply (BIBase.Entails.trans (Entails.of_eq (bigSep_sep' Finset.univ (fun c : Dev nD => bigSep Finset.univ fun i : Fin 19 => (atPos ER (kcell (c, i)) 0 ∅ 0 : sProp 𝕄)) payToks).symm)
      (bigSep_mono fun c _ => show iprop(_ ∗ payToks c) ⊢ iprop(ats c ∗ payToks c) from
        Entails.of_eq (by unfold ats; rw [cells19 (fun g => (atPos ER g 0 ∅ 0 : sProp 𝕄))])))
    isplitl [Hat] <;> iassumption

/-- The global step. -/
theorem glob : (bigSep Finset.univ fun c => iprop(Pipeline.ownSems0 (Ix := Unit) (Name := ℕ) (U := UU) (Lvl := ℕ) (Val := Elt F) (τ := τ) osem c ∗ unscopedSems0 c ∗ G In c) : sProp 𝕄)
    ⊢ |={Set.univ}=> bigSep Finset.univ (G' In) :=
  ((bigSep_mono fun c _ => core_alloc In c).trans (bigSep_fupd _ _)).trans (BI.fupd_mono (regroup In))

/-! ## The credits -/

theorem xs_inj : ∀ (a : Fin 6) (t : Fin 3) (a' : Fin 6) (t' : Fin 3), xs a t = xs a' t' → a = a' ∧ t = t' := by decide
theorem x_eq (c c' : Dev nD) (a a' : Fin 6) (t t' : Fin 3) : (xCell c a t = xCell c' a' t') ↔ (c = c' ∧ a = a' ∧ t = t') := by
  constructor
  · intro h
    have h1 : c = c' := congrArg (fun g : GSem nD τ sig => g.1.1) h
    have h2 : xs a t = xs a' t' := by
      have := congrArg Prod.snd h
      exact SemLoc.dma.inj this
    exact ⟨h1, xs_inj _ _ _ _ h2⟩
  · rintro ⟨rfl, rfl, rfl⟩; rfl
theorem x_bar (c c' : Dev nD) (a : Fin 6) (t : Fin 3) : Iff (xCell c a t = barCell c') False :=
  ⟨fun h => by { have := congrArg Prod.snd h; cases this }, False.elim⟩
theorem bar_x (c c' : Dev nD) (a : Fin 6) (t : Fin 3) : Iff (barCell c' = xCell c a t) False :=
  ⟨fun h => by { have := congrArg Prod.snd h; cases this }, False.elim⟩
theorem bar_bar (c c' : Dev nD) : (barCell c = barCell c') ↔ c = c' :=
  ⟨fun h => congrArg (fun g : GSem nD τ sig => g.1.1) h, fun h => h ▸ rfl⟩

/-- A sum over the devices of what one of them only owes. -/
theorem sum_one (e : Dev nD ≃ Dev nD) (n : ℕ) : (∑ d : Dev nD, if c = e d then n else 0) = n := by
  rw [Finset.sum_eq_single (e.symm c) (fun d _ h => if_neg fun h' => h (by rw [h', Equiv.symm_apply_apply])) (fun h => absurd (Finset.mem_univ _) h),
    if_pos (Equiv.apply_symm_apply e c).symm]

theorem owed_bar (d : Dev nD) : O₀ d (barCell c) () = (if c = ringE d then 1 else 0) + (if c = ringE.symm d then 1 else 0) := by
  simp [O₀, Ot, Og, Pi.add_apply, Finsupp.add_apply, tallyAt_apply, x_eq, x_bar, bar_x, bar_bar, ringE]
  rfl
theorem owed_acc (t : Fin 3) (d : Dev nD) : O₀ d (xCell c 1 t) () = if c = payE 1 t d then Na else 0 := by
  fin_cases t <;> simp [O₀, Ot, Og, Pi.add_apply, Finsupp.add_apply, tallyAt_apply, x_eq, x_bar, bar_x, bar_bar, payE, payTo]
theorem owed_ml (t : Fin 3) (d : Dev nD) : O₀ d (xCell c 3 t) () = if c = payE 3 t d then Nm else 0 := by
  fin_cases t <;> simp [O₀, Ot, Og, Pi.add_apply, Finsupp.add_apply, tallyAt_apply, x_eq, x_bar, bar_x, bar_bar, payE, payTo]
theorem owed_out (t : Fin 3) (d : Dev nD) : O₀ d (xCell c 5 t) () = if c = payE 5 t d then Na else 0 := by
  fin_cases t <;> simp [O₀, Ot, Og, Pi.add_apply, Finsupp.add_apply, tallyAt_apply, x_eq, x_bar, bar_x, bar_bar, payE, payTo]

theorem launch_of (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]
theorem launch_bar : tallyOn (barCell c) (launchCredit (Pipeline.owing O₀) 0 (barCell c)) = (tallyAt (barCell c) () 2 : CellTallies nD τ sig Unit) :=
  launch_of _ _ (by rw [Finset.sum_congr rfl fun d _ => owed_bar c d, Finset.sum_add_distrib, sum_one, sum_one])
theorem launch_acc (t : Fin 3) : tallyOn (xCell c 1 t) (launchCredit (Pipeline.owing O₀) 0 (xCell c 1 t)) = (tallyAt (xCell c 1 t) () Na : CellTallies nD τ sig Unit) :=
  launch_of _ _ (by rw [Finset.sum_congr rfl fun d _ => owed_acc c t d, sum_one])
theorem launch_ml (t : Fin 3) : tallyOn (xCell c 3 t) (launchCredit (Pipeline.owing O₀) 0 (xCell c 3 t)) = (tallyAt (xCell c 3 t) () Nm : CellTallies nD τ sig Unit) :=
  launch_of _ _ (by rw [Finset.sum_congr rfl fun d _ => owed_ml c t d, sum_one])
theorem launch_out (t : Fin 3) : tallyOn (xCell c 5 t) (launchCredit (Pipeline.owing O₀) 0 (xCell c 5 t)) = (tallyAt (xCell c 5 t) () Na : CellTallies nD τ sig Unit) :=
  launch_of _ _ (by rw [Finset.sum_congr rfl fun d _ => owed_out c t d, sum_one])

theorem entry_crd (Φ : Fin 6 → sProp 𝕄) : bigSep Finset.univ Φ ⊢ iprop(Φ 1 ∗ Φ 3 ∗ Φ 5) := by
  rw [six]
  iintro ⟨-, H1, -, H3, -, H5⟩
  isplitl [H1]; · iexact H1
  isplitl [H3] <;> iassumption

theorem creds : (Pipeline.launchCred O₀ c : sProp 𝕄) ⊢ crds c := by
  unfold Pipeline.launchCred crds
  refine BIBase.Entails.trans (bigSep_subset (Finset.subset_univ (Finset.univ.map ⟨csem, csem_inj⟩))) ?_
  rw [bigSep_map]
  refine BIBase.Entails.trans (Entails.of_eq (cells19 (fun g => (cred (tallyOn g (launchCredit (Pipeline.owing O₀) 0 g)) : sProp 𝕄)) c)) ?_
  refine BIClass.sep_mono (Entails.of_eq (by rw [launch_bar])) (bigSep_mono fun t _ => BIBase.Entails.trans (entry_crd _) (Entails.of_eq ?_))
  dsimp only
  rw [launch_acc, launch_ml, launch_out]

end Cert.KernelIdeal.Ring

end
-- ==== Proof.Run.lean ====
/-
  The kernel's run: the pipeline's one point runs every device's kernel; the result array ends at `outAll`, the
  arguments and every counter as they were.
-/
module

public import proofs.«01_k».proof.Proof.Ghost
public import proofs.«01_k».proof.Proof.Gen.KernelIdeal.Launch
public import proofs.«01_k».proof.Proof.Gen.KernelIdeal.Points
public import Idealize.ShloMosaic.Lib.Pipeline.Kit
public import Idealize.ShloMosaic.Lib.Pipeline.Value
public import Idealize.ShloMosaic.Lib.StableHlo.RunHlo
public import Idealize.ShloMosaic.Lib.Pipeline.CollectiveSegs
public import Idealize.ShloMosaic.Lib.Tactic

@[expose] public section

noncomputable section

namespace Cert.KernelIdeal.Ring

open Cert.KernelIdeal.Gen Cert.Blocks
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev EP : Emb (UR sig nD τ) (MT nD τ sig Unit (Elt F) ℕ UU ℕ) := embL

variable (m : (ℓ : Loc nD τ sig) → Buf (Elt F) ℓ) (ρ : Dev nD → PrngReg)

/-- The memory at launch. -/
def mem₀ : MemSt nD τ sig (Elt F) := ⟨m, fun _ => 0, ρ⟩

/-- A device's arguments. -/
def args (d : Dev nD) : Ins F where
  x := m ((d : Thread nD τ).loc main_arg0)
  wq := m ((d : Thread nD τ).loc main_arg1)
  wo := m ((d : Thread nD τ).loc main_arg4)
  k := m ((d : Thread nD τ).loc main_arg2)
  v := m ((d : Thread nD τ).loc main_arg3)

/-! ## The pipeline's proof data -/

def Φ₀ (c : Dev nD) : sProp 𝕄 := iprop((∃ K, ghost (args m) K c) ∗ scr c)
def Φ₁ (c : Dev nD) : sProp 𝕄 := iprop(scr c ∗ zeros c)

def dats (_ : Fin 1) (c : Dev nD) : Dat τ (Elt F) Unit ℕ UU ℕ cfg0 c where
  A w := (mem₀ m ρ).mem ((cfg0.win w).arr.view.loc (c : Thread nD τ))
  after w _ := match w with
    | ⟨0, _⟩ => (args m c).x
    | ⟨1, _⟩ => (args m c).wq
    | ⟨2, _⟩ => (args m c).wo
    | ⟨3, _⟩ => (args m c).k
    | ⟨4, _⟩ => (args m c).v
    | ⟨5, _⟩ => outAll (args m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem own_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## A window whose block is the whole array -/

theorem rect_emb (w : Fin cfg0.W) (t : Fin cfg0.N) (hz : ∀ a, (cfg0.win w).index t a = 0) (y : ((cfg0.win w).xblock (cfg0.grid.coords t)).Idx) (a) :
    (((cfg0.win w).rect t).emb y a : Nat) = y a := Pipeline.Window.rect_emb_val_of_index_zero (cfg0.win w) t a (hz a) y

section Before
variable (c : Dev nD)

theorem before_0 (d) : (dats m ρ 0 c).before (0 : Fin 6) t0_0 d = (args m c).x := by
  unfold Dat.before; rw [if_pos (fetch0_0 t0_0)]
  exact funext fun y => congrArg (m ((c : Thread nD τ).loc main_arg0)) (funext fun a => Fin.ext (rect_emb 0 t0_0 (fun _ => rfl) y a))
theorem before_1 (d) : (dats m ρ 0 c).before (1 : Fin 6) t0_0 d = (args m c).wq := by
  unfold Dat.before; rw [if_pos (fetch0_1 t0_0)]
  exact funext fun y => congrArg (m ((c : Thread nD τ).loc main_arg1)) (funext fun a => Fin.ext (rect_emb 1 t0_0 (fun _ => rfl) y a))
theorem before_2 (d) : (dats m ρ 0 c).before (2 : Fin 6) t0_0 d = (args m c).wo := by
  unfold Dat.before; rw [if_pos (fetch0_2 t0_0)]
  exact funext fun y => congrArg (m ((c : Thread nD τ).loc main_arg4)) (funext fun a => Fin.ext (rect_emb 2 t0_0 (fun _ => rfl) y a))
theorem before_3 (d) : (dats m ρ 0 c).before (3 : Fin 6) t0_0 d = (args m c).k := by
  unfold Dat.before; rw [if_pos (fetch0_3 t0_0)]
  exact funext fun y => congrArg (m ((c : Thread nD τ).loc main_arg2)) (funext fun a => Fin.ext (rect_emb 3 t0_0 (fun _ => rfl) y a))
theorem before_4 (d) : (dats m ρ 0 c).before (4 : Fin 6) t0_0 d = (args m c).v := by
  unfold Dat.before; rw [if_pos (fetch0_4 t0_0)]
  exact funext fun y => congrArg (m ((c : Thread nD τ).loc main_arg3)) (funext fun a => Fin.ext (rect_emb 4 t0_0 (fun _ => rfl) y a))

theorem read_out (X : Vec F S512x1024 .f32) (t : Fin cfg0.N) : ((cfg0.win 5).blk t).view.read (Elt F) X = X :=
  funext fun y => congrArg X (funext fun a => Fin.ext (rect_emb 5 t (fun _ => rfl) y a))

/-- The result array ends at the rows of all devices. -/
theorem result (c : Dev nD) : (dats m ρ 0 c).arrAt (5 : Fin 6) cfg0.N = outAll (args m) := by
  refine Dat.arrAt_eq_of_cover (dats m ρ 0 c) (5 : Fin 6) (outAll (args m)) (fun t _ => ?_) fun i => ⟨t0_0, flush0_5 t0_0, ?_⟩
  · exact (read_out (outAll (args m)) t).symm
  · have h := ((cfg0.win 5).blk t0_0).view.emb_mem_set i
    have e : ((cfg0.win 5).blk t0_0).view.emb i = i := funext fun a => Fin.ext (rect_emb 5 t0_0 (fun _ => rfl) i a)
    rwa [e] at h

end Before

/-! ## The body -/

def pre (c : Dev nD) : sProp 𝕄 :=
  iprop(Φ₀ m c ∗ (dats m ρ 0 c).owesAt () t0_0.castSucc
    ∗ (∃ d, own c bX ((dats m ρ 0 c).before (0 : Fin 6) t0_0 d)) ∗ (∃ d, own c bWq ((dats m ρ 0 c).before (1 : Fin 6) t0_0 d))
    ∗ (∃ d, own c bWo ((dats m ρ 0 c).before (2 : Fin 6) t0_0 d)) ∗ (∃ d, own c bK ((dats m ρ 0 c).before (3 : Fin 6) t0_0 d))
    ∗ (∃ d, own c bV ((dats m ρ 0 c).before (4 : Fin 6) t0_0 d)) ∗ (∃ d, own c bOut ((dats m ρ 0 c).before (5 : Fin 6) t0_0 d)))
def post (c : Dev nD) : sProp 𝕄 :=
  iprop(Φ₁ c ∗ (dats m ρ 0 c).owesAt () t0_0.succ ∗ own c bX (args m c).x ∗ own c bWq (args m c).wq
    ∗ own c bWo (args m c).wo ∗ own c bK (args m c).k ∗ own c bV (args m c).v ∗ own c bOut (outAll (args m)))

theorem owe_in (c : Dev nD) : (dats m ρ 0 c).owesAt () t0_0.castSucc ⊢ (Owe c (O₀ c) : sProp 𝕄) := by
  unfold Dat.owesAt Pipeline.owesWithin Owe
  iintro ⟨%W, %hW, HO⟩
  iexists W; iexact HO
theorem owe_out (c : Dev nD) : (Owe c 0 : sProp 𝕄) ⊢ (dats m ρ 0 c).owesAt () t0_0.succ := by
  unfold Dat.owesAt Pipeline.owesWithin Owe
  iintro ⟨%W, HO⟩
  iexists W
  isplitr; · ipureintro; exact fun _ _ => Or.inl trivial
  iexact HO

theorem wp_pre (c : Dev nD) : pre m ρ c ⊢ WP c (bodyAt c) (fun _ => post m ρ c) := by
  unfold pre Φ₀
  iintro ⟨⟨⟨%K, Hg⟩, Hs⟩, HO, ⟨%d0, H0⟩, ⟨%d1, H1⟩, ⟨%d2, H2⟩, ⟨%d3, H3⟩, ⟨%d4, H4⟩, ⟨%d5, H5⟩⟩
  rw [before_0, before_1, before_2, before_3, before_4]
  ihave HO := (owe_in m ρ c) $$ HO
  iapply (wp_body (args m) K c) $$ [Hg Hs HO H0 H1 H2 H3 H4 H5]
  · isplitl [Hg]; · iexact Hg
    isplitl [HO]; · iexact HO
    isplitl [H0 H1 H3 H4]
    · unfold insOwn
      isplitl [H0]; · iexact H0
      isplitl [H1]; · iexact H1
      isplitl [H3]; · iexact H3
      iexact H4
    isplitl [H2]; · iexact H2
    isplitl [H5]; · iexists _; iexact H5
    iexact Hs
  iintro ⟨HO, HI, HWo, Hout, Hs, Hz⟩
  unfold post Φ₁
  isplitl [Hs Hz]; · isplitl [Hs] <;> iassumption
  isplitl [HO]; · iapply (owe_out m ρ c); iexact HO
  unfold insOwn
  icases HI with ⟨H0, H1, H3, H4⟩
  isplitl [H0]; · iexact H0
  isplitl [H1]; · iexact H1
  isplitl [HWo]; · iexact HWo
  isplitl [H3]; · iexact H3
  isplitl [H4]; · iexact H4
  iexact Hout

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  show pre m ρ c ⊢ wp frame (wpE (defs₀ (F := F)) 𝒱₀ c none) Set.univ
    (cc0_body bX (Memref.isWhole_whole _) bWq (Memref.isWhole_whole _) bWo (Memref.isWhole_whole _) bK (Memref.isWhole_whole _) bV (Memref.isWhole_whole _)
      bOut (Memref.isWhole_whole _) bAcc (Memref.isWhole_whole _) bM (Memref.isWhole_whole _) bL (Memref.isWhole_whole _) bRsA (Memref.isWhole_whole _)
      bRsM (Memref.isWhole_whole _) bStg (Memref.isWhole_whole _) cc0_scratch6 cc0_scratch7 cc0_scratch8 cc0_scratch9 cc0_scratch10 cc0_scratch11) (fun _ => post m ρ c)
  rw [body_eq, show Prog.bind (Prog.lift .deviceId) (bodyAt (F := F)) = Prog.op .deviceId bodyAt from rfl, wp_deviceId]
  exact wp_pre m ρ c

/-! ## The launch -/

theorem ownSemFacts : Pipeline.OwnSemFacts cfg0.spec osem := by decide

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf ringCells ringToks)

/-- What a device's kernel starts from besides its buffers. -/
def start (c : Dev nD) : sProp 𝕄 := iprop(∃ K, ghost (args m) K c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (args m) c)
      ⊢ |={Set.univ}=> iprop(start m c ∗ emp) := by
  iintro ⟨-, Hlev, Hcr, -, HG⟩
  ihave Hc := (creds (F := F) c) $$ Hcr
  unfold G' start
  icases HG with ⟨%K, HR, Ha, Ht⟩
  imodintro
  isplitl
  · iexists K
    iapply (ghost_intro (args m) K c)
    isplitl [HR]; · iexact HR
    isplitl [Hlev]; · iexact Hlev
    isplitl [Ha]; · iexact Ha
    isplitl [Ht] <;> iassumption
  · iempintro

/-- A buffer whole, at any contents. -/
def held (c : Dev nD) (b : Ref sig .tc) : sProp 𝕄 := iprop(∃ f : Buf (Elt F) ((c : Thread nD τ).loc b), ((c : Thread nD τ).loc b) ↦{fullShare} f)

theorem own_exists (c : Dev nD) (b : Ref sig .tc) :
    (iprop(∃ X, owns (Ix := Unit) (Name := ℕ) (U := UU) (Lvl := ℕ) (c : Thread nD τ) (Memref.whole b) fullShare X) : sProp 𝕄) = held c b := by
  simp only [own_whole]
  have h : (iprop(∃ (X : b.ty.Contents (Elt F)) (f : Buf (Elt F) ((c : Thread nD τ).loc b)), ⌜f = X⌝ ∗ (((c : Thread nD τ).loc b) ↦{fullShare} f)) : sProp 𝕄)
      ⊢ held c b := by
    unfold held; iintro ⟨%X, %f, %_, H⟩; iexists f; iexact H
  have h' : (held c b : sProp 𝕄)
      ⊢ iprop(∃ (X : b.ty.Contents (Elt F)) (f : Buf (Elt F) ((c : Thread nD τ).loc b)), ⌜f = X⌝ ∗ (((c : Thread nD τ).loc b) ↦{fullShare} f)) := by
    unfold held; iintro ⟨%f, H⟩; iexists f; iexists f; isplitr; · ipureintro; rfl
    iexact H
  exact Entails.antisymm h h'

theorem scr_eq (c : Dev nD) : (scr c : sProp 𝕄) = Pipeline.scopedRest (Ix := Unit) (Name := ℕ) (U := UU) (Lvl := ℕ) (Val := Elt F) cfg0.spec c := by
  have e0 : (iprop(∃ A, own c bAcc A) : sProp 𝕄) = held c cc0_scratch0 := own_exists c cc0_scratch0
  have e1 : (iprop(∃ A, own c bM A) : sProp 𝕄) = held c cc0_scratch1 := own_exists c cc0_scratch1
  have e2 : (iprop(∃ A, own c bL A) : sProp 𝕄) = held c cc0_scratch2 := own_exists c cc0_scratch2
  have e3 : (iprop(∃ A, own c bRsA A) : sProp 𝕄) = held c cc0_scratch3 := own_exists c cc0_scratch3
  have e4 : (iprop(∃ A, own c bRsM A) : sProp 𝕄) = held c cc0_scratch4 := own_exists c cc0_scratch4
  have e5 : (iprop(∃ A, own c bStg A) : sProp 𝕄) = held c cc0_scratch5 := own_exists c cc0_scratch5
  rw [show Pipeline.scopedRest (Ix := Unit) (Name := ℕ) (U := UU) (Lvl := ℕ) (Val := Elt F) cfg0.spec c = _ from scopedRest0_eq c]
  unfold scr
  rw [e0, e1, e2, e3, e4, e5]
  unfold held
  with_reducible rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scr_eq]
  unfold Φ₀ start
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scr_eq]
  unfold Φ₁
  iintro ⟨Hr, Hz⟩
  ihave Hz := (zeros_out c) $$ Hz
  icases Hz with ⟨Hb, Ho⟩
  isplitl [Hb]; · iexact Hb
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait c _ (n := 0) (by fin_cases w <;> fin_cases s <;> decide) (by
      rcases t with ⟨_ | _, ht⟩
      · exact above_O₀ c
      · exact above_zero 0)

/-! ## The run -/

/-- What the run leaves: the result, the arguments, the counters. -/
def Final (r : PUnit × MemSt nD τ sig (Elt F)) : Prop :=
  (∀ c : Dev nD, r.2.mem ((c.tc : Thread nD τ).loc main_v1) = outAll (args m)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
  ∧ r.2.sem = fun _ => 0

def Arrays (r : PUnit × MemSt nD τ sig (Elt F)) : Prop :=
  ∀ c : Dev nD, ∀ w : Fin cfg0.W, r.2.mem ((cfg0.win w).arr.view.loc (c : Thread nD τ)) = (dats m ρ 0 c).arrAt w cfg0.N

theorem final_of (r : PUnit × MemSt nD τ sig (Elt F)) (h : Arrays m ρ r) (hs : r.2.sem = fun _ => 0) : Final m r :=
  ⟨fun c => ⟨(h c 5).trans (result m ρ c), (h c 0).trans ((dats (F := F) m ρ 0 c).arrAt_in (0 : Fin 6) rfl _),
    (h c 1).trans ((dats (F := F) m ρ 0 c).arrAt_in (1 : Fin 6) rfl _), (h c 3).trans ((dats (F := F) m ρ 0 c).arrAt_in (3 : Fin 6) rfl _),
    (h c 4).trans ((dats (F := F) m ρ 0 c).arrAt_in (4 : Fin 6) rfl _), (h c 2).trans ((dats (F := F) m ρ 0 c).arrAt_in (2 : Fin 6) rfl _)⟩, hs⟩

set_option maxRecDepth 8000 in
/-- Every weakly fair execution of @main terminates, the result array at `outAll`, the arguments kept, the counters at zero. -/
theorem run_main : θ_run defs (onTc (τ := τ) (main (F := F))) (mem₀ m ρ) (Final m) :=
  (θ_run_mono (Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (args m)) (G' := G' (args m)) (u₀ := u₀)
    (hu₀ := by
      unfold u₀
      iintro Hu
      ihave H := (ownU_pair _ _) $$ Hu
      icases H with ⟨HP, HX⟩
      imod (fund_ring (args m)) $$ HX with HG
      imodintro
      isplitl [HP] <;> iassumption)
    (hglob := glob (args m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (Q := fun r => Arrays m ρ r ∧ r.2.sem = fun _ => 0)
    (hQ := fun _ h hs => ⟨fun c w => (h c).1 w, sem_eq_zero hs fun c => (h c).2.2⟩)) fun r h => final_of m ρ r h.1 h.2)

end Cert.KernelIdeal.Ring

end
-- ==== Proof.Same.lean ====
/-
  The kernel and its idealization are one program text but for the scale, which the second names, each over a
  signature of its own. The two signatures are equal, and where the name is read as the literal's word, so are the
  programs.
-/
module

public import proofs.«01_k».proof.Kernel
public import proofs.«01_k».proof.Proof.Gen.Kernel
public import proofs.«01_k».proof.Proof.Run

@[expose] public section

noncomputable section

namespace Cert.KernelIdeal.Ring

open Idealize.ShloMosaic

local instance : Cert.Kernel.Facts := Cert.Kernel.Gen.facts
local instance : Cert.KernelIdeal.Facts := Cert.KernelIdeal.Gen.facts

variable {F : FTy → Type} [FloatOps F]

/-- The reading of the named constant as the literal's own word, which is how the kernel has it. -/
local instance literal : Named F := ⟨fun _ _ φ b => FloatOps.ofBits φ b⟩

/-- The tables of kernel bodies are equal. -/
theorem table_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl

theorem defs_same : Cert.Kernel.defs (F := F) = Cert.KernelIdeal.defs (F := F) :=
  congrArg (Pipeline.defs (Cert.KernelIdeal.pcfgs (F := F))) table_same

/-- The runs are equal. -/
theorem run_same : θ_run (Cert.Kernel.defs (F := F)) (onTc (τ := Cert.Kernel.τ) (Cert.Kernel.main (F := F)))
    = θ_run (Cert.KernelIdeal.defs (F := F)) (onTc (τ := Cert.KernelIdeal.τ) (Cert.KernelIdeal.main (F := F))) :=
  congrArg (fun d => θ_run d (onTc (τ := Cert.KernelIdeal.τ) (Cert.KernelIdeal.main (F := F)))) defs_same

end Cert.KernelIdeal.Ring

end
-- ==== Proof.Online.lean ====
/-
  Softmax sums taken in parts. Of a set of keys with real scores `s` and extended real values `v`: the maximum score,
  the sum of the weights `exp (s - m)` below it, and the weighted sum of the values (`Soft`). Two parts' triples make
  their union's (`Soft.merge`), a chunk of keys is taken in at once (`Soft.chunk`), and the reciprocal of the sum of
  weights scales as the division does (`Soft.scale`).
-/
module

public import Idealize.ShloMosaic.PureOps.Ideal.Laws
public import Mathlib.Data.Finset.Lattice.Fold

@[expose] public section

noncomputable section

namespace Cert.Soft

open Idealize.ShloMosaic
open scoped BigOperators

/-! ## Extended reals -/

theorem exp_nonneg (x : EReal) : 0 ≤ Ideal.exp x := by
  induction x with
  | bot => exact le_refl 0
  | top => exact le_top
  | coe r => exact EReal.coe_nonneg.mpr (Real.exp_pos r).le

theorem exp_sub_coe (a b : ℝ) : Ideal.exp ((a : EReal) - (b : EReal)) = ((Real.exp (a - b) : ℝ) : EReal) := by
  rw [← EReal.coe_sub]; rfl

/-- A sum times a real that is not negative. -/
theorem sum_mul_real {ι : Type*} (S : Finset ι) (f : ι → EReal) (r : ℝ) (hr : 0 ≤ r) :
    (∑ i ∈ S, f i) * (r : EReal) = ∑ i ∈ S, f i * (r : EReal) := by
  classical
  induction S using Finset.induction_on with
  | empty => simp
  | insert i S hi ih =>
    rw [Finset.sum_insert hi, Finset.sum_insert hi, ← ih]
    exact EReal.right_distrib_of_nonneg_of_ne_top (EReal.coe_nonneg.mpr hr) (EReal.coe_ne_top r) _ _

/-- An extended real that is a real. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩

theorem IsReal.add {x y : EReal} : IsReal x → IsReal y → IsReal (x + y) := by
  rintro ⟨a, rfl⟩ ⟨b, rfl⟩; exact ⟨a + b, (EReal.coe_add a b).symm⟩

theorem IsReal.sum {ι : Type*} (S : Finset ι) (f : ι → EReal) (h : ∀ i, IsReal (f i)) : IsReal (∑ i ∈ S, f i) := by
  classical
  induction S using Finset.induction_on with
  | empty => exact ⟨0, by simp⟩
  | insert i S hi ih => rw [Finset.sum_insert hi]; exact (h i).add ih

theorem isReal_of_ne {x : EReal} (h : x ≠ ⊤) (h' : x ≠ ⊥) : IsReal x := ⟨x.toReal, (EReal.coe_toReal h h').symm⟩

/-! ## A set of keys -/

variable {J : Type*}

/-- The greatest score of a set of keys. -/
def top (s : J → ℝ) (S : Finset J) : EReal := S.sup fun j => (s j : EReal)

theorem top_real (s : J → ℝ) {S : Finset J} (h : S.Nonempty) : ∃ r : ℝ, top s S = (r : EReal) := by
  obtain ⟨j, -, hj⟩ := Finset.exists_mem_eq_sup S h fun j => (s j : EReal)
  exact ⟨s j, hj⟩

/-- The sum of the weights below `m`, each times `w`. -/
def wsum (s : J → ℝ) (w : J → EReal) (S : Finset J) (m : EReal) : EReal :=
  ∑ j ∈ S, Ideal.exp ((s j : EReal) - m) * w j

/-- The weights below a set's own maximum, scaled, are those below any other real. -/
theorem wsum_scale (s : J → ℝ) (w : J → EReal) (S : Finset J) (m : ℝ) :
    wsum s w S (top s S) * Ideal.exp (top s S - (m : EReal)) = wsum s w S m := by
  rcases S.eq_empty_or_nonempty with rfl | hS
  · simp [wsum]
  obtain ⟨r, hr⟩ := top_real s hS
  unfold wsum
  rw [hr, exp_sub_coe, sum_mul_real _ _ _ (Real.exp_pos _).le]
  refine Finset.sum_congr rfl fun j _ => ?_
  rw [exp_sub_coe, exp_sub_coe, mul_right_comm, ← EReal.coe_mul, ← Real.exp_add, sub_add_sub_cancel]

/-- The triple of a set of keys: maximum, sum of weights, weighted sum of values. -/
structure Soft (s : J → ℝ) (v : J → EReal) (S : Finset J) (m l a : EReal) : Prop where
  m_eq : m = top s S
  l_eq : l = wsum s (fun _ => 1) S m
  a_eq : a = wsum s v S m

variable {s : J → ℝ} {v : J → EReal}

/-- No keys. -/
theorem Soft.empty : Soft s v ∅ ⊥ 0 0 := ⟨by simp [top], by simp [wsum], by simp [wsum]⟩

variable [DecidableEq J]

theorem top_union (S T : Finset J) : top s (S ∪ T) = max (top s S) (top s T) := Finset.sup_union

theorem wsum_union (w : J → EReal) {S T : Finset J} (h : Disjoint S T) (m : EReal) :
    wsum s w (S ∪ T) m = wsum s w S m + wsum s w T m := Finset.sum_union h

/-- A chunk of keys is taken in: the earlier sums are scaled to the new maximum, the chunk's weights are below it. -/
theorem Soft.chunk {S T : Finset J} {m l a : EReal} (h : Soft s v S m l a) (hd : Disjoint S T) (hT : T.Nonempty) :
    Soft s v (S ∪ T) (max m (top s T)) (l * Ideal.exp (m - max m (top s T)) + wsum s (fun _ => 1) T (max m (top s T)))
      (a * Ideal.exp (m - max m (top s T)) + wsum s v T (max m (top s T))) := by
  obtain ⟨rfl, rfl, rfl⟩ := h
  rw [← top_union]
  obtain ⟨r, hr⟩ := top_real s (hT.mono Finset.subset_union_right : (S ∪ T).Nonempty)
  refine ⟨rfl, ?_, ?_⟩ <;> rw [hr, wsum_scale, wsum_union _ hd]

/-- Two parts make their union. -/
theorem Soft.merge {S T : Finset J} {m l a m' l' a' : EReal} (h : Soft s v S m l a) (h' : Soft s v T m' l' a')
    (hd : Disjoint S T) (hT : T.Nonempty) :
    Soft s v (S ∪ T) (max m m') (l * Ideal.exp (m - max m m') + l' * Ideal.exp (m' - max m m'))
      (a * Ideal.exp (m - max m m') + a' * Ideal.exp (m' - max m m')) := by
  obtain ⟨rfl, rfl, rfl⟩ := h
  obtain ⟨rfl, rfl, rfl⟩ := h'
  rw [← top_union]
  obtain ⟨r, hr⟩ := top_real s (hT.mono Finset.subset_union_right : (S ∪ T).Nonempty)
  refine ⟨rfl, ?_, ?_⟩ <;> rw [hr, wsum_scale, wsum_scale, wsum_union _ hd]

/-- The sum of weights of some keys is a positive real, so to multiply by its reciprocal is to divide. -/
theorem Soft.scale {S : Finset J} {m l a : EReal} (h : Soft s v S m l a) (hS : S.Nonempty) (x : EReal) :
    x * Ideal.div 1 l = Ideal.div x l := by
  obtain ⟨rfl, rfl, -⟩ := h
  have hne : wsum s (fun _ => 1) S (top s S) ≠ 0 := by
    obtain ⟨r, hr⟩ := top_real s hS
    obtain ⟨j, hj⟩ := hS
    have h1 : (0 : EReal) < Ideal.exp ((s j : EReal) - (r : EReal)) * 1 := by
      rw [mul_one, exp_sub_coe]; exact EReal.coe_pos.mpr (Real.exp_pos _)
    rw [hr]
    refine ne_of_gt (lt_of_lt_of_le h1 ?_)
    exact Finset.single_le_sum (f := fun j => Ideal.exp ((s j : EReal) - (r : EReal)) * 1)
      (fun i _ => by rw [mul_one]; exact exp_nonneg _) hj
  simp only [Ideal.div, if_neg hne, one_mul]

end Cert.Soft

end
-- ==== Proof.HeadVal.lean ====
/-
  A head's pass over the device's keys, over the extended reals: every array of the pass read at an index, and its
  maximum, sum of weights and weighted sum of values as those of the keys taken in (`head_soft`).
-/
module

public import proofs.«01_k».proof.Proof.Spec
public import proofs.«01_k».proof.Proof.Online
public import Idealize.ShloMosaic.Lib.Pointwise
public import Idealize.ShloMosaic.Lib.IdealHost

@[expose] public section

noncomputable section

namespace Cert.KernelIdeal.Ring

open Idealize.ShloMosaic Idealize.SL.Sem Cert.KernelIdeal.Gen Cert.Soft
open scoped BigOperators

/-! ## Constants -/

theorem bits_bot : Ideal.ofBits .f32 0xFF800000#32 = ⊥ := by simp [Ideal.ofBits, Ideal.ieee]
theorem bits_top : Ideal.ofBits .f32 0x7F800000#32 = ⊤ := by simp [Ideal.ofBits, Ideal.ieee]

/-- The scores' scale, the inverse root of a head's 128 columns. -/
def scale : EReal := (((Real.sqrt 128)⁻¹ : ℝ) : EReal)

/-- The kernel's named literal is the scale. -/
theorem named_scale : Named.named (F := Ideal) κ "scale" (φ := .f32) 0x3DB504F3#32 = scale := rfl
theorem real_scale : IsReal scale := ⟨_, rfl⟩

/-! ## The arrays at an index -/

theorem qMat_apply (x : Vec Ideal S128x1024 .f32) (w : Vec Ideal S1024x1024 .f32) (r : Fin 128) (c : Fin 1024) :
    qMat (F := Ideal) x w (ix2 r c) = ∑ k : Fin 1024, x (ix2 r k) * w (ix2 k c) := by
  pointwise [qMat]

theorem qHead_apply (q : FVec Ideal S128x1024 .f32) (h : Fin 8) (r d : Fin 128) :
    qHead (F := Ideal) q h (ix2 r d) = q (ix2 r ⟨128 * h.val + d.val, by omega⟩) := by
  fin_cases h <;> pointwise [qHead]

theorem hScore_apply (q : FVec Ideal S128x128 .f32) (k : Vec Ideal S1024x1x128 .f32) (r : Fin 128) (t : Fin 1024) :
    hScore (F := Ideal) q k (ix2 r t) = (∑ d : Fin 128, q (ix2 r d) * k (ix3 t 0 d)) * scale := by
  pointwise [hScore]
  rw [named_scale]

theorem hMax_apply (q : FVec Ideal S128x128 .f32) (k : Vec Ideal S1024x1x128 .f32) (m : FVec Ideal S128x1 .f32) (r : Fin 128) :
    hMax (F := Ideal) q k m (ix2 r 0)
      = max (m (ix2 r 0)) ((Finset.univ : Finset (Fin 1024)).sup fun t => hScore (F := Ideal) q k (ix2 r t)) := by
  pointwise [hMax]
  rw [bits_bot]; rfl

theorem hSum_apply (q : FVec Ideal S128x128 .f32) (k : Vec Ideal S1024x1x128 .f32) (m l : FVec Ideal S128x1 .f32) (r : Fin 128) :
    hSum (F := Ideal) q k m l (ix2 r 0)
      = l (ix2 r 0) * Ideal.exp (m (ix2 r 0) - hMax (F := Ideal) q k m (ix2 r 0))
        + ∑ t : Fin 1024, Ideal.exp (hScore (F := Ideal) q k (ix2 r t) - hMax (F := Ideal) q k m (ix2 r 0)) := by
  pointwise [hSum, hCor, hWt]

theorem hAcc_apply (q : FVec Ideal S128x128 .f32) (k v : Vec Ideal S1024x1x128 .f32) (m : FVec Ideal S128x1 .f32)
    (a : Vec Ideal S128x128 .f32) (r d : Fin 128) :
    hAcc (F := Ideal) q k v m a (ix2 r d)
      = a (ix2 r d) * Ideal.exp (m (ix2 r 0) - hMax (F := Ideal) q k m (ix2 r 0))
        + ∑ t : Fin 1024, Ideal.exp (hScore (F := Ideal) q k (ix2 r t) - hMax (F := Ideal) q k m (ix2 r 0)) * v (ix3 t 0 d) := by
  pointwise [hAcc, hCor, hWt]

theorem kAt_apply (kf : Vec Ideal S2048x8x128 .f32) (h : Fin 8) (n : Fin 2) (t : Fin 1024) (d : Fin 128) :
    kAt (F := Ideal) kf h n.val (ix3 t 0 d) = kf (ix3 ⟨1024 * n.val + t.val, by omega⟩ h d) := by
  rw [ix3_eq_valueIdx, ix3_eq_valueIdx]
  unfold kAt
  congr 2
  exact Fin.ext (Nat.mod_eq_of_lt (by have := n.isLt; have := t.isLt; show 1024 * n.val + t.val < 2048; omega))

/-! ## The keys -/

/-- A key: its device, its chunk there, its place in the chunk. -/
abbrev Key : Type := (Fin 4 × Fin 2) × Fin 1024

/-- The keys of some chunks. -/
def keysOf (G : Finset (Fin 4 × Fin 2)) : Finset Key := G ×ˢ Finset.univ

theorem keysOf_union (G H : Finset (Fin 4 × Fin 2)) : keysOf (G ∪ H) = keysOf G ∪ keysOf H := Finset.union_product

theorem keysOf_disjoint {G H : Finset (Fin 4 × Fin 2)} (h : Disjoint G H) : Disjoint (keysOf G) (keysOf H) :=
  Finset.disjoint_product.mpr (.inl h)

theorem keysOf_nonempty {G : Finset (Fin 4 × Fin 2)} (h : G.Nonempty) : (keysOf G).Nonempty :=
  h.product Finset.univ_nonempty

theorem top_chunk (s : Key → ℝ) (g : Fin 4 × Fin 2) :
    top s (keysOf {g}) = (Finset.univ : Finset (Fin 1024)).sup fun t => (s (g, t) : EReal) := by
  unfold top keysOf
  rw [Finset.sup_product_left, Finset.sup_singleton]

theorem wsum_chunk (s : Key → ℝ) (w : Key → EReal) (g : Fin 4 × Fin 2) (m : EReal) :
    wsum s w (keysOf {g}) m = ∑ t : Fin 1024, Ideal.exp ((s (g, t) : EReal) - m) * w (g, t) := by
  unfold wsum keysOf
  rw [Finset.sum_product, Finset.sum_singleton]

/-! ## A head's pass -/

/-- A chunk is taken in. -/
theorem chunk_soft (q : FVec Ideal S128x128 .f32) (k v : Vec Ideal S1024x1x128 .f32) (st : HSt Ideal)
    (s : Key → ℝ) (w : Key → EReal) (G : Finset (Fin 4 × Fin 2)) (g : Fin 4 × Fin 2) (hg : g ∉ G) (r d : Fin 128)
    (hs : ∀ t, hScore (F := Ideal) q k (ix2 r t) = (s (g, t) : EReal)) (hw : ∀ t, v (ix3 t 0 d) = w (g, t))
    (h : Soft s w (keysOf G) (st.m (ix2 r 0)) (st.l (ix2 r 0)) (st.a (ix2 r d))) :
    Soft s w (keysOf (G ∪ {g})) (hMax (F := Ideal) q k st.m (ix2 r 0)) (hSum (F := Ideal) q k st.m st.l (ix2 r 0))
      (hAcc (F := Ideal) q k v st.m st.a (ix2 r d)) := by
  have hm : hMax (F := Ideal) q k st.m (ix2 r 0) = max (st.m (ix2 r 0)) (top s (keysOf {g})) := by
    rw [hMax_apply, top_chunk]; simp only [hs]
  have hl := hSum_apply q k st.m st.l r
  have ha := hAcc_apply q k v st.m st.a r d
  have key := h.chunk (keysOf_disjoint (Finset.disjoint_singleton_right.mpr hg)) (keysOf_nonempty (Finset.singleton_nonempty g))
  rw [hl, ha, keysOf_union, hm]
  rw [wsum_chunk, wsum_chunk] at key
  simpa only [hs, hw, mul_one] using key

/-- After both chunks of device `c`, a head's triple is that of the device's keys. -/
theorem head_soft (q : FVec Ideal S128x128 .f32) (kf vf : Vec Ideal S2048x8x128 .f32) (h : Fin 8) (c : Fin 4)
    (s : Key → ℝ) (w : Key → EReal) (r d : Fin 128)
    (hs : ∀ (n : Fin 2) t, hScore (F := Ideal) q (kAt kf h n.val) (ix2 r t) = (s ((c, n), t) : EReal))
    (hw : ∀ (n : Fin 2) (t : Fin 1024), vf (ix3 ⟨1024 * n.val + t.val, by omega⟩ h d) = w ((c, n), t)) :
    Soft s w (keysOf {(c, 0), (c, 1)}) ((headSt (F := Ideal) q kf vf h 2).m (ix2 r 0)) ((headSt (F := Ideal) q kf vf h 2).l (ix2 r 0))
      ((headSt (F := Ideal) q kf vf h 2).a (ix2 r d)) := by
  have h0 : Soft s w (keysOf ∅) ((headSt (F := Ideal) q kf vf h 0).m (ix2 r 0)) ((headSt (F := Ideal) q kf vf h 0).l (ix2 r 0))
      ((headSt (F := Ideal) q kf vf h 0).a (ix2 r d)) := by
    have e : keysOf ∅ = ∅ := Finset.empty_product _
    have hm : (headSt (F := Ideal) q kf vf h 0).m (ix2 r 0) = ⊥ := bits_bot
    have hl : (headSt (F := Ideal) q kf vf h 0).l (ix2 r 0) = 0 := Ideal.ofBits_zero_f32
    have ha : (headSt (F := Ideal) q kf vf h 0).a (ix2 r d) = 0 := Ideal.ofBits_zero_f32
    rw [e, hm, hl, ha]
    exact Soft.empty
  have h1 := chunk_soft q (kAt kf h (0 : Fin 2).val) (kAt vf h (0 : Fin 2).val) _ s w ∅ (c, 0) (Finset.notMem_empty _) r d (hs 0)
    (fun t => (kAt_apply vf h 0 t d).trans (hw 0 t)) h0
  exact chunk_soft q (kAt kf h (1 : Fin 2).val) (kAt vf h (1 : Fin 2).val) _ s w (∅ ∪ {(c, 0)}) (c, 1)
    (by simp) r d (hs 1)
    (fun t => (kAt_apply vf h 1 t d).trans (hw 1 t)) h1

end Cert.KernelIdeal.Ring

end
-- ==== Proof.RingVal.lean ====
/-
  A ring step's merge and the output projection, over the extended reals: each array read at an index.
-/
module

public import proofs.«01_k».proof.Proof.HeadVal

@[expose] public section

noncomputable section

namespace Cert.KernelIdeal.Ring

open Idealize.ShloMosaic Idealize.SL.Sem Cert.KernelIdeal.Gen Cert.Soft
open scoped BigOperators

/-- The word of a column's head, as the kernel computes it. -/
theorem headWord : ∀ c : Fin 1024,
    Scalar.select
      (IntOp.andi
        (IntOp.cmpi CmpIPredicate.ne
          (IntOp.subi (BitVec.setWidth 32 (IntOp.cmpi CmpIPredicate.sgt (BitVec.ofNat 32 c.val) 0#32))
            (BitVec.setWidth 32 (IntOp.cmpi CmpIPredicate.slt (BitVec.ofNat 32 c.val) 0#32)))
          (Scalar.subi (Scalar.extui (Scalar.cmpi CmpIPredicate.sgt 128#32 0#32))
            (Scalar.extui (Scalar.cmpi CmpIPredicate.slt 128#32 0#32))))
        (IntOp.cmpi CmpIPredicate.ne (IntOp.remsi ArithUnit.vector (BitVec.ofNat 32 c.val) 128#32) 0#32))
      (IntOp.subi (IntOp.divsi ArithUnit.vector (BitVec.ofNat 32 c.val) 128#32) 1#32)
      (IntOp.divsi ArithUnit.vector (BitVec.ofNat 32 c.val) 128#32) = BitVec.ofNat 32 (c.val / 128) := by
  decide +kernel

theorem selectWord : ∀ a b : Fin 8,
    IntOp.cmpi CmpIPredicate.eq (BitVec.ofNat 32 a.val) (BitVec.ofNat 32 b.val) = if a.val = b.val then 1#1 else 0#1 := by
  decide +kernel

/-- The head selector is one where the row is the column's head, else zero. -/
theorem eMat_apply (h : Fin 8) (c : Fin 1024) :
    eMat (F := Ideal) (ix2 h c) = if c.val / 128 = h.val then 1 else 0 := by
  pointwise [eMat]
  rw [headWord, selectWord ⟨c.val / 128, by omega⟩ h]
  by_cases e : c.val / 128 = h.val
  · rw [if_pos e, if_pos e]; rfl
  · rw [if_neg e, if_neg e]; rfl

theorem gMax_apply (m0 m1 : Vec Ideal S128x8 .f32) (r : Fin 128) (h : Fin 8) :
    gMax (F := Ideal) m0 (withUnitM m1) (ix2 r h) = max (m0 (ix2 r h)) (m1 (ix2 r h)) := by
  pointwise [gMax, withUnitM]

theorem gSum_apply (m0 l0 m1 l1 : Vec Ideal S128x8 .f32) (r : Fin 128) (h : Fin 8) :
    gSum (F := Ideal) m0 l0 (withUnitM m1) (withUnitM l1) (ix2 r h)
      = l0 (ix2 r h) * Ideal.exp (m0 (ix2 r h) - max (m0 (ix2 r h)) (m1 (ix2 r h)))
        + l1 (ix2 r h) * Ideal.exp (m1 (ix2 r h) - max (m0 (ix2 r h)) (m1 (ix2 r h))) := by
  pointwise [gSum, gA, gB, gMax, withUnitM]

theorem spread_apply (g : FVec Ideal S128x8 .f32) (r : Fin 128) (h : Fin 8) (d : Fin 128) :
    spread (F := Ideal) g (ix2 r ⟨128 * h.val + d.val, by omega⟩) = g (ix2 r h) := by
  pointwise [spread]
  simp only [eMat_apply]
  rw [Finset.sum_eq_single h]
  · rw [if_pos (by show (128 * h.val + d.val) / 128 = h.val; omega), mul_one]
  · intro k _ hk
    rw [if_neg (by show ¬ (128 * h.val + d.val) / 128 = k.val; intro e; exact hk (Fin.ext (by omega))), mul_zero]
  · intro hh; exact absurd (Finset.mem_univ _) hh

theorem gAcc_apply (m0 m1 : Vec Ideal S128x8 .f32) (a0 a1 : Vec Ideal S128x1024 .f32) (r : Fin 128) (h : Fin 8) (d : Fin 128) :
    gAcc (F := Ideal) m0 (withUnitM m1) a0 (withUnitA a1) (ix2 r ⟨128 * h.val + d.val, by omega⟩)
      = a0 (ix2 r ⟨128 * h.val + d.val, by omega⟩) * Ideal.exp (m0 (ix2 r h) - max (m0 (ix2 r h)) (m1 (ix2 r h)))
        + a1 (ix2 r ⟨128 * h.val + d.val, by omega⟩) * Ideal.exp (m1 (ix2 r h) - max (m0 (ix2 r h)) (m1 (ix2 r h))) := by
  pointwise [gAcc, withUnitA]
  rw [spread_apply, spread_apply]
  pointwise [gA, gB, gMax, withUnitM]

theorem outRows_apply (l : Vec Ideal S128x8 .f32) (a : Vec Ideal S128x1024 .f32) (wo : Vec Ideal S1024x1024 .f32) (r : Fin 128) (c : Fin 1024) :
    outRows (F := Ideal) l a wo (ix2 r c)
      = ∑ k : Fin 1024, a (ix2 r k) * Ideal.div 1 (l (ix2 r ⟨k.val / 128, by omega⟩)) * wo (ix2 k c) := by
  pointwise [outRows]
  refine Finset.sum_congr rfl fun k _ => ?_
  have e : k = ⟨128 * (⟨k.val / 128, by omega⟩ : Fin 8).val + (⟨k.val % 128, by omega⟩ : Fin 128).val, by
    show 128 * (k.val / 128) + k.val % 128 < 1024; omega⟩ := Fin.ext (Nat.div_add_mod _ _).symm
  have hs := spread_apply (divf (φ := .f32) (broadcast S128x8 (1 : Ideal .f32)) l) r ⟨k.val / 128, by omega⟩ ⟨k.val % 128, by omega⟩
  rw [← e] at hs
  rw [hs]
  pointwise

end Cert.KernelIdeal.Ring

end
-- ==== Proof.RingSoft.lean ====
/-
  The kernel's output rows are attention: each entry is the row's softmax average of the values over the keys of all
  four devices, projected (`outAll_apply`).
-/
module

public import proofs.«01_k».proof.Proof.RingVal

@[expose] public section

noncomputable section

namespace Cert.KernelIdeal.Ring

open Idealize.ShloMosaic Idealize.SL.Sem Cert.KernelIdeal.Gen Cert.Soft
open scoped BigOperators

/-! ## Attention, by keys -/

/-- Column `d` of head `h`. -/
abbrev colOf (h : Fin 8) (d : Fin 128) : Fin 1024 := ⟨128 * h.val + d.val, by omega⟩

/-- A key's row in its device's block. -/
abbrev rowIn (j : Key) : Fin 2048 := ⟨1024 * j.1.2.val + j.2.val, by have := j.1.2.isLt; have := j.2.isLt; omega⟩

/-- Row `r` of block `b`. -/
abbrev rowAt (b : Fin 4) (r : Fin 128) : Fin 512 := ⟨128 * b.val + r.val, by omega⟩

/-- The score of query row `i` of head `h` against a key. -/
def score (In : Dev nD → Ins Ideal) (i : Fin 512) (h : Fin 8) (j : Key) : EReal :=
  (∑ d : Fin 128, (∑ k : Fin 1024, (In j.1.1).x (ix2 i k) * (In j.1.1).wq (ix2 k (colOf h d))) * (In j.1.1).k (ix3 (rowIn j) h d)) * scale

/-- A key's value. -/
def value (In : Dev nD → Ins Ideal) (h : Fin 8) (d : Fin 128) (j : Key) : EReal := (In j.1.1).v (ix3 (rowIn j) h d)

/-- The softmax average of the values, of extended real scores. -/
def average {J : Type} [Fintype J] (s v : J → EReal) : EReal :=
  Ideal.div (∑ j : J, Ideal.exp (s j - Finset.univ.sup s) * v j) (∑ j : J, Ideal.exp (s j - Finset.univ.sup s))

/-- Devices whose scores are real. -/
def RealScores (In : Dev nD → Ins Ideal) : Prop := ∀ i h j, IsReal (score In i h j)

variable {In : Dev nD → Ins Ideal}

/-! ## A device's pass -/

theorem queries_apply (x : Vec Ideal S512x1024 .f32) (wq : Vec Ideal S1024x1024 .f32) (b : Fin 4) (h : Fin 8) (r d : Fin 128) :
    qHead (F := Ideal) (qMat (rowsB x b) wq) h (ix2 r d) = ∑ k : Fin 1024, x (ix2 (rowAt b r) k) * wq (ix2 k (colOf h d)) := by
  rw [qHead_apply, qMat_apply]
  refine Finset.sum_congr rfl fun k _ => ?_
  congr 1

theorem scores_apply (c : Dev nD) (b : Fin 4) (h : Fin 8) (r : Fin 128) (n : Fin 2) (t : Fin 1024) :
    hScore (F := Ideal) (qHead (qMat (rowsB (In c).x b) (In c).wq) h) (kAt (In c).k h n.val) (ix2 r t)
      = score In (rowAt b r) h ((c, n), t) := by
  rw [hScore_apply]
  simp only [queries_apply, kAt_apply]
  rfl

theorem hdOf_col (r : Fin 128) (h : Fin 8) (d : Fin 128) : hdOf (ix2 r (colOf h d)) = h :=
  Fin.ext (by show (128 * h.val + d.val) / 128 = h.val; omega)

theorem cA_apply (q : FVec Ideal S128x1024 .f32) (kf vf : Vec Ideal S2048x8x128 .f32) (r : Fin 128) (h : Fin 8) (d : Fin 128) :
    cA (F := Ideal) q kf vf (ix2 r (colOf h d)) = (headSt (qHead q h) kf vf h 2).a (ix2 r d) := by
  unfold cA
  rw [hdOf_col, ix2_eq_valueIdx r d]
  congr 2
  exact Fin.ext (by show (128 * h.val + d.val) % 128 = d.val; omega)

theorem cM_apply (q : FVec Ideal S128x1024 .f32) (kf vf : Vec Ideal S2048x8x128 .f32) (r : Fin 128) (h : Fin 8) :
    cM (F := Ideal) q kf vf (ix2 r h) = (headSt (qHead q h) kf vf h 2).m (ix2 r 0) := by
  rw [ix2_eq_valueIdx r 0]; rfl

theorem cL_apply (q : FVec Ideal S128x1024 .f32) (kf vf : Vec Ideal S2048x8x128 .f32) (r : Fin 128) (h : Fin 8) :
    cL (F := Ideal) q kf vf (ix2 r h) = (headSt (qHead q h) kf vf h 2).l (ix2 r 0) := by
  rw [ix2_eq_valueIdx r 0]; rfl

/-- The chunks of a device. -/
def ownChunks (c : Fin 4) : Finset (Fin 4 × Fin 2) := {(c, 0), (c, 1)}

/-- What a state holds at row `r`, head `h` and column `d` is the triple of the keys of the chunks `G`. -/
def Holds (s : Key → ℝ) (w : Key → EReal) (G : Finset (Fin 4 × Fin 2)) (st : RSt Ideal) (r : Fin 128) (h : Fin 8) (d : Fin 128) : Prop :=
  Soft s w (keysOf G) (st.m (ix2 r h)) (st.l (ix2 r h)) (st.a (ix2 r (colOf h d)))

theorem pass_soft (c : Dev nD) (b : Fin 4) (r : Fin 128) (h : Fin 8) (d : Fin 128) (s : Key → ℝ)
    (hs : ∀ j, score In (rowAt b r) h j = (s j : EReal)) :
    Holds s (value In h d) (ownChunks c) (passSt (In c) b) r h d := by
  unfold Holds passSt blkM blkL blkA
  simp only [cA_apply, cM_apply, cL_apply]
  exact head_soft _ _ _ h c s _ r d (fun n t => (scores_apply c b h r n t).trans (hs _)) fun n t => rfl

/-! ## The ring -/

theorem merge_soft (own got : RSt Ideal) (s : Key → ℝ) (w : Key → EReal) (G H : Finset (Fin 4 × Fin 2)) (r : Fin 128) (h : Fin 8)
    (d : Fin 128) (ho : Holds s w G own r h d) (hg : Holds s w H got r h d) (hd : Disjoint G H) (hH : H.Nonempty) :
    Holds s w (G ∪ H) (mergeSt own got) r h d := by
  unfold Holds mergeSt
  simp only [gMax_apply, gSum_apply, gAcc_apply, keysOf_union]
  exact Soft.merge ho hg (keysOf_disjoint hd) (keysOf_nonempty hH)

/-- The chunks whose keys a device's block has met after `t` steps: its own and those of `t` devices on its left. -/
def met : ℕ → Fin 4 → Finset (Fin 4 × Fin 2)
  | 0, c => ownChunks c
  | t + 1, c => ownChunks c ∪ met t (prv c)

theorem met_disjoint : ∀ (t : Fin 3) (c : Fin 4), Disjoint (ownChunks c) (met t.val (prv c)) := by decide
theorem met_nonempty : ∀ (t : Fin 3) (c : Fin 4), (met t.val (prv c)).Nonempty := by decide
theorem met_all : ∀ c : Fin 4, met 3 c = Finset.univ := by decide
theorem sB_prv : ∀ (t : Fin 3) (c : Fin 4), sB (prv c) t.val = sB c (t.val + 1) := by decide

/-- After `t` steps a device's state of the block it sends is the triple of the keys met. -/
theorem ring_soft (s : Key → ℝ) (r : Fin 128) (h : Fin 8) (d : Fin 128) (b : Fin 4)
    (hs : ∀ j, score In (rowAt b r) h j = (s j : EReal)) :
    ∀ (t : ℕ) (c : Dev nD), t ≤ 3 → sB c t = b → Holds s (value In h d) (met t c) (ringSt In t c) r h d
  | 0, c, _, hb => by subst hb; exact pass_soft c _ r h d s hs
  | t + 1, c, ht, hb => by
    have hprev := ring_soft s r h d b hs t (prv c) (by omega) ((sB_prv ⟨t, by omega⟩ c).trans hb)
    subst hb
    exact merge_soft _ _ s _ _ _ r h d (pass_soft c _ r h d s hs) hprev (met_disjoint ⟨t, by omega⟩ c) (met_nonempty ⟨t, by omega⟩ c)

/-! ## The output -/

/-- A device's merged block, scaled by the reciprocal of its sums of weights, is the average over all keys. -/
theorem merged_average (hIn : RealScores In) (c : Dev nD) (r : Fin 128) (h : Fin 8) (d : Fin 128) :
    (ringSt In 3 c).a (ix2 r (colOf h d)) * Ideal.div 1 ((ringSt In 3 c).l (ix2 r h))
      = average (score In (rowAt (sB c 3) r) h) (value In h d) := by
  choose s hs using hIn (rowAt (sB c 3) r) h
  have H := ring_soft s r h d (sB c 3) hs 3 c (le_refl 3) rfl
  unfold Holds at H
  rw [met_all] at H
  have hu : keysOf Finset.univ = (Finset.univ : Finset Key) := Finset.univ_product_univ
  rw [hu] at H
  rw [H.scale Finset.univ_nonempty]
  obtain ⟨hm, hl, ha⟩ := H
  rw [hl, ha, hm]
  rw [show score In (rowAt (sB c 3) r) h = fun j => (s j : EReal) from funext hs]
  unfold average wsum top
  simp only [mul_one]

theorem outB_apply (hIn : RealScores In) (c : Dev nD) (r : Fin 128) (col : Fin 1024) :
    outB In c (ix2 r col)
      = ∑ k : Fin 1024, average (score In (rowAt (sB c 3) r) ⟨k.val / 128, by omega⟩)
          (value In ⟨k.val / 128, by omega⟩ ⟨k.val % 128, by omega⟩) * (In c).wo (ix2 k col) := by
  unfold outB
  rw [outRows_apply]
  refine Finset.sum_congr rfl fun k _ => ?_
  congr 1
  have e : k = colOf ⟨k.val / 128, by omega⟩ ⟨k.val % 128, by omega⟩ := Fin.ext (Nat.div_add_mod _ _).symm
  have H := merged_average hIn c r ⟨k.val / 128, by omega⟩ ⟨k.val % 128, by omega⟩
  rw [← e] at H
  exact H

theorem sB_block : ∀ b : Fin 4, sB (⟨(b.val + 3) % 4, Nat.mod_lt _ (by decide)⟩ : Dev nD) 3 = b := by decide

/-- The kernel's output at row `i`. -/
theorem outAll_apply (hIn : RealScores In) (i : Fin 512) (col : Fin 1024) (hwo : ∀ c c', (In c).wo = (In c').wo) :
    outAll In (ix2 i col)
      = ∑ k : Fin 1024, average (score In i ⟨k.val / 128, by omega⟩)
          (value In ⟨k.val / 128, by omega⟩ ⟨k.val % 128, by omega⟩) * (In 0).wo (ix2 k col) := by
  have hi : i.val / 128 < 4 := by omega
  have e : outAll In (ix2 i col)
      = outB In (⟨(i.val / 128 + 3) % 4, Nat.mod_lt _ (by decide)⟩ : Dev nD) (ix2 ⟨i.val % 128, by omega⟩ col) := by
    rw [ix2_eq_valueIdx ⟨i.val % 128, _⟩]; rfl
  rw [e, outB_apply hIn]
  have hr : rowAt (⟨i.val / 128, hi⟩ : Fin 4) ⟨i.val % 128, by omega⟩ = i := Fin.ext (Nat.div_add_mod _ _)
  rw [sB_block ⟨i.val / 128, hi⟩, hr, hwo _ 0]

end Cert.KernelIdeal.Ring

end
-- ==== Proof.RefVal.lean ====
/-
  What the reference computes, over the extended reals: its result at an index is the row's softmax average of the
  values over all 8192 keys, projected (`refOut_apply`).
-/
module

public import proofs.«01_k».proof.Proof.RingSoft
public import proofs.«01_k».proof.Proof.Gen.ReferenceIdeal

@[expose] public section

noncomputable section

namespace Cert.ReferenceIdeal.Attn

open Idealize.ShloMosaic Cert.ReferenceIdeal Cert.ReferenceIdeal.Facts₀
open Cert.KernelIdeal.Ring (average colOf scale bits_bot)
open scoped BigOperators

/-- The scores of every head, query row and key. -/
def refS (x : FVec Ideal S512x1024 .f32) (wq : FVec Ideal S1024x1024 .f32) (k : FVec Ideal S8192x8x128 .f32) : FVec Ideal S8x512x8192 .f32 :=
  Host.divf (Host.dotGeneral dot_S512x8x128_S8192x8x128_S8x512x8192_2_2_0_0_1_1 none
      (shapeCast _ (Host.dotGeneral dot_S512x1024_S1024x1024_S512x1024_1_0_0_1_n_n none x wq) shapeCasts_S512x1024_S512x8x128) k)
    (broadcastInDim S8x512x8192 ![] bcast_S_S8x512x8192 (Host.sqrt (constant S_ .f32 0x43000000#32)))

/-- The weights below the row's greatest score. -/
def refP (s : FVec Ideal S8x512x8192 .f32) : FVec Ideal S8x512x8192 .f32 :=
  Host.exp (subf s (broadcastInDim S8x512x8192 ![0, 1, 2] bcast_S8x512x1_S8x512x8192_0_1_2
    (broadcastInDim S8x512x1 ![0, 1] bcast_S8x512_S8x512x1_0_1
      (Host.reduce FloatOps.maximumf s (constant S_ .f32 0xFF800000#32) reducesTo_S8x512x8192_S8x512_d2 h_S_))))

/-- The averages of the values, heads side by side. -/
def refO (p : FVec Ideal S8x512x8192 .f32) (v : FVec Ideal S8192x8x128 .f32) : FVec Ideal S512x1024 .f32 :=
  shapeCast _ (Host.divf
      (transpose S512x8x128 [2, 0, 1] (Host.dotGeneral dot_S8192x8x128_S8x512x8192_S8x128x512_0_2_2_1_1_0 none v p)
        transposes_S8x128x512_S512x8x128_2_0_1)
      (broadcastInDim S512x8x128 ![0, 1, 2] bcast_S512x8x1_S512x8x128_0_1_2
        (transpose S512x8x1 [1, 0, 2] (broadcastInDim S8x512x1 ![0, 1] bcast_S8x512_S8x512x1_0_1
          (Host.reduceAdd p (constant S_ .f32 0x00000000#32) reducesTo_S8x512x8192_S8x512_d2 h_S_))
          transposes_S8x512x1_S512x8x1_1_0_2)))
    shapeCasts_S512x8x128_S512x1024

/-- The reference's result. -/
def refOut (x : FVec Ideal S512x1024 .f32) (wq : FVec Ideal S1024x1024 .f32) (k v : FVec Ideal S8192x8x128 .f32)
    (wo : FVec Ideal S1024x1024 .f32) : FVec Ideal S512x1024 .f32 :=
  Host.dotGeneral dot_S512x1024_S1024x1024_S512x1024_1_0_0_1_n_n none (refO (refP (refS x wq k)) v) wo

/-- The reference divides by the root of 128: that is the product with the scale. -/
theorem div_root (y : EReal) : Ideal.div y (Ideal.sqrt (Ideal.ofBits .f32 0x43000000#32)) = y * scale := by
  have h : Ideal.ofBits .f32 0x43000000#32 = ((128 : ℝ) : EReal) := by
    simp [Ideal.ofBits, Ideal.ieee, -EReal.coe_mul]; norm_num
  rw [h, Ideal.sqrt_coe, if_neg (by norm_num), Ideal.div_coe (Real.sqrt_pos.mpr (by norm_num)).ne', one_div]
  rfl

theorem refS_apply (x : FVec Ideal S512x1024 .f32) (wq : FVec Ideal S1024x1024 .f32) (k : FVec Ideal S8192x8x128 .f32)
    (h : Fin 8) (i : Fin 512) (j : Fin 8192) :
    refS x wq k (ix3 h i j)
      = (∑ d : Fin 128, (∑ e : Fin 1024, x (ix2 i e) * wq (ix2 e (colOf h d))) * k (ix3 j h d)) * scale := by
  pointwise [refS]
  rw [div_root]
  have e : ∀ (d : Fin 128) (hlt : h.val * 128 + d.val < 1024), (⟨h.val * 128 + d.val, hlt⟩ : Fin 1024) = colOf h d :=
    fun d _ => Fin.ext (by show h.val * 128 + d.val = 128 * h.val + d.val; omega)
  simp only [e]

theorem refP_apply (s : FVec Ideal S8x512x8192 .f32) (h : Fin 8) (i : Fin 512) (j : Fin 8192) :
    refP s (ix3 h i j) = Ideal.exp (s (ix3 h i j) - Finset.univ.sup fun j' : Fin 8192 => s (ix3 h i j')) := by
  pointwise [refP]
  rw [bits_bot]; rfl

theorem refO_apply (p : FVec Ideal S8x512x8192 .f32) (v : FVec Ideal S8192x8x128 .f32) (i : Fin 512) (h : Fin 8) (d : Fin 128) :
    refO p v (ix2 i (colOf h d)) = Ideal.div (∑ j : Fin 8192, p (ix3 h i j) * v (ix3 j h d)) (∑ j : Fin 8192, p (ix3 h i j)) := by
  pointwise [refO]
  have e : ∀ hlt, (⟨(128 * h.val + d.val) / 128, hlt⟩ : Fin 8) = h := fun _ => Fin.ext (by show (128 * h.val + d.val) / 128 = h.val; omega)
  have e' : ∀ hlt, (⟨(128 * h.val + d.val) % 128, hlt⟩ : Fin 128) = d := fun _ => Fin.ext (by show (128 * h.val + d.val) % 128 = d.val; omega)
  simp only [e, e']
  have hc : ∀ j : Fin 8192, v (ix3 j h d) * p (ix3 h i j) = p (ix3 h i j) * v (ix3 j h d) := fun j => mul_comm _ _
  simp only [hc]

theorem refOut_apply (x : FVec Ideal S512x1024 .f32) (wq : FVec Ideal S1024x1024 .f32) (k v : FVec Ideal S8192x8x128 .f32)
    (wo : FVec Ideal S1024x1024 .f32) (i : Fin 512) (c : Fin 1024) :
    refOut x wq k v wo (ix2 i c)
      = ∑ e : Fin 1024, average (fun j : Fin 8192 => refS x wq k (ix3 ⟨e.val / 128, by omega⟩ i j))
          (fun j => v (ix3 j ⟨e.val / 128, by omega⟩ ⟨e.val % 128, by omega⟩)) * wo (ix2 e c) := by
  pointwise [refOut]
  refine Finset.sum_congr rfl fun e _ => congrArg (· * wo (ix2 e c)) ?_
  have he : e = colOf ⟨e.val / 128, by omega⟩ ⟨e.val % 128, by omega⟩ := Fin.ext (Nat.div_add_mod _ _).symm
  have H := refO_apply (refP (refS x wq k)) v i ⟨e.val / 128, by omega⟩ ⟨e.val % 128, by omega⟩
  rw [← he] at H
  rw [H]
  simp only [refP_apply]
  rfl

end Cert.ReferenceIdeal.Attn

end
-- ==== Proof.Equal.lean ====
/-
  The kernel's output is the reference's result, wherever the queries' rows, their projection and the keys are finite
  (`outAll_eq_refOut`): the keys of four devices, two chunks each, are the 8192 keys in order.
-/
module

public import proofs.«01_k».proof.Proof.RefVal
public import Idealize.ShloMosaic.Lib.Layout

@[expose] public section

noncomputable section

namespace Cert.Equal

open Idealize.ShloMosaic Cert.KernelIdeal.Ring Cert.ReferenceIdeal.Attn Cert.Soft
open scoped BigOperators

/-! ## Keys -/

/-- A key's number among all. -/
def number (j : Key) : Fin 8192 :=
  ⟨2048 * j.1.1.val + (1024 * j.1.2.val + j.2.val), by have := j.1.1.isLt; have := j.1.2.isLt; have := j.2.isLt; omega⟩

/-- Numbering is one to one. -/
def numberEquiv : Key ≃ Fin 8192 where
  toFun := number
  invFun n := ((⟨n.val / 2048, by omega⟩, ⟨n.val % 2048 / 1024, by omega⟩), ⟨n.val % 1024, by omega⟩)
  left_inv := fun ⟨⟨c, n⟩, t⟩ => by
    refine Prod.ext (Prod.ext (Fin.ext ?_) (Fin.ext ?_)) (Fin.ext ?_)
    · show (2048 * c.val + (1024 * n.val + t.val)) / 2048 = c.val; omega
    · show (2048 * c.val + (1024 * n.val + t.val)) % 2048 / 1024 = n.val; omega
    · show (2048 * c.val + (1024 * n.val + t.val)) % 1024 = t.val; omega
  right_inv := fun n => Fin.ext (by
    show 2048 * (n.val / 2048) + (1024 * (n.val % 2048 / 1024) + n.val % 1024) = n.val; omega)

/-- An average does not depend on how the keys are named. -/
theorem average_equiv {J J' : Type} [Fintype J] [Fintype J'] (e : J ≃ J') (s v : J' → EReal) :
    average (fun j => s (e j)) (fun j => v (e j)) = average s v := by
  have hsup : (Finset.univ.sup fun j => s (e j)) = Finset.univ.sup s := by
    rw [Finset.sup_univ_eq_iSup, Finset.sup_univ_eq_iSup]
    exact Equiv.iSup_comp e
  unfold average
  rw [hsup, e.sum_comp fun j => Ideal.exp (s j - Finset.univ.sup s) * v j, e.sum_comp fun j => Ideal.exp (s j - Finset.univ.sup s)]

/-! ## Blocks -/

/-- Device `c`'s block of the keys or values. -/
abbrev part (c : Fin 4) (a : FVec Ideal ⟨3, ![8192, 8, 128]⟩ .f32) : FVec Ideal ⟨3, ![2048, 8, 128]⟩ .f32 :=
  Layout.block ⟨3, ![2048, 8, 128]⟩ ⟨3, ![8192, 8, 128]⟩ 0 4 c a

theorem part_apply (a : FVec Ideal ⟨3, ![8192, 8, 128]⟩ .f32) (j : Key) (h : Fin 8) (d : Fin 128) :
    part j.1.1 a (ix3 (rowIn j) h d) = a (ix3 (number j) h d) := by
  refine congrArg a (funext fun b => Fin.ext ?_)
  fin_cases b
  · show j.1.1.val * 2048 + (1024 * j.1.2.val + j.2.val) = 2048 * j.1.1.val + (1024 * j.1.2.val + j.2.val)
    rw [mul_comm]
  · rfl
  · rfl

/-- The devices' inputs, of whole arrays. -/
def inputs (x : FVec Ideal ⟨2, ![512, 1024]⟩ .f32) (wq wo : FVec Ideal ⟨2, ![1024, 1024]⟩ .f32)
    (k v : FVec Ideal ⟨3, ![8192, 8, 128]⟩ .f32) (c : Fin 4) : Ins Ideal := ⟨x, wq, wo, part c k, part c v⟩

variable (x : FVec Ideal ⟨2, ![512, 1024]⟩ .f32) (wq wo : FVec Ideal ⟨2, ![1024, 1024]⟩ .f32)
  (k v : FVec Ideal ⟨3, ![8192, 8, 128]⟩ .f32)

theorem score_eq (i : Fin 512) (h : Fin 8) (j : Key) :
    score (inputs x wq wo k v) i h j = refS x wq k (ix3 h i (number j)) := by
  rw [refS_apply]
  unfold score inputs
  simp only [part_apply]

theorem value_eq (h : Fin 8) (d : Fin 128) (j : Key) : value (inputs x wq wo k v) h d j = v (ix3 (number j) h d) :=
  part_apply v j h d

/-- Finite queries and keys have real scores. -/
theorem real_scores (hx : ∀ i, IsReal (x i)) (hwq : ∀ i, IsReal (wq i)) (hk : ∀ c i, IsReal (part c k i)) :
    RealScores (inputs x wq wo k v) := fun i h j =>
  (IsReal.sum _ _ fun d => (IsReal.sum _ _ fun e => (hx _).mul (hwq _)).mul (hk _ _)).mul real_scale

/-- The kernel's output is the reference's result. -/
theorem outAll_eq_refOut (hx : ∀ i, IsReal (x i)) (hwq : ∀ i, IsReal (wq i)) (hk : ∀ c i, IsReal (part c k i)) :
    outAll (F := Ideal) (inputs x wq wo k v) = refOut x wq k v wo := funext fun o => by
  obtain ⟨i, c, rfl⟩ : ∃ i c, o = ix2 (n0 := 512) (n1 := 1024) i c := ⟨o 0, o 1, eq_ix2 o⟩
  rw [outAll_apply (real_scores x wq wo k v hx hwq hk) i c (fun _ _ => rfl), refOut_apply]
  refine Finset.sum_congr rfl fun e _ => congrArg (· * wo (ix2 e c)) ?_
  rw [← average_equiv numberEquiv]
  exact congrArg₂ average (funext fun j => score_eq x wq wo k v _ _ j) (funext fun j => value_eq x wq wo k v _ _ j)

end Cert.Equal

end
-- ==== Proof.Finite.lean ====
/-
  What the precondition says: every element of the queries' rows, of their projection and of a device's keys is a real.
-/
module

public import proofs.«01_k».proof.Pre_finite_queries_and_keys_KernelIdeal
public import proofs.«01_k».proof.Pre_finite_queries_and_keys_ReferenceIdeal
public import proofs.«01_k».proof.Proof.HeadVal

@[expose] public section

noncomputable section

namespace Cert.Finite

open Idealize.ShloMosaic Cert.Soft
open Cert.KernelIdeal.Ring (bits_top)

instance factsKernel : Cert.Pre_finite_queries_and_keys_KernelIdeal.Facts := ⟨by decide, by decide, by decide⟩
instance factsReference : Cert.Pre_finite_queries_and_keys_ReferenceIdeal.Facts := ⟨by decide, by decide, by decide⟩

/-- An element whose magnitude is below infinity is a real. -/
theorem real_of_below (a : EReal) (h : Ideal.cmp .olt (max a (-a)) ⊤ = 1#1) : IsReal a := by
  have hlt : max a (-a) < ⊤ := by
    by_contra hn
    simp [Ideal.cmp, hn] at h
  refine isReal_of_ne (fun e => ?_) (fun e => ?_) <;> subst e <;> simp at hlt

variable (x : FVec Ideal ⟨2, ![512, 1024]⟩ .f32) (wq wo : FVec Ideal ⟨2, ![1024, 1024]⟩ .f32)
  (k v : FVec Ideal ⟨3, ![2048, 8, 128]⟩ .f32)

/-- So the masks say, of each of the three inputs. -/
theorem real_queries (h : (Cert.Pre_finite_queries_and_keys_KernelIdeal.fn (F := Ideal) x wq k v wo).1 = fun _ => 1#1) (i) :
    IsReal (x i) := by
  refine real_of_below _ ?_
  have := congrFun h i
  rw [← bits_top]
  exact this

theorem real_projection (h : (Cert.Pre_finite_queries_and_keys_KernelIdeal.fn (F := Ideal) x wq k v wo).2.1 = fun _ => 1#1) (i) :
    IsReal (wq i) := by
  refine real_of_below _ ?_
  have := congrFun h i
  rw [← bits_top]
  exact this

theorem real_keys (h : (Cert.Pre_finite_queries_and_keys_KernelIdeal.fn (F := Ideal) x wq k v wo).2.2 = fun _ => 1#1) (i) :
    IsReal (k i) := by
  refine real_of_below _ ?_
  have := congrFun h i
  rw [← bits_top]
  exact this

end Cert.Finite

end
-- ==== Proof.lean ====
/-
  The claims about the attention kernel on four devices.
-/
module

public import proofs.«01_k».proof.Defs
public import proofs.«01_k».proof.Proof.Same
public import proofs.«01_k».proof.Proof.Equal
public import proofs.«01_k».proof.Proof.Finite
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

local instance : Cert.Kernel.Facts := Cert.Kernel.Gen.facts
local instance : Cert.KernelIdeal.Facts := Cert.KernelIdeal.Gen.facts
local instance : Cert.ReferenceIdeal.Facts := Cert.ReferenceIdeal.Gen.facts

/-- The kernel runs, keeps its arguments and leaves every counter at zero. Its program is the idealized one's, read
    over bits with the literal for the named scale, so the run proved for every reading of the floats is its run. -/
theorem frame_Kernel : Cert.quiescent_Kernel := fun m g _ => by
  unfold Cert.Kernel.τ
  rw [Cert.KernelIdeal.Ring.run_same]
  exact θ_run_mono (@Cert.KernelIdeal.Ring.run_main Bits _ Cert.KernelIdeal.Ring.literal m g) fun _ h => And.intro (fun c => (h.1 c).2) h.2

theorem frame_KernelIdeal : Cert.quiescent_KernelIdeal := fun m g _ =>
  θ_run_mono (Cert.KernelIdeal.Ring.run_main (F := Ideal) m g) fun _ h => ⟨fun c => (h.1 c).2, h.2⟩

theorem frame_ReferenceIdeal : Cert.quiescent_ReferenceIdeal := fun m g _ =>
  θ_run_mono (Cert.ReferenceIdeal.Value.run (F := Ideal) m g) fun r h =>
    ⟨fun c => (h c).2, funext fun ⟨_, x⟩ => by rcases x with ⟨_, i, _⟩ | i <;> exact i.elim0⟩

/-- The same of memories that satisfy the precondition. -/
theorem frame_KernelIdeal_finite : Cert.quiescent_KernelIdeal_pre_finite_queries_and_keys_KernelIdeal := fun m g _ =>
  frame_KernelIdeal m g trivial

theorem frame_ReferenceIdeal_finite : Cert.quiescent_ReferenceIdeal_pre_finite_queries_and_keys_ReferenceIdeal := fun m g _ =>
  frame_ReferenceIdeal m g trivial

/-- Where each device holds the whole queries and projections and its own block of the keys and values, and the
    precondition holds, what the kernel computes is the reference's result of the whole arrays. -/
theorem out_eq (m : (ℓ : Loc Cert.KernelIdeal.nD Cert.KernelIdeal.τ Cert.KernelIdeal.sig) → Buf (Elt Ideal) ℓ)
    (x : FVec Ideal ⟨2, ![512, 1024]⟩ .f32) (wq wo : FVec Ideal ⟨2, ![1024, 1024]⟩ .f32) (k v : FVec Ideal ⟨3, ![8192, 8, 128]⟩ .f32)
    (hp : Cert.Pre_KernelIdeal_finite_queries_and_keys_KernelIdeal m)
    (hm : ∀ c : Dev Cert.KernelIdeal.nD,
      m ((c.tc : Thread Cert.KernelIdeal.nD Cert.KernelIdeal.τ).loc Cert.KernelIdeal.main_arg0) = x
      ∧ m ((c.tc : Thread Cert.KernelIdeal.nD Cert.KernelIdeal.τ).loc Cert.KernelIdeal.main_arg1) = wq
      ∧ m ((c.tc : Thread Cert.KernelIdeal.nD Cert.KernelIdeal.τ).loc Cert.KernelIdeal.main_arg2) = Cert.Equal.part c k
      ∧ m ((c.tc : Thread Cert.KernelIdeal.nD Cert.KernelIdeal.τ).loc Cert.KernelIdeal.main_arg3) = Cert.Equal.part c v
      ∧ m ((c.tc : Thread Cert.KernelIdeal.nD Cert.KernelIdeal.τ).loc Cert.KernelIdeal.main_arg4) = wo) :
    Cert.KernelIdeal.Ring.outAll (F := Ideal) (Cert.KernelIdeal.Ring.args (F := Ideal) m)
      = Cert.ReferenceIdeal.Attn.refOut x wq k v wo := by
  have hargs : Cert.KernelIdeal.Ring.args (F := Ideal) m = Cert.Equal.inputs x wq wo k v := by
    funext c
    obtain ⟨h0, h1, h2, h3, h4⟩ := hm c
    subst h0 h1 h4
    exact congrArg₂ (Cert.KernelIdeal.Ring.Ins.mk _ _ _) h2 h3
  rw [hargs]
  obtain ⟨h0, h1, -, -, -⟩ := hm 0
  have hx := Cert.Finite.real_queries _ _ _ _ _ (hp 0).1
  have hwq := Cert.Finite.real_projection _ _ _ _ _ (hp 0).2.1
  rw [h0] at hx
  rw [h1] at hwq
  refine Cert.Equal.outAll_eq_refOut x wq wo k v hx hwq fun c => ?_
  have hk := Cert.Finite.real_keys _ _ _ _ _ (hp c).2.2
  rw [(hm c).2.2.1] at hk
  exact hk

/-- From memories that hold the same arrays, the keys and values in blocks, with finite queries, projection and keys:
    every device's output is the reference's result. -/
theorem same_results : Cert.algebraic_KernelIdeal_ReferenceIdeal_pre_finite_queries_and_keys_KernelIdeal := by
  intro m g m' g' hp hm
  refine ⟨Cert.KernelIdeal.Ring.outAll (F := Ideal) (Cert.KernelIdeal.Ring.args (F := Ideal) m), ?_, ?_⟩
  · exact θ_run_mono (Cert.KernelIdeal.Ring.run_main (F := Ideal) m g) fun r h => h.1
  · refine θ_run_mono (Cert.ReferenceIdeal.Value.run (F := Ideal) m' g') fun r h => ⟨(h 0).1.trans ?_, (h 0).2⟩
    exact (out_eq m _ _ _ _ _ hp hm).symm

/-- The one constant that is named has in the idealized kernel the value of its name, the inverse root of 128. -/
theorem preserves : Cert.preserves_Kernel_KernelIdeal :=
  IdealRules.named_const.statement Cert.KernelIdeal.κ "scale" .f32 0x3DB504F3#32 (((Real.sqrt 128)⁻¹ : ℝ) : EReal) rfl

theorem claim : Cert.Claim := ⟨Cert.Kernel.Gen.facts, Cert.KernelIdeal.Gen.facts, Cert.ReferenceIdeal.Gen.facts,
  Cert.Finite.factsKernel, Cert.Finite.factsReference, frame_Kernel, frame_KernelIdeal, frame_KernelIdeal_finite,
  frame_ReferenceIdeal, frame_ReferenceIdeal_finite, preserves, same_results⟩

end Cert.Proof

end
